-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4)
      ∧ r.2.mem ((c.tc : Thread Cert.GatesReferenceIdeal.nD Cert.GatesReferenceIdeal.τ).loc Cert.GatesReferenceIdeal.main_arg5) = m ((c.tc : Thread Cert.GatesReferenceIdeal.nD Cert.GatesReferenceIdeal.τ).loc Cert.GatesReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v34) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v21)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v21) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v44) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)
      ∧ m' ((c.tc : Thread Cert.GatesReferenceIdeal.nD Cert.GatesReferenceIdeal.τ).loc Cert.GatesReferenceIdeal.main_arg4) = m ((c.tc : Thread Cert.GatesIdeal.nD Cert.GatesIdeal.τ).loc Cert.GatesIdeal.main_arg4)
      ∧ m' ((c.tc : Thread Cert.GatesReferenceIdeal.nD Cert.GatesReferenceIdeal.τ).loc Cert.GatesReferenceIdeal.main_arg5) = m ((c.tc : Thread Cert.GatesIdeal.nD Cert.GatesIdeal.τ).loc Cert.GatesIdeal.main_arg5)) →
    ∃ (v0 : (c : Dev Cert.GatesIdeal.nD) → Buf (Elt Ideal) ((c.tc : Thread Cert.GatesIdeal.nD Cert.GatesIdeal.τ).loc Cert.GatesIdeal.main_v100_9)) (v1 : (c : Dev Cert.GatesIdeal.nD) → Buf (Elt Ideal) ((c.tc : Thread Cert.GatesIdeal.nD Cert.GatesIdeal.τ).loc Cert.GatesIdeal.main_v100_10)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v100_9) = v0 c
          ∧ r.2.mem ((c.tc : Thread Cert.GatesIdeal.nD Cert.GatesIdeal.τ).loc Cert.GatesIdeal.main_v100_10) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v9) = v0 c
          ∧ r.2.mem ((c.tc : Thread Cert.GatesReferenceIdeal.nD Cert.GatesReferenceIdeal.τ).loc Cert.GatesReferenceIdeal.main_v16) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4)
          ∧ r.2.mem ((c.tc : Thread Cert.GatesReferenceIdeal.nD Cert.GatesReferenceIdeal.τ).loc Cert.GatesReferenceIdeal.main_arg5) = m' ((c.tc : Thread Cert.GatesReferenceIdeal.nD Cert.GatesReferenceIdeal.τ).loc Cert.GatesReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hGates : Cert.Gates.Facts) (hGatesIdeal : Cert.GatesIdeal.Facts) (hGatesReferenceIdeal : Cert.GatesReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Gates (hGates := hGates)
    ∧ quiescent_GatesIdeal (hGatesIdeal := hGatesIdeal)
    ∧ quiescent_GatesReferenceIdeal (hGatesReferenceIdeal := hGatesReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Gates_GatesIdeal
    ∧ algebraic_GatesIdeal_GatesReferenceIdeal (hGatesIdeal := hGatesIdeal) (hGatesReferenceIdeal := hGatesReferenceIdeal)
-- ==== Pre_finite.lean ====
abbrev S4x8320x8x64 : Shape := ⟨4, ![4, 8320, 8, 64]⟩
abbrev S4x8320x8x32 : Shape := ⟨4, ![4, 8320, 8, 32]⟩
abbrev S4x8320x32 : Shape := ⟨3, ![4, 8320, 32]⟩
abbrev S_ : Shape := ⟨0, ![]⟩

class Facts : Prop where
  bcast_S_S4x8320x8x64 : S_.BroadcastsInDim S4x8320x8x64 (![] : Fin 0 → Fin S4x8320x8x64.rank)
  reducesTo_S4x8320x8x64_S_d0_1_2_3 : S4x8320x8x64.ReducesTo [0, 1, 2, 3] S_
  h_S_ : 0 < S_.numel
  bcast_S_S4x8320x8x32 : S_.BroadcastsInDim S4x8320x8x32 (![] : Fin 0 → Fin S4x8320x8x32.rank)
  reducesTo_S4x8320x8x32_S_d0_1_2_3 : S4x8320x8x32.ReducesTo [0, 1, 2, 3] S_
  bcast_S_S4x8320x32 : S_.BroadcastsInDim S4x8320x32 (![] : Fin 0 → Fin S4x8320x32.rank)
  reducesTo_S4x8320x32_S_d0_1_2 : S4x8320x32.ReducesTo [0, 1, 2] S_

variable [Facts]

def fn_part1 {F : FTy → Type} [FloatOps F] (main_v13 : IVec S_ 1) (main_v16 : IVec S4x8320x32 1) : IVec S_ 1 :=
  let main_c_5 : IVec S_ 1 := constantI S_ 1 1#1
  let main_v17 : IVec S_ 1 := (fun x v => Host.reduce IntOp.andi x v reducesTo_S4x8320x32_S_d0_1_2 h_S_) main_v16 main_c_5
  let main_v18 : IVec S_ 1 := andi main_v13 main_v17
  main_v18

def fn {F : FTy → Type} [FloatOps F] (main_arg0 : FVec F S4x8320x8x64 .f32) (main_arg1 : FVec F S4x8320x8x32 .f32) (main_arg2 : FVec F S4x8320x8x64 .f32) (main_arg3 : FVec F S4x8320x32 .f32) (main_arg4 : FVec F S4x8320x8x64 .f32) : IVec S_ 1 :=
  let main_v0 : FVec F S4x8320x8x64 .f32 := Host.absf main_arg0
  let main_cst : FVec F S_ .f32 := constant S_ .f32 0x7F800000#32
  let main_v1 : FVec F S4x8320x8x64 .f32 := broadcastInDim S4x8320x8x64 ![] bcast_S_S4x8320x8x64 main_cst
  let main_v2 : IVec S4x8320x8x64 1 := cmpf .olt main_v0 main_v1
  let main_c : IVec S_ 1 := constantI S_ 1 1#1
  let main_v3 : IVec S_ 1 := (fun x v => Host.reduce IntOp.andi x v reducesTo_S4x8320x8x64_S_d0_1_2_3 h_S_) main_v2 main_c
  let main_v4 : FVec F S4x8320x8x32 .f32 := Host.absf main_arg1
  let main_cst_0 : FVec F S_ .f32 := constant S_ .f32 0x7F800000#32
  let main_v5 : FVec F S4x8320x8x32 .f32 := broadcastInDim S4x8320x8x32 ![] bcast_S_S4x8320x8x32 main_cst_0
  let main_v6 : IVec S4x8320x8x32 1 := cmpf .olt main_v4 main_v5
  let main_c_1 : IVec S_ 1 := constantI S_ 1 1#1
  let main_v7 : IVec S_ 1 := (fun x v => Host.reduce IntOp.andi x v reducesTo_S4x8320x8x32_S_d0_1_2_3 h_S_) main_v6 main_c_1
  let main_v8 : IVec S_ 1 := andi main_v3 main_v7
  let main_v9 : FVec F S4x8320x8x64 .f32 := Host.absf main_arg2
  let main_cst_2 : FVec F S_ .f32 := constant S_ .f32 0x7F800000#32
  let main_v10 : FVec F S4x8320x8x64 .f32 := broadcastInDim S4x8320x8x64 ![] bcast_S_S4x8320x8x64 main_cst_2
  let main_v11 : IVec S4x8320x8x64 1 := cmpf .olt main_v9 main_v10
  let main_c_3 : IVec S_ 1 := constantI S_ 1 1#1
  let main_v12 : IVec S_ 1 := (fun x v => Host.reduce IntOp.andi x v reducesTo_S4x8320x8x64_S_d0_1_2_3 h_S_) main_v11 main_c_3
  let main_v13 : IVec S_ 1 := andi main_v8 main_v12
  let main_v14 : FVec F S4x8320x32 .f32 := Host.absf main_arg3
  let main_cst_4 : FVec F S_ .f32 := constant S_ .f32 0x7F800000#32
  let main_v15 : FVec F S4x8320x32 .f32 := broadcastInDim S4x8320x32 ![] bcast_S_S4x8320x32 main_cst_4
  let main_v16 : IVec S4x8320x32 1 := cmpf .olt main_v14 main_v15
  fn_part1 (F := F) main_v13 main_v16
-- ==== Kernel.lean ====
abbrev S4x8320x8x64 : Shape := ⟨4, ![4, 8320, 8, 64]⟩
abbrev S4x8320x8x32 : Shape := ⟨4, ![4, 8320, 8, 32]⟩
abbrev S4x8320x32 : Shape := ⟨3, ![4, 8320, 32]⟩
abbrev S_ : Shape := ⟨0, ![]⟩
abbrev S4x8320x8x128 : Shape := ⟨4, ![4, 8320, 8, 128]⟩
abbrev S4x8320x1024 : Shape := ⟨3, ![4, 8320, 1024]⟩
abbrev S4x8320x1x32 : Shape := ⟨4, ![4, 8320, 1, 32]⟩
abbrev S4x8x8320x128 : Shape := ⟨4, ![4, 8, 8320, 128]⟩
abbrev S4x8320x8x1 : Shape := ⟨4, ![4, 8320, 8, 1]⟩
abbrev S4x8320x8x63 : Shape := ⟨4, ![4, 8320, 8, 63]⟩
abbrev S4x13x640x8x128 : Shape := ⟨5, ![4, 13, 640, 8, 128]⟩
abbrev S4x8x13x128x640 : Shape := ⟨5, ![4, 8, 13, 128, 640]⟩
abbrev S33280x512 : Shape := ⟨2, ![33280, 512]⟩
abbrev S1x640x512 : Shape := ⟨3, ![1, 640, 512]⟩
abbrev S1x4x8320x128 : Shape := ⟨4, ![1, 4, 8320, 128]⟩
abbrev S1x4x13x128x640 : Shape := ⟨5, ![1, 4, 13, 128, 640]⟩
abbrev S640x256 : Shape := ⟨2, ![640, 256]⟩
abbrev S4x128x640 : Shape := ⟨3, ![4, 128, 640]⟩
abbrev S2x640x640 : Shape := ⟨3, ![2, 640, 640]⟩
abbrev S4x640x640 : Shape := ⟨3, ![4, 640, 640]⟩
abbrev S640x640 : Shape := ⟨2, ![640, 640]⟩
abbrev S1x640x640 : Shape := ⟨3, ![1, 640, 640]⟩
abbrev S1x640 : Shape := ⟨2, ![1, 640]⟩
abbrev S1x1x640x128 : Shape := ⟨4, ![1, 1, 640, 128]⟩
abbrev S640x128 : Shape := ⟨2, ![640, 128]⟩
abbrev S1x640x128 : Shape := ⟨3, ![1, 640, 128]⟩
abbrev S640 : Shape := ⟨1, ![640]⟩
abbrev S1x128x640 : Shape := ⟨3, ![1, 128, 640]⟩
abbrev S128x640 : Shape := ⟨2, ![128, 640]⟩
abbrev S1x1x1x128x640 : Shape := ⟨5, ![1, 1, 1, 128, 640]⟩

abbrev nBuf : Space → Nat
  | .hbm => 35
  | .vmem => 10
  | .smem => 0
  | _ => 0

abbrev bufTy : (tb : Table) → Fin (tcTables nBuf tb) → BufTy
  | .hbm, ⟨0, _⟩ => ⟨S4x8320x8x64, .f32⟩
  | .hbm, ⟨1, _⟩ => ⟨S4x8320x8x32, .f32⟩
  | .hbm, ⟨2, _⟩ => ⟨S4x8320x8x64, .f32⟩
  | .hbm, ⟨3, _⟩ => ⟨S4x8320x32, .f32⟩
  | .hbm, ⟨4, _⟩ => ⟨S4x8320x8x64, .f32⟩
  | .hbm, ⟨5, _⟩ => ⟨S_, .f32⟩
  | .hbm, ⟨6, _⟩ => ⟨S4x8320x8x32, .f32⟩
  | .hbm, ⟨7, _⟩ => ⟨S4x8320x8x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x8320x8x128, .f32⟩
  | .hbm, ⟨16, _⟩ => ⟨S4x8320x8x128, .f32⟩
  | .hbm, ⟨17, _⟩ => ⟨S4x8320x1024, .f32⟩
  | .hbm, ⟨18, _⟩ => ⟨S4x8320x1024, .bf16⟩
  | .hbm, ⟨19, _⟩ => ⟨S4x8320x1x32, .f32⟩
  | .hbm, ⟨20, _⟩ => ⟨S4x8320x8x32, .f32⟩
  | .hbm, ⟨21, _⟩ => ⟨S_, .f32⟩
  | .hbm, ⟨22, _⟩ => ⟨S4x8320x8x32, .f32⟩
  | .hbm, ⟨23, _⟩ => ⟨S4x8320x8x128, .f32⟩
  | .hbm, ⟨24, _⟩ => ⟨S4x8x8320x128, .f32⟩
  | .hbm, ⟨25, _⟩ => ⟨S4x8x8320x128, .bf16⟩
  | .hbm, ⟨26, _⟩ => ⟨S_, .f32⟩
  | .hbm, ⟨27, _⟩ => ⟨S4x8320x8x1, .f32⟩
  | .hbm, ⟨28, _⟩ => ⟨S_, .f32⟩
  | .hbm, ⟨29, _⟩ => ⟨S4x8320x8x63, .f32⟩
  | .hbm, ⟨30, _⟩ => ⟨S4x8320x8x128, .f32⟩
  | .hbm, ⟨31, _⟩ => ⟨S4x13x640x8x128, .f32⟩
  | .hbm, ⟨32, _⟩ => ⟨S4x8x13x128x640, .f32⟩
  | .hbm, ⟨33, _⟩ => ⟨S4x8x13x128x640, .bf16⟩
  | .hbm, ⟨34, _⟩ => ⟨S33280x512, .bf16⟩
  | .local _ .vmem, ⟨0, _⟩ => ⟨S1x640x512, .bf16⟩
  | .local _ .vmem, ⟨1, _⟩ => ⟨S1x640x512, .bf16⟩
  | .local _ .vmem, ⟨2, _⟩ => ⟨S1x4x8320x128, .bf16⟩
  | .local _ .vmem, ⟨3, _⟩ => ⟨S1x4x13x128x640, .bf16⟩
  | .local _ .vmem, ⟨4, _⟩ => ⟨S640x256, .bf16⟩
  | .local _ .vmem, ⟨5, _⟩ => ⟨S640x256, .bf16⟩
  | .local _ .vmem, ⟨6, _⟩ => ⟨S4x128x640, .f32⟩
  | .local _ .vmem, ⟨7, _⟩ => ⟨S2x640x640, .f32⟩
  | .local _ .vmem, ⟨8, _⟩ => ⟨S4x640x640, .f32⟩
  | .local _ .vmem, ⟨9, _⟩ => ⟨S4x640x640, .f32⟩
  | _, _ => ⟨S4x8320x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 2, 13], ![false, false, false]⟩

def k0_mult1 : BitVec 32 :=
  let c0_i32_24 : BitVec 32 := 0#32
  c0_i32_24
def k0_off1 (i : grid0.Coords) : Fin 3 → Nat :=
  let arg2 : BitVec 32 := BitVec.ofNat 32 (i 2).val
  let c0_i32_25 : BitVec 32 := 0#32
  let v55 : BitVec 1 := Scalar.cmpi .eq arg2 c0_i32_25
  let v56 : BitVec 32 := Scalar.extui v55
  let v57 : Index := Scalar.indexCast v56
  let c0_26 : Index := 0#32
  let c0_27 : Index := 0#32
  ![v57.toNat, 0, 0]
@[reducible] def k0_t1_loop (i : grid0.Coords) : Scf.Loop 32 :=
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_69 : BitVec 32 := 1#32
  ⟨c0_i32_67, v112, c1_i32_69⟩
def k0_mult2 (i : grid0.Coords) (k0_t1 : Fin (k0_t1_loop i).trips) : BitVec 32 :=
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let c1_i32_106 : BitVec 32 := 1#32
  let v172 : BitVec 32 := Scalar.addi v171 c1_i32_106
  let c640_i32 : BitVec 32 := 640#32
  let v173 : BitVec 32 := Scalar.muli v172 c640_i32
  v173
def k0_off2 (i : grid0.Coords) (k0_t1 : Fin (k0_t1_loop i).trips) (c1_i32_106 : BitVec 32) : Fin 3 → Nat :=
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let v172 : BitVec 32 := Scalar.addi v171 c1_i32_106
  let arg2 : BitVec 32 := BitVec.ofNat 32 (i 2).val
  let v175 : BitVec 1 := Scalar.cmpi .eq v172 arg2
  let v176 : BitVec 32 := Scalar.extui v175
  let v177 : Index := Scalar.indexCast v176
  let c0_107 : Index := 0#32
  let c0_108 : Index := 0#32
  ![v177.toNat, 0, 0]
def k0_off3 (i : grid0.Coords) (k0_t1 : Fin (k0_t1_loop i).trips) (c1_i32_106 : BitVec 32) : Fin 4 → Nat :=
  let c0_109 : Index := 0#32
  let c0_110 : Index := 0#32
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let v172 : BitVec 32 := Scalar.addi v171 c1_i32_106
  let c640_i32 : BitVec 32 := 640#32
  let v173 : BitVec 32 := Scalar.muli v172 c640_i32
  let v174 : BitVec 32 := v173
  let v180 : Index := Scalar.indexCast v174
  let c0_111 : Index := 0#32
  ![0, 0, v180.toNat, 0]
def k0_off4 (i : grid0.Coords) (k0_t1 : Fin (k0_t1_loop i).trips) (c1_i32_106 : BitVec 32) : Fin 4 → Nat :=
  let c0_116 : Index := 0#32
  let c1_117 : Index := 1#32
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let v172 : BitVec 32 := Scalar.addi v171 c1_i32_106
  let c640_i32 : BitVec 32 := 640#32
  let v173 : BitVec 32 := Scalar.muli v172 c640_i32
  let v174 : BitVec 32 := v173
  let v187 : Index := Scalar.indexCast v174
  let c0_118 : Index := 0#32
  ![0, 1, v187.toNat, 0]
def k0_off5 (i : grid0.Coords) (k0_t1 : Fin (k0_t1_loop i).trips) (c1_i32_106 : BitVec 32) : Fin 4 → Nat :=
  let c0_123 : Index := 0#32
  let c2_124 : Index := 2#32
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let v172 : BitVec 32 := Scalar.addi v171 c1_i32_106
  let c640_i32 : BitVec 32 := 640#32
  let v173 : BitVec 32 := Scalar.muli v172 c640_i32
  let v174 : BitVec 32 := v173
  let v194 : Index := Scalar.indexCast v174
  let c0_125 : Index := 0#32
  ![0, 2, v194.toNat, 0]
def k0_off6 (i : grid0.Coords) (k0_t1 : Fin (k0_t1_loop i).trips) (c1_i32_106 : BitVec 32) : Fin 4 → Nat :=
  let c0_130 : Index := 0#32
  let c3_131 : Index := 3#32
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let v172 : BitVec 32 := Scalar.addi v171 c1_i32_106
  let c640_i32 : BitVec 32 := 640#32
  let v173 : BitVec 32 := Scalar.muli v172 c640_i32
  let v174 : BitVec 32 := v173
  let v201 : Index := Scalar.indexCast v174
  let c0_132 : Index := 0#32
  ![0, 3, v201.toNat, 0]
def k0_off7 (i : grid0.Coords) (k0_t1 : Fin (k0_t1_loop i).trips) : Fin 5 → Nat :=
  let c0_159 : Index := 0#32
  let c0_160 : Index := 0#32
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let v241 : Index := Scalar.indexCast v171
  let c0_161 : Index := 0#32
  let c0_162 : Index := 0#32
  ![0, 0, v241.toNat, 0, 0]
def k0_off8 (i : grid0.Coords) (k0_t1 : Fin (k0_t1_loop i).trips) : Fin 5 → Nat :=
  let c0_173 : Index := 0#32
  let c1_174 : Index := 1#32
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let v262 : Index := Scalar.indexCast v171
  let c0_175 : Index := 0#32
  let c0_176 : Index := 0#32
  ![0, 1, v262.toNat, 0, 0]
def k0_off9 (i : grid0.Coords) (k0_t1 : Fin (k0_t1_loop i).trips) : Fin 5 → Nat :=
  let c0_187 : Index := 0#32
  let c2_188 : Index := 2#32
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let v283 : Index := Scalar.indexCast v171
  let c0_189 : Index := 0#32
  let c0_190 : Index := 0#32
  ![0, 2, v283.toNat, 0, 0]
def k0_off10 (i : grid0.Coords) (k0_t1 : Fin (k0_t1_loop i).trips) : Fin 5 → Nat :=
  let c0_201 : Index := 0#32
  let c3_202 : Index := 3#32
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let v304 : Index := Scalar.indexCast v171
  let c0_203 : Index := 0#32
  let c0_204 : Index := 0#32
  ![0, 3, v304.toNat, 0, 0]
def k0_mult3 (i : grid0.Coords) (k0_t1 : Fin (k0_t1_loop i).trips) : BitVec 32 :=
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let c2_i32_209 : BitVec 32 := 2#32
  let v312 : BitVec 32 := Scalar.addi v171 c2_i32_209
  let c640_i32_210 : BitVec 32 := 640#32
  let v313 : BitVec 32 := Scalar.muli v312 c640_i32_210
  v313
def k0_off11 (i : grid0.Coords) (k0_t1 : Fin (k0_t1_loop i).trips) : Fin 5 → Nat :=
  let c0_264 : Index := 0#32
  let c0_265 : Index := 0#32
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let c1_i32_257 : BitVec 32 := 1#32
  let v368 : BitVec 32 := Scalar.addi v171 c1_i32_257
  let v382 : Index := Scalar.indexCast v368
  let c0_266 : Index := 0#32
  let c0_267 : Index := 0#32
  ![0, 0, v382.toNat, 0, 0]
def k0_off12 (i : grid0.Coords) (k0_t1 : Fin (k0_t1_loop i).trips) : Fin 5 → Nat :=
  let c0_278 : Index := 0#32
  let c1_279 : Index := 1#32
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let c1_i32_257 : BitVec 32 := 1#32
  let v368 : BitVec 32 := Scalar.addi v171 c1_i32_257
  let v403 : Index := Scalar.indexCast v368
  let c0_280 : Index := 0#32
  let c0_281 : Index := 0#32
  ![0, 1, v403.toNat, 0, 0]
def k0_off13 (i : grid0.Coords) (k0_t1 : Fin (k0_t1_loop i).trips) : Fin 5 → Nat :=
  let c0_292 : Index := 0#32
  let c2_293 : Index := 2#32
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let c1_i32_257 : BitVec 32 := 1#32
  let v368 : BitVec 32 := Scalar.addi v171 c1_i32_257
  let v424 : Index := Scalar.indexCast v368
  let c0_294 : Index := 0#32
  let c0_295 : Index := 0#32
  ![0, 2, v424.toNat, 0, 0]
def k0_off14 (i : grid0.Coords) (k0_t1 : Fin (k0_t1_loop i).trips) : Fin 5 → Nat :=
  let c0_306 : Index := 0#32
  let c3_307 : Index := 3#32
  let c2_i32_105 : BitVec 32 := 2#32
  let c2_i32_104 : BitVec 32 := 2#32
  let c0_i32_67 : BitVec 32 := 0#32
  let c1_i32_69 : BitVec 32 := 1#32
  let arg11 : BitVec 32 := Scf.iv c0_i32_67 c1_i32_69 k0_t1
  let v170 : BitVec 32 := Scalar.muli c2_i32_104 arg11
  let v171 : BitVec 32 := Scalar.muli c2_i32_105 v170
  let c1_i32_257 : BitVec 32 := 1#32
  let v368 : BitVec 32 := Scalar.addi v171 c1_i32_257
  let v445 : Index := Scalar.indexCast v368
  let c0_308 : Index := 0#32
  let c0_309 : Index := 0#32
  ![0, 3, v445.toNat, 0, 0]
def k0_mult4 (i : grid0.Coords) (k0_t1 : Fin (k0_t1_loop i).trips) : BitVec 32 :=
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let c1_i32_315 : BitVec 32 := 1#32
  let v454 : BitVec 32 := Scalar.addi v453 c1_i32_315
  let c640_i32_316 : BitVec 32 := 640#32
  let v455 : BitVec 32 := Scalar.muli v454 c640_i32_316
  v455
def k0_off15 (i : grid0.Coords) (k0_t1 : Fin (k0_t1_loop i).trips) (c1_i32_315 : BitVec 32) : Fin 3 → Nat :=
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v454 : BitVec 32 := Scalar.addi v453 c1_i32_315
  let arg2 : BitVec 32 := BitVec.ofNat 32 (i 2).val
  let v457 : BitVec 1 := Scalar.cmpi .eq v454 arg2
  let v458 : BitVec 32 := Scalar.extui v457
  let v459 : Index := Scalar.indexCast v458
  let c0_317 : Index := 0#32
  let c0_318 : Index := 0#32
  ![v459.toNat, 0, 0]
def k0_off16 (i : grid0.Coords) (k0_t1 : Fin (k0_t1_loop i).trips) (c1_i32_315 : BitVec 32) : Fin 4 → Nat :=
  let c0_319 : Index := 0#32
  let c0_320 : Index := 0#32
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v454 : BitVec 32 := Scalar.addi v453 c1_i32_315
  let c640_i32_316 : BitVec 32 := 640#32
  let v455 : BitVec 32 := Scalar.muli v454 c640_i32_316
  let v456 : BitVec 32 := v455
  let v462 : Index := Scalar.indexCast v456
  let c0_321 : Index := 0#32
  ![0, 0, v462.toNat, 0]
def k0_off17 (i : grid0.Coords) (k0_t1 : Fin (k0_t1_loop i).trips) (c1_i32_315 : BitVec 32) : Fin 4 → Nat :=
  let c0_326 : Index := 0#32
  let c1_327 : Index := 1#32
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v454 : BitVec 32 := Scalar.addi v453 c1_i32_315
  let c640_i32_316 : BitVec 32 := 640#32
  let v455 : BitVec 32 := Scalar.muli v454 c640_i32_316
  let v456 : BitVec 32 := v455
  let v469 : Index := Scalar.indexCast v456
  let c0_328 : Index := 0#32
  ![0, 1, v469.toNat, 0]
def k0_off18 (i : grid0.Coords) (k0_t1 : Fin (k0_t1_loop i).trips) (c1_i32_315 : BitVec 32) : Fin 4 → Nat :=
  let c0_333 : Index := 0#32
  let c2_334 : Index := 2#32
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v454 : BitVec 32 := Scalar.addi v453 c1_i32_315
  let c640_i32_316 : BitVec 32 := 640#32
  let v455 : BitVec 32 := Scalar.muli v454 c640_i32_316
  let v456 : BitVec 32 := v455
  let v476 : Index := Scalar.indexCast v456
  let c0_335 : Index := 0#32
  ![0, 2, v476.toNat, 0]
def k0_off19 (i : grid0.Coords) (k0_t1 : Fin (k0_t1_loop i).trips) (c1_i32_315 : BitVec 32) : Fin 4 → Nat :=
  let c0_340 : Index := 0#32
  let c3_341 : Index := 3#32
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v454 : BitVec 32 := Scalar.addi v453 c1_i32_315
  let c640_i32_316 : BitVec 32 := 640#32
  let v455 : BitVec 32 := Scalar.muli v454 c640_i32_316
  let v456 : BitVec 32 := v455
  let v483 : Index := Scalar.indexCast v456
  let c0_342 : Index := 0#32
  ![0, 3, v483.toNat, 0]
def k0_off20 (i : grid0.Coords) (k0_t1 : Fin (k0_t1_loop i).trips) : Fin 5 → Nat :=
  let c0_369 : Index := 0#32
  let c0_370 : Index := 0#32
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v523 : Index := Scalar.indexCast v453
  let c0_371 : Index := 0#32
  let c0_372 : Index := 0#32
  ![0, 0, v523.toNat, 0, 0]
def k0_off21 (i : grid0.Coords) (k0_t1 : Fin (k0_t1_loop i).trips) : Fin 5 → Nat :=
  let c0_383 : Index := 0#32
  let c1_384 : Index := 1#32
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v544 : Index := Scalar.indexCast v453
  let c0_385 : Index := 0#32
  let c0_386 : Index := 0#32
  ![0, 1, v544.toNat, 0, 0]
def k0_off22 (i : grid0.Coords) (k0_t1 : Fin (k0_t1_loop i).trips) : Fin 5 → Nat :=
  let c0_397 : Index := 0#32
  let c2_398 : Index := 2#32
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v565 : Index := Scalar.indexCast v453
  let c0_399 : Index := 0#32
  let c0_400 : Index := 0#32
  ![0, 2, v565.toNat, 0, 0]
def k0_off23 (i : grid0.Coords) (k0_t1 : Fin (k0_t1_loop i).trips) : Fin 5 → Nat :=
  let c0_411 : Index := 0#32
  let c3_412 : Index := 3#32
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v586 : Index := Scalar.indexCast v453
  let c0_413 : Index := 0#32
  let c0_414 : Index := 0#32
  ![0, 3, v586.toNat, 0, 0]
def k0_mult5 (i : grid0.Coords) (k0_t1 : Fin (k0_t1_loop i).trips) : BitVec 32 :=
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let c2_i32_419 : BitVec 32 := 2#32
  let v594 : BitVec 32 := Scalar.addi v453 c2_i32_419
  let c640_i32_420 : BitVec 32 := 640#32
  let v595 : BitVec 32 := Scalar.muli v594 c640_i32_420
  v595
def k0_off24 (i : grid0.Coords) (k0_t1 : Fin (k0_t1_loop i).trips) : Fin 5 → Nat :=
  let c0_474 : Index := 0#32
  let c0_475 : Index := 0#32
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let c1_i32_467 : BitVec 32 := 1#32
  let v650 : BitVec 32 := Scalar.addi v453 c1_i32_467
  let v664 : Index := Scalar.indexCast v650
  let c0_476 : Index := 0#32
  let c0_477 : Index := 0#32
  ![0, 0, v664.toNat, 0, 0]
def k0_off25 (i : grid0.Coords) (k0_t1 : Fin (k0_t1_loop i).trips) : Fin 5 → Nat :=
  let c0_488 : Index := 0#32
  let c1_489 : Index := 1#32
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let c1_i32_467 : BitVec 32 := 1#32
  let v650 : BitVec 32 := Scalar.addi v453 c1_i32_467
  let v685 : Index := Scalar.indexCast v650
  let c0_490 : Index := 0#32
  let c0_491 : Index := 0#32
  ![0, 1, v685.toNat, 0, 0]
def k0_off26 (i : grid0.Coords) (k0_t1 : Fin (k0_t1_loop i).trips) : Fin 5 → Nat :=
  let c0_502 : Index := 0#32
  let c2_503 : Index := 2#32
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let c1_i32_467 : BitVec 32 := 1#32
  let v650 : BitVec 32 := Scalar.addi v453 c1_i32_467
  let v706 : Index := Scalar.indexCast v650
  let c0_504 : Index := 0#32
  let c0_505 : Index := 0#32
  ![0, 2, v706.toNat, 0, 0]
def k0_off27 (i : grid0.Coords) (k0_t1 : Fin (k0_t1_loop i).trips) : Fin 5 → Nat :=
  let c0_516 : Index := 0#32
  let c3_517 : Index := 3#32
  let c2_i32_314 : BitVec 32 := 2#32
  let c2_i32_102 : BitVec 32 := 2#32
  let c0_i32_67 : BitVec 32 := 0#32
  let c1_i32_69 : BitVec 32 := 1#32
  let arg11 : BitVec 32 := Scf.iv c0_i32_67 c1_i32_69 k0_t1
  let v168 : BitVec 32 := Scalar.muli c2_i32_102 arg11
  let c1_i32_103 : BitVec 32 := 1#32
  let v169 : BitVec 32 := Scalar.addi v168 c1_i32_103
  let v453 : BitVec 32 := Scalar.muli c2_i32_314 v169
  let c1_i32_467 : BitVec 32 := 1#32
  let v650 : BitVec 32 := Scalar.addi v453 c1_i32_467
  let v727 : Index := Scalar.indexCast v650
  let c0_518 : Index := 0#32
  let c0_519 : Index := 0#32
  ![0, 3, v727.toNat, 0, 0]
@[reducible] def k0_t2_loop (i : grid0.Coords) : Scf.Loop 32 :=
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let v109 : BitVec 32 := Scalar.addi c0_i32_67 v108
  let c1_i32_70 : BitVec 32 := 1#32
  ⟨v112, v109, c1_i32_70⟩
def k0_mult6 (i : grid0.Coords) (k0_t2 : Fin (k0_t2_loop i).trips) : BitVec 32 :=
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let c1_i32_106 : BitVec 32 := 1#32
  let v172 : BitVec 32 := Scalar.addi v171 c1_i32_106
  let c640_i32 : BitVec 32 := 640#32
  let v173 : BitVec 32 := Scalar.muli v172 c640_i32
  v173
def k0_off28 (i : grid0.Coords) (k0_t2 : Fin (k0_t2_loop i).trips) (c1_i32_106 : BitVec 32) : Fin 3 → Nat :=
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let v172 : BitVec 32 := Scalar.addi v171 c1_i32_106
  let v175 : BitVec 1 := Scalar.cmpi .eq v172 arg2
  let v176 : BitVec 32 := Scalar.extui v175
  let v177 : Index := Scalar.indexCast v176
  let c0_107 : Index := 0#32
  let c0_108 : Index := 0#32
  ![v177.toNat, 0, 0]
def k0_off29 (i : grid0.Coords) (k0_t2 : Fin (k0_t2_loop i).trips) (c1_i32_106 : BitVec 32) : Fin 4 → Nat :=
  let c0_109 : Index := 0#32
  let c0_110 : Index := 0#32
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let v172 : BitVec 32 := Scalar.addi v171 c1_i32_106
  let c640_i32 : BitVec 32 := 640#32
  let v173 : BitVec 32 := Scalar.muli v172 c640_i32
  let v174 : BitVec 32 := v173
  let v180 : Index := Scalar.indexCast v174
  let c0_111 : Index := 0#32
  ![0, 0, v180.toNat, 0]
def k0_off30 (i : grid0.Coords) (k0_t2 : Fin (k0_t2_loop i).trips) (c1_i32_106 : BitVec 32) : Fin 4 → Nat :=
  let c0_116 : Index := 0#32
  let c1_117 : Index := 1#32
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let v172 : BitVec 32 := Scalar.addi v171 c1_i32_106
  let c640_i32 : BitVec 32 := 640#32
  let v173 : BitVec 32 := Scalar.muli v172 c640_i32
  let v174 : BitVec 32 := v173
  let v187 : Index := Scalar.indexCast v174
  let c0_118 : Index := 0#32
  ![0, 1, v187.toNat, 0]
def k0_off31 (i : grid0.Coords) (k0_t2 : Fin (k0_t2_loop i).trips) (c1_i32_106 : BitVec 32) : Fin 4 → Nat :=
  let c0_123 : Index := 0#32
  let c2_124 : Index := 2#32
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let v172 : BitVec 32 := Scalar.addi v171 c1_i32_106
  let c640_i32 : BitVec 32 := 640#32
  let v173 : BitVec 32 := Scalar.muli v172 c640_i32
  let v174 : BitVec 32 := v173
  let v194 : Index := Scalar.indexCast v174
  let c0_125 : Index := 0#32
  ![0, 2, v194.toNat, 0]
def k0_off32 (i : grid0.Coords) (k0_t2 : Fin (k0_t2_loop i).trips) (c1_i32_106 : BitVec 32) : Fin 4 → Nat :=
  let c0_130 : Index := 0#32
  let c3_131 : Index := 3#32
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let v172 : BitVec 32 := Scalar.addi v171 c1_i32_106
  let c640_i32 : BitVec 32 := 640#32
  let v173 : BitVec 32 := Scalar.muli v172 c640_i32
  let v174 : BitVec 32 := v173
  let v201 : Index := Scalar.indexCast v174
  let c0_132 : Index := 0#32
  ![0, 3, v201.toNat, 0]
def k0_off33 (i : grid0.Coords) (k0_t2 : Fin (k0_t2_loop i).trips) : Fin 5 → Nat :=
  let c0_159 : Index := 0#32
  let c0_160 : Index := 0#32
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let v241 : Index := Scalar.indexCast v171
  let c0_161 : Index := 0#32
  let c0_162 : Index := 0#32
  ![0, 0, v241.toNat, 0, 0]
def k0_off34 (i : grid0.Coords) (k0_t2 : Fin (k0_t2_loop i).trips) : Fin 5 → Nat :=
  let c0_173 : Index := 0#32
  let c1_174 : Index := 1#32
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let v262 : Index := Scalar.indexCast v171
  let c0_175 : Index := 0#32
  let c0_176 : Index := 0#32
  ![0, 1, v262.toNat, 0, 0]
def k0_off35 (i : grid0.Coords) (k0_t2 : Fin (k0_t2_loop i).trips) : Fin 5 → Nat :=
  let c0_187 : Index := 0#32
  let c2_188 : Index := 2#32
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let v283 : Index := Scalar.indexCast v171
  let c0_189 : Index := 0#32
  let c0_190 : Index := 0#32
  ![0, 2, v283.toNat, 0, 0]
def k0_off36 (i : grid0.Coords) (k0_t2 : Fin (k0_t2_loop i).trips) : Fin 5 → Nat :=
  let c0_201 : Index := 0#32
  let c3_202 : Index := 3#32
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let v304 : Index := Scalar.indexCast v171
  let c0_203 : Index := 0#32
  let c0_204 : Index := 0#32
  ![0, 3, v304.toNat, 0, 0]
def k0_mult7 (i : grid0.Coords) (k0_t2 : Fin (k0_t2_loop i).trips) : BitVec 32 :=
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let c2_i32_209 : BitVec 32 := 2#32
  let v312 : BitVec 32 := Scalar.addi v171 c2_i32_209
  let c640_i32_210 : BitVec 32 := 640#32
  let v313 : BitVec 32 := Scalar.muli v312 c640_i32_210
  v313
def k0_off37 (i : grid0.Coords) (k0_t2 : Fin (k0_t2_loop i).trips) : Fin 5 → Nat :=
  let c0_264 : Index := 0#32
  let c0_265 : Index := 0#32
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let c1_i32_257 : BitVec 32 := 1#32
  let v368 : BitVec 32 := Scalar.addi v171 c1_i32_257
  let v382 : Index := Scalar.indexCast v368
  let c0_266 : Index := 0#32
  let c0_267 : Index := 0#32
  ![0, 0, v382.toNat, 0, 0]
def k0_off38 (i : grid0.Coords) (k0_t2 : Fin (k0_t2_loop i).trips) : Fin 5 → Nat :=
  let c0_278 : Index := 0#32
  let c1_279 : Index := 1#32
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let c1_i32_257 : BitVec 32 := 1#32
  let v368 : BitVec 32 := Scalar.addi v171 c1_i32_257
  let v403 : Index := Scalar.indexCast v368
  let c0_280 : Index := 0#32
  let c0_281 : Index := 0#32
  ![0, 1, v403.toNat, 0, 0]
def k0_off39 (i : grid0.Coords) (k0_t2 : Fin (k0_t2_loop i).trips) : Fin 5 → Nat :=
  let c0_292 : Index := 0#32
  let c2_293 : Index := 2#32
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let c1_i32_257 : BitVec 32 := 1#32
  let v368 : BitVec 32 := Scalar.addi v171 c1_i32_257
  let v424 : Index := Scalar.indexCast v368
  let c0_294 : Index := 0#32
  let c0_295 : Index := 0#32
  ![0, 2, v424.toNat, 0, 0]
def k0_off40 (i : grid0.Coords) (k0_t2 : Fin (k0_t2_loop i).trips) : Fin 5 → Nat :=
  let c0_306 : Index := 0#32
  let c3_307 : Index := 3#32
  let c2_i32_105 : BitVec 32 := 2#32
  let c2_i32_104 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v170 : BitVec 32 := Scalar.muli c2_i32_104 arg11
  let v171 : BitVec 32 := Scalar.muli c2_i32_105 v170
  let c1_i32_257 : BitVec 32 := 1#32
  let v368 : BitVec 32 := Scalar.addi v171 c1_i32_257
  let v445 : Index := Scalar.indexCast v368
  let c0_308 : Index := 0#32
  let c0_309 : Index := 0#32
  ![0, 3, v445.toNat, 0, 0]
def k0_mult8 (i : grid0.Coords) (k0_t2 : Fin (k0_t2_loop i).trips) : BitVec 32 :=
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let c1_i32_315 : BitVec 32 := 1#32
  let v454 : BitVec 32 := Scalar.addi v453 c1_i32_315
  let c640_i32_316 : BitVec 32 := 640#32
  let v455 : BitVec 32 := Scalar.muli v454 c640_i32_316
  v455
def k0_off41 (i : grid0.Coords) (k0_t2 : Fin (k0_t2_loop i).trips) (c1_i32_315 : BitVec 32) : Fin 3 → Nat :=
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v454 : BitVec 32 := Scalar.addi v453 c1_i32_315
  let v457 : BitVec 1 := Scalar.cmpi .eq v454 arg2
  let v458 : BitVec 32 := Scalar.extui v457
  let v459 : Index := Scalar.indexCast v458
  let c0_317 : Index := 0#32
  let c0_318 : Index := 0#32
  ![v459.toNat, 0, 0]
def k0_off42 (i : grid0.Coords) (k0_t2 : Fin (k0_t2_loop i).trips) (c1_i32_315 : BitVec 32) : Fin 4 → Nat :=
  let c0_319 : Index := 0#32
  let c0_320 : Index := 0#32
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v454 : BitVec 32 := Scalar.addi v453 c1_i32_315
  let c640_i32_316 : BitVec 32 := 640#32
  let v455 : BitVec 32 := Scalar.muli v454 c640_i32_316
  let v456 : BitVec 32 := v455
  let v462 : Index := Scalar.indexCast v456
  let c0_321 : Index := 0#32
  ![0, 0, v462.toNat, 0]
def k0_off43 (i : grid0.Coords) (k0_t2 : Fin (k0_t2_loop i).trips) (c1_i32_315 : BitVec 32) : Fin 4 → Nat :=
  let c0_326 : Index := 0#32
  let c1_327 : Index := 1#32
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v454 : BitVec 32 := Scalar.addi v453 c1_i32_315
  let c640_i32_316 : BitVec 32 := 640#32
  let v455 : BitVec 32 := Scalar.muli v454 c640_i32_316
  let v456 : BitVec 32 := v455
  let v469 : Index := Scalar.indexCast v456
  let c0_328 : Index := 0#32
  ![0, 1, v469.toNat, 0]
def k0_off44 (i : grid0.Coords) (k0_t2 : Fin (k0_t2_loop i).trips) (c1_i32_315 : BitVec 32) : Fin 4 → Nat :=
  let c0_333 : Index := 0#32
  let c2_334 : Index := 2#32
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v454 : BitVec 32 := Scalar.addi v453 c1_i32_315
  let c640_i32_316 : BitVec 32 := 640#32
  let v455 : BitVec 32 := Scalar.muli v454 c640_i32_316
  let v456 : BitVec 32 := v455
  let v476 : Index := Scalar.indexCast v456
  let c0_335 : Index := 0#32
  ![0, 2, v476.toNat, 0]
def k0_off45 (i : grid0.Coords) (k0_t2 : Fin (k0_t2_loop i).trips) (c1_i32_315 : BitVec 32) : Fin 4 → Nat :=
  let c0_340 : Index := 0#32
  let c3_341 : Index := 3#32
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v454 : BitVec 32 := Scalar.addi v453 c1_i32_315
  let c640_i32_316 : BitVec 32 := 640#32
  let v455 : BitVec 32 := Scalar.muli v454 c640_i32_316
  let v456 : BitVec 32 := v455
  let v483 : Index := Scalar.indexCast v456
  let c0_342 : Index := 0#32
  ![0, 3, v483.toNat, 0]
def k0_off46 (i : grid0.Coords) (k0_t2 : Fin (k0_t2_loop i).trips) : Fin 5 → Nat :=
  let c0_369 : Index := 0#32
  let c0_370 : Index := 0#32
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v523 : Index := Scalar.indexCast v453
  let c0_371 : Index := 0#32
  let c0_372 : Index := 0#32
  ![0, 0, v523.toNat, 0, 0]
def k0_off47 (i : grid0.Coords) (k0_t2 : Fin (k0_t2_loop i).trips) : Fin 5 → Nat :=
  let c0_383 : Index := 0#32
  let c1_384 : Index := 1#32
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v544 : Index := Scalar.indexCast v453
  let c0_385 : Index := 0#32
  let c0_386 : Index := 0#32
  ![0, 1, v544.toNat, 0, 0]
def k0_off48 (i : grid0.Coords) (k0_t2 : Fin (k0_t2_loop i).trips) : Fin 5 → Nat :=
  let c0_397 : Index := 0#32
  let c2_398 : Index := 2#32
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v565 : Index := Scalar.indexCast v453
  let c0_399 : Index := 0#32
  let c0_400 : Index := 0#32
  ![0, 2, v565.toNat, 0, 0]
def k0_off49 (i : grid0.Coords) (k0_t2 : Fin (k0_t2_loop i).trips) : Fin 5 → Nat :=
  let c0_411 : Index := 0#32
  let c3_412 : Index := 3#32
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let v586 : Index := Scalar.indexCast v453
  let c0_413 : Index := 0#32
  let c0_414 : Index := 0#32
  ![0, 3, v586.toNat, 0, 0]
def k0_mult9 (i : grid0.Coords) (k0_t2 : Fin (k0_t2_loop i).trips) : BitVec 32 :=
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let c2_i32_419 : BitVec 32 := 2#32
  let v594 : BitVec 32 := Scalar.addi v453 c2_i32_419
  let c640_i32_420 : BitVec 32 := 640#32
  let v595 : BitVec 32 := Scalar.muli v594 c640_i32_420
  v595
def k0_off50 (i : grid0.Coords) (k0_t2 : Fin (k0_t2_loop i).trips) : Fin 5 → Nat :=
  let c0_474 : Index := 0#32
  let c0_475 : Index := 0#32
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let c1_i32_467 : BitVec 32 := 1#32
  let v650 : BitVec 32 := Scalar.addi v453 c1_i32_467
  let v664 : Index := Scalar.indexCast v650
  let c0_476 : Index := 0#32
  let c0_477 : Index := 0#32
  ![0, 0, v664.toNat, 0, 0]
def k0_off51 (i : grid0.Coords) (k0_t2 : Fin (k0_t2_loop i).trips) : Fin 5 → Nat :=
  let c0_488 : Index := 0#32
  let c1_489 : Index := 1#32
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let c1_i32_467 : BitVec 32 := 1#32
  let v650 : BitVec 32 := Scalar.addi v453 c1_i32_467
  let v685 : Index := Scalar.indexCast v650
  let c0_490 : Index := 0#32
  let c0_491 : Index := 0#32
  ![0, 1, v685.toNat, 0, 0]
def k0_off52 (i : grid0.Coords) (k0_t2 : Fin (k0_t2_loop i).trips) : Fin 5 → Nat :=
  let c0_502 : Index := 0#32
  let c2_503 : Index := 2#32
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let c1_i32_467 : BitVec 32 := 1#32
  let v650 : BitVec 32 := Scalar.addi v453 c1_i32_467
  let v706 : Index := Scalar.indexCast v650
  let c0_504 : Index := 0#32
  let c0_505 : Index := 0#32
  ![0, 2, v706.toNat, 0, 0]
def k0_off53 (i : grid0.Coords) (k0_t2 : Fin (k0_t2_loop i).trips) : Fin 5 → Nat :=
  let c0_516 : Index := 0#32
  let c3_517 : Index := 3#32
  let c2_i32_314 : BitVec 32 := 2#32
  let c2_i32_102 : BitVec 32 := 2#32
  let c0_i32_67 : BitVec 32 := 0#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v108 : BitVec 32 := Scalar.subi v53 c0_i32_67
  let c1_i32_68 : BitVec 32 := 1#32
  let v110 : BitVec 32 := Scalar.divsi v108 c1_i32_68
  let v111 : BitVec 32 := Scalar.muli v110 c1_i32_68
  let v112 : BitVec 32 := Scalar.addi c0_i32_67 v111
  let c1_i32_70 : BitVec 32 := 1#32
  let arg11 : BitVec 32 := Scf.iv v112 c1_i32_70 k0_t2
  let v168 : BitVec 32 := Scalar.muli c2_i32_102 arg11
  let c1_i32_103 : BitVec 32 := 1#32
  let v169 : BitVec 32 := Scalar.addi v168 c1_i32_103
  let v453 : BitVec 32 := Scalar.muli c2_i32_314 v169
  let c1_i32_467 : BitVec 32 := 1#32
  let v650 : BitVec 32 := Scalar.addi v453 c1_i32_467
  let v727 : Index := Scalar.indexCast v650
  let c0_518 : Index := 0#32
  let c0_519 : Index := 0#32
  ![0, 3, v727.toNat, 0, 0]
@[reducible] def k0_t3_loop (i : grid0.Coords) : Scf.Loop 32 :=
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_73 : BitVec 32 := 1#32
  ⟨v115, v120, c1_i32_73⟩
def k0_mult10 (i : grid0.Coords) (k0_t3 : Fin (k0_t3_loop i).trips) : BitVec 32 :=
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let c1_i32_103 : BitVec 32 := 1#32
  let v169 : BitVec 32 := Scalar.addi v168 c1_i32_103
  let c640_i32 : BitVec 32 := 640#32
  let v170 : BitVec 32 := Scalar.muli v169 c640_i32
  v170
def k0_off54 (i : grid0.Coords) (k0_t3 : Fin (k0_t3_loop i).trips) (c1_i32_103 : BitVec 32) : Fin 3 → Nat :=
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let v169 : BitVec 32 := Scalar.addi v168 c1_i32_103
  let v172 : BitVec 1 := Scalar.cmpi .eq v169 arg2
  let v173 : BitVec 32 := Scalar.extui v172
  let v174 : Index := Scalar.indexCast v173
  let c0_104 : Index := 0#32
  let c0_105 : Index := 0#32
  ![v174.toNat, 0, 0]
def k0_off55 (i : grid0.Coords) (k0_t3 : Fin (k0_t3_loop i).trips) (c1_i32_103 : BitVec 32) : Fin 4 → Nat :=
  let c0_106 : Index := 0#32
  let c0_107 : Index := 0#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let v169 : BitVec 32 := Scalar.addi v168 c1_i32_103
  let c640_i32 : BitVec 32 := 640#32
  let v170 : BitVec 32 := Scalar.muli v169 c640_i32
  let v171 : BitVec 32 := v170
  let v177 : Index := Scalar.indexCast v171
  let c0_108 : Index := 0#32
  ![0, 0, v177.toNat, 0]
def k0_off56 (i : grid0.Coords) (k0_t3 : Fin (k0_t3_loop i).trips) (c1_i32_103 : BitVec 32) : Fin 4 → Nat :=
  let c0_113 : Index := 0#32
  let c1_114 : Index := 1#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let v169 : BitVec 32 := Scalar.addi v168 c1_i32_103
  let c640_i32 : BitVec 32 := 640#32
  let v170 : BitVec 32 := Scalar.muli v169 c640_i32
  let v171 : BitVec 32 := v170
  let v184 : Index := Scalar.indexCast v171
  let c0_115 : Index := 0#32
  ![0, 1, v184.toNat, 0]
def k0_off57 (i : grid0.Coords) (k0_t3 : Fin (k0_t3_loop i).trips) (c1_i32_103 : BitVec 32) : Fin 4 → Nat :=
  let c0_120 : Index := 0#32
  let c2_121 : Index := 2#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let v169 : BitVec 32 := Scalar.addi v168 c1_i32_103
  let c640_i32 : BitVec 32 := 640#32
  let v170 : BitVec 32 := Scalar.muli v169 c640_i32
  let v171 : BitVec 32 := v170
  let v191 : Index := Scalar.indexCast v171
  let c0_122 : Index := 0#32
  ![0, 2, v191.toNat, 0]
def k0_off58 (i : grid0.Coords) (k0_t3 : Fin (k0_t3_loop i).trips) (c1_i32_103 : BitVec 32) : Fin 4 → Nat :=
  let c0_127 : Index := 0#32
  let c3_128 : Index := 3#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let v169 : BitVec 32 := Scalar.addi v168 c1_i32_103
  let c640_i32 : BitVec 32 := 640#32
  let v170 : BitVec 32 := Scalar.muli v169 c640_i32
  let v171 : BitVec 32 := v170
  let v198 : Index := Scalar.indexCast v171
  let c0_129 : Index := 0#32
  ![0, 3, v198.toNat, 0]
def k0_off59 (i : grid0.Coords) (k0_t3 : Fin (k0_t3_loop i).trips) : Fin 5 → Nat :=
  let c0_156 : Index := 0#32
  let c0_157 : Index := 0#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let v238 : Index := Scalar.indexCast v168
  let c0_158 : Index := 0#32
  let c0_159 : Index := 0#32
  ![0, 0, v238.toNat, 0, 0]
def k0_off60 (i : grid0.Coords) (k0_t3 : Fin (k0_t3_loop i).trips) : Fin 5 → Nat :=
  let c0_170 : Index := 0#32
  let c1_171 : Index := 1#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let v259 : Index := Scalar.indexCast v168
  let c0_172 : Index := 0#32
  let c0_173 : Index := 0#32
  ![0, 1, v259.toNat, 0, 0]
def k0_off61 (i : grid0.Coords) (k0_t3 : Fin (k0_t3_loop i).trips) : Fin 5 → Nat :=
  let c0_184 : Index := 0#32
  let c2_185 : Index := 2#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let v280 : Index := Scalar.indexCast v168
  let c0_186 : Index := 0#32
  let c0_187 : Index := 0#32
  ![0, 2, v280.toNat, 0, 0]
def k0_off62 (i : grid0.Coords) (k0_t3 : Fin (k0_t3_loop i).trips) : Fin 5 → Nat :=
  let c0_198 : Index := 0#32
  let c3_199 : Index := 3#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let v301 : Index := Scalar.indexCast v168
  let c0_200 : Index := 0#32
  let c0_201 : Index := 0#32
  ![0, 3, v301.toNat, 0, 0]
def k0_mult11 (i : grid0.Coords) (k0_t3 : Fin (k0_t3_loop i).trips) : BitVec 32 :=
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let c2_i32_206 : BitVec 32 := 2#32
  let v309 : BitVec 32 := Scalar.addi v168 c2_i32_206
  let c640_i32_207 : BitVec 32 := 640#32
  let v310 : BitVec 32 := Scalar.muli v309 c640_i32_207
  v310
def k0_off63 (i : grid0.Coords) (k0_t3 : Fin (k0_t3_loop i).trips) : Fin 5 → Nat :=
  let c0_261 : Index := 0#32
  let c0_262 : Index := 0#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let c1_i32_254 : BitVec 32 := 1#32
  let v365 : BitVec 32 := Scalar.addi v168 c1_i32_254
  let v379 : Index := Scalar.indexCast v365
  let c0_263 : Index := 0#32
  let c0_264 : Index := 0#32
  ![0, 0, v379.toNat, 0, 0]
def k0_off64 (i : grid0.Coords) (k0_t3 : Fin (k0_t3_loop i).trips) : Fin 5 → Nat :=
  let c0_275 : Index := 0#32
  let c1_276 : Index := 1#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let c1_i32_254 : BitVec 32 := 1#32
  let v365 : BitVec 32 := Scalar.addi v168 c1_i32_254
  let v400 : Index := Scalar.indexCast v365
  let c0_277 : Index := 0#32
  let c0_278 : Index := 0#32
  ![0, 1, v400.toNat, 0, 0]
def k0_off65 (i : grid0.Coords) (k0_t3 : Fin (k0_t3_loop i).trips) : Fin 5 → Nat :=
  let c0_289 : Index := 0#32
  let c2_290 : Index := 2#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let c1_i32_254 : BitVec 32 := 1#32
  let v365 : BitVec 32 := Scalar.addi v168 c1_i32_254
  let v421 : Index := Scalar.indexCast v365
  let c0_291 : Index := 0#32
  let c0_292 : Index := 0#32
  ![0, 2, v421.toNat, 0, 0]
def k0_off66 (i : grid0.Coords) (k0_t3 : Fin (k0_t3_loop i).trips) : Fin 5 → Nat :=
  let c0_303 : Index := 0#32
  let c3_304 : Index := 3#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let c1_i32_73 : BitVec 32 := 1#32
  let arg11 : BitVec 32 := Scf.iv v115 c1_i32_73 k0_t3
  let v168 : BitVec 32 := Scalar.muli c2_i32_102 arg11
  let c1_i32_254 : BitVec 32 := 1#32
  let v365 : BitVec 32 := Scalar.addi v168 c1_i32_254
  let v442 : Index := Scalar.indexCast v365
  let c0_305 : Index := 0#32
  let c0_306 : Index := 0#32
  ![0, 3, v442.toNat, 0, 0]
@[reducible] def k0_t4_loop (i : grid0.Coords) : Scf.Loop 32 :=
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let v117 : BitVec 32 := Scalar.addi v115 v116
  let c1_i32_74 : BitVec 32 := 1#32
  ⟨v120, v117, c1_i32_74⟩
def k0_mult12 (i : grid0.Coords) (k0_t4 : Fin (k0_t4_loop i).trips) : BitVec 32 :=
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let c1_i32_103 : BitVec 32 := 1#32
  let v169 : BitVec 32 := Scalar.addi v168 c1_i32_103
  let c640_i32 : BitVec 32 := 640#32
  let v170 : BitVec 32 := Scalar.muli v169 c640_i32
  v170
def k0_off67 (i : grid0.Coords) (k0_t4 : Fin (k0_t4_loop i).trips) (c1_i32_103 : BitVec 32) : Fin 3 → Nat :=
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let v169 : BitVec 32 := Scalar.addi v168 c1_i32_103
  let v172 : BitVec 1 := Scalar.cmpi .eq v169 arg2
  let v173 : BitVec 32 := Scalar.extui v172
  let v174 : Index := Scalar.indexCast v173
  let c0_104 : Index := 0#32
  let c0_105 : Index := 0#32
  ![v174.toNat, 0, 0]
def k0_off68 (i : grid0.Coords) (k0_t4 : Fin (k0_t4_loop i).trips) (c1_i32_103 : BitVec 32) : Fin 4 → Nat :=
  let c0_106 : Index := 0#32
  let c0_107 : Index := 0#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let v169 : BitVec 32 := Scalar.addi v168 c1_i32_103
  let c640_i32 : BitVec 32 := 640#32
  let v170 : BitVec 32 := Scalar.muli v169 c640_i32
  let v171 : BitVec 32 := v170
  let v177 : Index := Scalar.indexCast v171
  let c0_108 : Index := 0#32
  ![0, 0, v177.toNat, 0]
def k0_off69 (i : grid0.Coords) (k0_t4 : Fin (k0_t4_loop i).trips) (c1_i32_103 : BitVec 32) : Fin 4 → Nat :=
  let c0_113 : Index := 0#32
  let c1_114 : Index := 1#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let v169 : BitVec 32 := Scalar.addi v168 c1_i32_103
  let c640_i32 : BitVec 32 := 640#32
  let v170 : BitVec 32 := Scalar.muli v169 c640_i32
  let v171 : BitVec 32 := v170
  let v184 : Index := Scalar.indexCast v171
  let c0_115 : Index := 0#32
  ![0, 1, v184.toNat, 0]
def k0_off70 (i : grid0.Coords) (k0_t4 : Fin (k0_t4_loop i).trips) (c1_i32_103 : BitVec 32) : Fin 4 → Nat :=
  let c0_120 : Index := 0#32
  let c2_121 : Index := 2#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let v169 : BitVec 32 := Scalar.addi v168 c1_i32_103
  let c640_i32 : BitVec 32 := 640#32
  let v170 : BitVec 32 := Scalar.muli v169 c640_i32
  let v171 : BitVec 32 := v170
  let v191 : Index := Scalar.indexCast v171
  let c0_122 : Index := 0#32
  ![0, 2, v191.toNat, 0]
def k0_off71 (i : grid0.Coords) (k0_t4 : Fin (k0_t4_loop i).trips) (c1_i32_103 : BitVec 32) : Fin 4 → Nat :=
  let c0_127 : Index := 0#32
  let c3_128 : Index := 3#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let v169 : BitVec 32 := Scalar.addi v168 c1_i32_103
  let c640_i32 : BitVec 32 := 640#32
  let v170 : BitVec 32 := Scalar.muli v169 c640_i32
  let v171 : BitVec 32 := v170
  let v198 : Index := Scalar.indexCast v171
  let c0_129 : Index := 0#32
  ![0, 3, v198.toNat, 0]
def k0_off72 (i : grid0.Coords) (k0_t4 : Fin (k0_t4_loop i).trips) : Fin 5 → Nat :=
  let c0_156 : Index := 0#32
  let c0_157 : Index := 0#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let v238 : Index := Scalar.indexCast v168
  let c0_158 : Index := 0#32
  let c0_159 : Index := 0#32
  ![0, 0, v238.toNat, 0, 0]
def k0_off73 (i : grid0.Coords) (k0_t4 : Fin (k0_t4_loop i).trips) : Fin 5 → Nat :=
  let c0_170 : Index := 0#32
  let c1_171 : Index := 1#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let v259 : Index := Scalar.indexCast v168
  let c0_172 : Index := 0#32
  let c0_173 : Index := 0#32
  ![0, 1, v259.toNat, 0, 0]
def k0_off74 (i : grid0.Coords) (k0_t4 : Fin (k0_t4_loop i).trips) : Fin 5 → Nat :=
  let c0_184 : Index := 0#32
  let c2_185 : Index := 2#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let v280 : Index := Scalar.indexCast v168
  let c0_186 : Index := 0#32
  let c0_187 : Index := 0#32
  ![0, 2, v280.toNat, 0, 0]
def k0_off75 (i : grid0.Coords) (k0_t4 : Fin (k0_t4_loop i).trips) : Fin 5 → Nat :=
  let c0_198 : Index := 0#32
  let c3_199 : Index := 3#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let v301 : Index := Scalar.indexCast v168
  let c0_200 : Index := 0#32
  let c0_201 : Index := 0#32
  ![0, 3, v301.toNat, 0, 0]
def k0_mult13 (i : grid0.Coords) (k0_t4 : Fin (k0_t4_loop i).trips) : BitVec 32 :=
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let c2_i32_206 : BitVec 32 := 2#32
  let v309 : BitVec 32 := Scalar.addi v168 c2_i32_206
  let c640_i32_207 : BitVec 32 := 640#32
  let v310 : BitVec 32 := Scalar.muli v309 c640_i32_207
  v310
def k0_off76 (i : grid0.Coords) (k0_t4 : Fin (k0_t4_loop i).trips) : Fin 5 → Nat :=
  let c0_261 : Index := 0#32
  let c0_262 : Index := 0#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let c1_i32_254 : BitVec 32 := 1#32
  let v365 : BitVec 32 := Scalar.addi v168 c1_i32_254
  let v379 : Index := Scalar.indexCast v365
  let c0_263 : Index := 0#32
  let c0_264 : Index := 0#32
  ![0, 0, v379.toNat, 0, 0]
def k0_off77 (i : grid0.Coords) (k0_t4 : Fin (k0_t4_loop i).trips) : Fin 5 → Nat :=
  let c0_275 : Index := 0#32
  let c1_276 : Index := 1#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let c1_i32_254 : BitVec 32 := 1#32
  let v365 : BitVec 32 := Scalar.addi v168 c1_i32_254
  let v400 : Index := Scalar.indexCast v365
  let c0_277 : Index := 0#32
  let c0_278 : Index := 0#32
  ![0, 1, v400.toNat, 0, 0]
def k0_off78 (i : grid0.Coords) (k0_t4 : Fin (k0_t4_loop i).trips) : Fin 5 → Nat :=
  let c0_289 : Index := 0#32
  let c2_290 : Index := 2#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let c1_i32_254 : BitVec 32 := 1#32
  let v365 : BitVec 32 := Scalar.addi v168 c1_i32_254
  let v421 : Index := Scalar.indexCast v365
  let c0_291 : Index := 0#32
  let c0_292 : Index := 0#32
  ![0, 2, v421.toNat, 0, 0]
def k0_off79 (i : grid0.Coords) (k0_t4 : Fin (k0_t4_loop i).trips) : Fin 5 → Nat :=
  let c0_303 : Index := 0#32
  let c3_304 : Index := 3#32
  let c2_i32_102 : BitVec 32 := 2#32
  let c2_i32_71 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let c0_i32_18 : BitVec 32 := 0#32
  let v38 : BitVec 1 := Scalar.cmpi .sgt v36 c0_i32_18
  let v39 : BitVec 32 := Scalar.extui v38
  let c0_i32_19 : BitVec 32 := 0#32
  let v40 : BitVec 1 := Scalar.cmpi .slt v36 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v36 c2_i32_17
  let c0_i32_22 : BitVec 32 := 0#32
  let v50 : BitVec 1 := Scalar.cmpi .ne v49 c0_i32_22
  let v51 : BitVec 1 := Scalar.andi v48 v50
  let v37 : BitVec 32 := Scalar.divsi v36 c2_i32_17
  let c1_i32_23 : BitVec 32 := 1#32
  let v52 : BitVec 32 := Scalar.subi v37 c1_i32_23
  let v53 : BitVec 32 := Scalar.select v51 v52 v37
  let v115 : BitVec 32 := Scalar.muli c2_i32_71 v53
  let v116 : BitVec 32 := Scalar.subi v36 v115
  let c1_i32_72 : BitVec 32 := 1#32
  let v118 : BitVec 32 := Scalar.divsi v116 c1_i32_72
  let v119 : BitVec 32 := Scalar.muli v118 c1_i32_72
  let v120 : BitVec 32 := Scalar.addi v115 v119
  let c1_i32_74 : BitVec 32 := 1#32
  let arg11 : BitVec 32 := Scf.iv v120 c1_i32_74 k0_t4
  let v168 : BitVec 32 := Scalar.muli c2_i32_102 arg11
  let c1_i32_254 : BitVec 32 := 1#32
  let v365 : BitVec 32 := Scalar.addi v168 c1_i32_254
  let v442 : Index := Scalar.indexCast v365
  let c0_305 : Index := 0#32
  let c0_306 : Index := 0#32
  ![0, 3, v442.toNat, 0, 0]
def k0_cond1 (i : grid0.Coords) : BitVec 1 :=
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let c1_i32_76 : BitVec 32 := 1#32
  let v124 : BitVec 32 := Scalar.addi v123 c1_i32_76
  let v125 : BitVec 1 := Scalar.cmpi .slt v124 v17
  let v126 : BitVec 32 := Scalar.extui v125
  let c0_i32_77 : BitVec 32 := 0#32
  let v127 : BitVec 1 := Scalar.cmpi .ne v126 c0_i32_77
  v127

def k0_mult14 (i : grid0.Coords) : BitVec 32 :=
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let c1_i32_102 : BitVec 32 := 1#32
  let v168 : BitVec 32 := Scalar.addi v123 c1_i32_102
  let c640_i32 : BitVec 32 := 640#32
  let v169 : BitVec 32 := Scalar.muli v168 c640_i32
  v169
def k0_off80 (i : grid0.Coords) : Fin 3 → Nat :=
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let c1_i32_102 : BitVec 32 := 1#32
  let v168 : BitVec 32 := Scalar.addi v123 c1_i32_102
  let v171 : BitVec 1 := Scalar.cmpi .eq v168 arg2
  let v172 : BitVec 32 := Scalar.extui v171
  let v173 : Index := Scalar.indexCast v172
  let c0_103 : Index := 0#32
  let c0_104 : Index := 0#32
  ![v173.toNat, 0, 0]
def k0_off81 (i : grid0.Coords) : Fin 4 → Nat :=
  let c0_105 : Index := 0#32
  let c0_106 : Index := 0#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let c1_i32_102 : BitVec 32 := 1#32
  let v168 : BitVec 32 := Scalar.addi v123 c1_i32_102
  let c640_i32 : BitVec 32 := 640#32
  let v169 : BitVec 32 := Scalar.muli v168 c640_i32
  let v170 : BitVec 32 := v169
  let v176 : Index := Scalar.indexCast v170
  let c0_107 : Index := 0#32
  ![0, 0, v176.toNat, 0]
def k0_off82 (i : grid0.Coords) : Fin 4 → Nat :=
  let c0_112 : Index := 0#32
  let c1_113 : Index := 1#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let c1_i32_102 : BitVec 32 := 1#32
  let v168 : BitVec 32 := Scalar.addi v123 c1_i32_102
  let c640_i32 : BitVec 32 := 640#32
  let v169 : BitVec 32 := Scalar.muli v168 c640_i32
  let v170 : BitVec 32 := v169
  let v183 : Index := Scalar.indexCast v170
  let c0_114 : Index := 0#32
  ![0, 1, v183.toNat, 0]
def k0_off83 (i : grid0.Coords) : Fin 4 → Nat :=
  let c0_119 : Index := 0#32
  let c2_120 : Index := 2#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let c1_i32_102 : BitVec 32 := 1#32
  let v168 : BitVec 32 := Scalar.addi v123 c1_i32_102
  let c640_i32 : BitVec 32 := 640#32
  let v169 : BitVec 32 := Scalar.muli v168 c640_i32
  let v170 : BitVec 32 := v169
  let v190 : Index := Scalar.indexCast v170
  let c0_121 : Index := 0#32
  ![0, 2, v190.toNat, 0]
def k0_off84 (i : grid0.Coords) : Fin 4 → Nat :=
  let c0_126 : Index := 0#32
  let c3_127 : Index := 3#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let c1_i32_102 : BitVec 32 := 1#32
  let v168 : BitVec 32 := Scalar.addi v123 c1_i32_102
  let c640_i32 : BitVec 32 := 640#32
  let v169 : BitVec 32 := Scalar.muli v168 c640_i32
  let v170 : BitVec 32 := v169
  let v197 : Index := Scalar.indexCast v170
  let c0_128 : Index := 0#32
  ![0, 3, v197.toNat, 0]
def k0_off85 (i : grid0.Coords) : Fin 5 → Nat :=
  let c0_155 : Index := 0#32
  let c0_156 : Index := 0#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let v237 : Index := Scalar.indexCast v123
  let c0_157 : Index := 0#32
  let c0_158 : Index := 0#32
  ![0, 0, v237.toNat, 0, 0]
def k0_off86 (i : grid0.Coords) : Fin 5 → Nat :=
  let c0_169 : Index := 0#32
  let c1_170 : Index := 1#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let v258 : Index := Scalar.indexCast v123
  let c0_171 : Index := 0#32
  let c0_172 : Index := 0#32
  ![0, 1, v258.toNat, 0, 0]
def k0_off87 (i : grid0.Coords) : Fin 5 → Nat :=
  let c0_183 : Index := 0#32
  let c2_184 : Index := 2#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let v279 : Index := Scalar.indexCast v123
  let c0_185 : Index := 0#32
  let c0_186 : Index := 0#32
  ![0, 2, v279.toNat, 0, 0]
def k0_off88 (i : grid0.Coords) : Fin 5 → Nat :=
  let c0_197 : Index := 0#32
  let c3_198 : Index := 3#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let v300 : Index := Scalar.indexCast v123
  let c0_199 : Index := 0#32
  let c0_200 : Index := 0#32
  ![0, 3, v300.toNat, 0, 0]
def k0_off89 (i : grid0.Coords) : Fin 5 → Nat :=
  let c0_212 : Index := 0#32
  let c0_213 : Index := 0#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let c1_i32_205 : BitVec 32 := 1#32
  let v308 : BitVec 32 := Scalar.addi v123 c1_i32_205
  let v322 : Index := Scalar.indexCast v308
  let c0_214 : Index := 0#32
  let c0_215 : Index := 0#32
  ![0, 0, v322.toNat, 0, 0]
def k0_off90 (i : grid0.Coords) : Fin 5 → Nat :=
  let c0_226 : Index := 0#32
  let c1_227 : Index := 1#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let c1_i32_205 : BitVec 32 := 1#32
  let v308 : BitVec 32 := Scalar.addi v123 c1_i32_205
  let v343 : Index := Scalar.indexCast v308
  let c0_228 : Index := 0#32
  let c0_229 : Index := 0#32
  ![0, 1, v343.toNat, 0, 0]
def k0_off91 (i : grid0.Coords) : Fin 5 → Nat :=
  let c0_240 : Index := 0#32
  let c2_241 : Index := 2#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let c1_i32_205 : BitVec 32 := 1#32
  let v308 : BitVec 32 := Scalar.addi v123 c1_i32_205
  let v364 : Index := Scalar.indexCast v308
  let c0_242 : Index := 0#32
  let c0_243 : Index := 0#32
  ![0, 2, v364.toNat, 0, 0]
def k0_off92 (i : grid0.Coords) : Fin 5 → Nat :=
  let c0_254 : Index := 0#32
  let c3_255 : Index := 3#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let c1_i32_205 : BitVec 32 := 1#32
  let v308 : BitVec 32 := Scalar.addi v123 c1_i32_205
  let v385 : Index := Scalar.indexCast v308
  let c0_256 : Index := 0#32
  let c0_257 : Index := 0#32
  ![0, 3, v385.toNat, 0, 0]
def k0_off93 (i : grid0.Coords) : Fin 5 → Nat :=
  let c0_108 : Index := 0#32
  let c0_109 : Index := 0#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let v181 : Index := Scalar.indexCast v123
  let c0_110 : Index := 0#32
  let c0_111 : Index := 0#32
  ![0, 0, v181.toNat, 0, 0]
def k0_off94 (i : grid0.Coords) : Fin 5 → Nat :=
  let c0_122 : Index := 0#32
  let c1_123 : Index := 1#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let v202 : Index := Scalar.indexCast v123
  let c0_124 : Index := 0#32
  let c0_125 : Index := 0#32
  ![0, 1, v202.toNat, 0, 0]
def k0_off95 (i : grid0.Coords) : Fin 5 → Nat :=
  let c0_136 : Index := 0#32
  let c2_137 : Index := 2#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let v223 : Index := Scalar.indexCast v123
  let c0_138 : Index := 0#32
  let c0_139 : Index := 0#32
  ![0, 2, v223.toNat, 0, 0]
def k0_off96 (i : grid0.Coords) : Fin 5 → Nat :=
  let c0_150 : Index := 0#32
  let c3_151 : Index := 3#32
  let c2_i32_75 : BitVec 32 := 2#32
  let arg2 : BitVec 32 := BitVec.ofNat 32 (i 2).val
  let c1_i32 : BitVec 32 := 1#32
  let v17 : BitVec 32 := Scalar.addi arg2 c1_i32
  let c1_i32_11 : BitVec 32 := 1#32
  let v19 : BitVec 32 := Scalar.subi v17 c1_i32_11
  let c0_i32 : BitVec 32 := 0#32
  let v21 : BitVec 1 := Scalar.cmpi .sgt v19 c0_i32
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c2_i32 : BitVec 32 := 2#32
  let c0_i32_13 : BitVec 32 := 0#32
  let v26 : BitVec 1 := Scalar.cmpi .sgt c2_i32 c0_i32_13
  let v27 : BitVec 32 := Scalar.extui v26
  let c0_i32_14 : BitVec 32 := 0#32
  let v28 : BitVec 1 := Scalar.cmpi .slt c2_i32 c0_i32_14
  let v29 : BitVec 32 := Scalar.extui v28
  let v30 : BitVec 32 := Scalar.subi v27 v29
  let v31 : BitVec 1 := Scalar.cmpi .ne v25 v30
  let v32 : BitVec 32 := Scalar.remsi v19 c2_i32
  let c0_i32_15 : BitVec 32 := 0#32
  let v33 : BitVec 1 := Scalar.cmpi .ne v32 c0_i32_15
  let v34 : BitVec 1 := Scalar.andi v31 v33
  let v20 : BitVec 32 := Scalar.divsi v19 c2_i32
  let c1_i32_16 : BitVec 32 := 1#32
  let v35 : BitVec 32 := Scalar.subi v20 c1_i32_16
  let v36 : BitVec 32 := Scalar.select v34 v35 v20
  let v123 : BitVec 32 := Scalar.muli c2_i32_75 v36
  let v244 : Index := Scalar.indexCast v123
  let c0_152 : Index := 0#32
  let c0_153 : Index := 0#32
  ![0, 3, v244.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.muli arg0 c13_i32
  let v1 : BitVec 32 := Scalar.addi v0 arg2
  let c0_i32 : BitVec 32 := 0#32
  ![v1.toNat, arg1.toNat]

abbrev stage0_0 : Fin 2 → Memref sig .tc .vmem S1x640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x4x8320x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x4x13x128x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8320x8x64 : Shape := ⟨4, ![4, 8320, 8, 64]⟩
abbrev S4x8320x8x32 : Shape := ⟨4, ![4, 8320, 8, 32]⟩
abbrev S4x8320x32 : Shape := ⟨3, ![4, 8320, 32]⟩
abbrev S_ : Shape := ⟨0, ![]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S4x8x8320x8320 : Shape := ⟨4, ![4, 8, 8320, 8320]⟩
abbrev S4x8320x8320x8 : Shape := ⟨4, ![4, 8320, 8320, 8]⟩
abbrev S1x1x8320x8320 : Shape := ⟨4, ![1, 1, 8320, 8320]⟩
abbrev S4x8x8320 : Shape := ⟨3, ![4, 8, 8320]⟩
abbrev S4x8x8320x1 : Shape := ⟨4, ![4, 8, 8320, 1]⟩
abbrev S4x8x64x8320 : Shape := ⟨4, ![4, 8, 64, 8320]⟩
abbrev S33280x512 : Shape := ⟨2, ![33280, 512]⟩

abbrev nBuf : Space → Nat
  | .hbm => 45
  | .vmem => 0
  | .smem => 0
  | _ => 0

abbrev bufTy : (tb : Table) → Fin (tcTables nBuf tb) → BufTy
  | .hbm, ⟨0, _⟩ => ⟨S4x8320x8x64, .f32⟩
  | .hbm, ⟨1, _⟩ => ⟨S4x8320x8x32, .f32⟩
  | .hbm, ⟨2, _⟩ => ⟨S4x8320x8x64, .f32⟩
  | .hbm, ⟨3, _⟩ => ⟨S4x8320x32, .f32⟩
  | .hbm, ⟨4, _⟩ => ⟨S4x8320x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8320, .i32⟩
  | .hbm, ⟨10, _⟩ => ⟨S1x8320, .i32⟩
  | .hbm, ⟨11, _⟩ => ⟨S8320x1, .i32⟩
  | .hbm, ⟨12, _⟩ => ⟨S8320x8320, .i32⟩
  | .hbm, ⟨13, _⟩ => ⟨S8320x8320, .i32⟩
  | .hbm, ⟨14, _⟩ => ⟨S8320x8320, .i1⟩
  | .hbm, ⟨15, _⟩ => ⟨S4x8x8320x8320, .f32⟩
  | .hbm, ⟨16, _⟩ => ⟨S4x8320x8320x8, .f32⟩
  | .hbm, ⟨17, _⟩ => ⟨S4x8x8320x8320, .f32⟩
  | .hbm, ⟨18, _⟩ => ⟨S4x8x8320x8320, .f32⟩
  | .hbm, ⟨19, _⟩ => ⟨S4x8x8320x8320, .f32⟩
  | .hbm, ⟨20, _⟩ => ⟨S4x8x8320x8320, .f32⟩
  | .hbm, ⟨21, _⟩ => ⟨S1x1x8320x8320, .i1⟩
  | .hbm, ⟨22, _⟩ => ⟨S_, .f32⟩
  | .hbm, ⟨23, _⟩ => ⟨S_, .f32⟩
  | .hbm, ⟨24, _⟩ => ⟨S4x8x8320x8320, .i1⟩
  | .hbm, ⟨25, _⟩ => ⟨S4x8x8320x8320, .f32⟩
  | .hbm, ⟨26, _⟩ => ⟨S4x8x8320x8320, .f32⟩
  | .hbm, ⟨27, _⟩ => ⟨S_, .f32⟩
  | .hbm, ⟨28, _⟩ => ⟨S4x8x8320, .f32⟩
  | .hbm, ⟨29, _⟩ => ⟨S_, .f32⟩
  | .hbm, ⟨30, _⟩ => ⟨S4x8x8320, .f32⟩
  | .hbm, ⟨31, _⟩ => ⟨S4x8x8320, .f32⟩
  | .hbm, ⟨32, _⟩ => ⟨S4x8x8320x1, .f32⟩
  | .hbm, ⟨33, _⟩ => ⟨S4x8x8320x8320, .f32⟩
  | .hbm, ⟨34, _⟩ => ⟨S4x8x8320x8320, .f32⟩
  | .hbm, ⟨35, _⟩ => ⟨S4x8x8320x8320, .f32⟩
  | .hbm, ⟨36, _⟩ => ⟨S_, .f32⟩
  | .hbm, ⟨37, _⟩ => ⟨S4x8x8320, .f32⟩
  | .hbm, ⟨38, _⟩ => ⟨S4x8x8320x1, .f32⟩
  | .hbm, ⟨39, _⟩ => ⟨S4x8x8320x8320, .f32⟩
  | .hbm, ⟨40, _⟩ => ⟨S4x8x8320x8320, .f32⟩
  | .hbm, ⟨41, _⟩ => ⟨S4x8x64x8320, .f32⟩
  | .hbm, ⟨42, _⟩ => ⟨S4x8320x8x64, .f32⟩
  | .hbm, ⟨43, _⟩ => ⟨S33280x512, .f32⟩
  | .hbm, ⟨44, _⟩ => ⟨S33280x512, .bf16⟩
  | _, _ => ⟨S4x8320x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Ffn.lean ====
abbrev S33280x1024 : Shape := ⟨2, ![33280, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S33280x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S33280x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S33280x1024 : Shape := ⟨2, ![33280, 1024]⟩
abbrev S1024x5632 : Shape := ⟨2, ![1024, 5632]⟩
abbrev S2816x1024 : Shape := ⟨2, ![2816, 1024]⟩
abbrev S1024 : Shape := ⟨1, ![1024]⟩
abbrev S33280x5632 : Shape := ⟨2, ![33280, 5632]⟩
abbrev S33280x2816 : Shape := ⟨2, ![33280, 2816]⟩
abbrev S_ : Shape := ⟨0, ![]⟩
abbrev S33280 : Shape := ⟨1, ![33280]⟩
abbrev S33280x1 : Shape := ⟨2, ![33280, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S33280x5632, .f32⟩
  | .hbm, ⟨6, _⟩ => ⟨S33280x2816, .f32⟩
  | .hbm, ⟨7, _⟩ => ⟨S33280x2816, .f32⟩
  | .hbm, ⟨8, _⟩ => ⟨S_, .f32⟩
  | .hbm, ⟨9, _⟩ => ⟨S33280x1024, .f32⟩
  | .hbm, ⟨10, _⟩ => ⟨S33280x1024, .f32⟩
  | .hbm, ⟨11, _⟩ => ⟨S33280x2816, .f32⟩
  | .hbm, ⟨12, _⟩ => ⟨S33280x2816, .f32⟩
  | .hbm, ⟨13, _⟩ => ⟨S_, .f32⟩
  | .hbm, ⟨14, _⟩ => ⟨S33280x2816, .f32⟩
  | .hbm, ⟨15, _⟩ => ⟨S33280x2816, .f32⟩
  | .hbm, ⟨16, _⟩ => ⟨S_, .f32⟩
  | .hbm, ⟨17, _⟩ => ⟨S33280x2816, .f32⟩
  | .hbm, ⟨18, _⟩ => ⟨S33280x2816, .f32⟩
  | .hbm, ⟨19, _⟩ => ⟨S33280x2816, .f32⟩
  | .hbm, ⟨20, _⟩ => ⟨S33280x2816, .f32⟩
  | .hbm, ⟨21, _⟩ => ⟨S33280x1024, .f32⟩
  | .hbm, ⟨22, _⟩ => ⟨S_, .f32⟩
  | .hbm, ⟨23, _⟩ => ⟨S33280x1024, .f32⟩
  | .hbm, ⟨24, _⟩ => ⟨S33280x1024, .f32⟩
  | .hbm, ⟨25, _⟩ => ⟨S33280x1024, .f32⟩
  | .hbm, ⟨26, _⟩ => ⟨S_, .f32⟩
  | .hbm, ⟨27, _⟩ => ⟨S33280, .f32⟩
  | .hbm, ⟨28, _⟩ => ⟨S33280x1, .f32⟩
  | .hbm, ⟨29, _⟩ => ⟨S_, .f32⟩
  | .hbm, ⟨30, _⟩ => ⟨S33280x1, .f32⟩
  | .hbm, ⟨31, _⟩ => ⟨S33280x1, .f32⟩
  | .hbm, ⟨32, _⟩ => ⟨S33280x1024, .f32⟩
  | .hbm, ⟨33, _⟩ => ⟨S33280x1024, .f32⟩
  | .hbm, ⟨34, _⟩ => ⟨S33280x1024, .f32⟩
  | .hbm, ⟨35, _⟩ => ⟨S_, .f32⟩
  | .hbm, ⟨36, _⟩ => ⟨S33280, .f32⟩
  | .hbm, ⟨37, _⟩ => ⟨S33280x1, .f32⟩
  | .hbm, ⟨38, _⟩ => ⟨S_, .f32⟩
  | .hbm, ⟨39, _⟩ => ⟨S33280x1, .f32⟩
  | .hbm, ⟨40, _⟩ => ⟨S33280x1, .f32⟩
  | .hbm, ⟨41, _⟩ => ⟨S33280x1024, .f32⟩
  | .hbm, ⟨42, _⟩ => ⟨S33280x1024, .f32⟩
  | .hbm, ⟨43, _⟩ => ⟨S_, .f32⟩
  | .hbm, ⟨44, _⟩ => ⟨S33280x1, .f32⟩
  | .hbm, ⟨45, _⟩ => ⟨S33280x1, .f32⟩
  | .hbm, ⟨46, _⟩ => ⟨S33280x1, .f32⟩
  | .hbm, ⟨47, _⟩ => ⟨S33280x1024, .f32⟩
  | .hbm, ⟨48, _⟩ => ⟨S33280x1024, .f32⟩
  | .hbm, ⟨49, _⟩ => ⟨S1x1024, .f32⟩
  | .hbm, ⟨50, _⟩ => ⟨S33280x1024, .f32⟩
  | .hbm, ⟨51, _⟩ => ⟨S33280x1024, .f32⟩
  | .hbm, ⟨52, _⟩ => ⟨S1x1024, .f32⟩
  | .hbm, ⟨53, _⟩ => ⟨S33280x1024, .f32⟩
  | .hbm, ⟨54, _⟩ => ⟨S33280x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Merge.lean ====
abbrev S33280x1024 : Shape := ⟨2, ![33280, 1024]⟩
abbrev S33280x512 : Shape := ⟨2, ![33280, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 36
  | .vmem => 17
  | .smem => 0
  | _ => 0

abbrev bufTy : (tb : Table) → Fin (tcTables nBuf tb) → BufTy
  | .hbm, ⟨0, _⟩ => ⟨S33280x1024, .f32⟩
  | .hbm, ⟨1, _⟩ => ⟨S33280x512, .f32⟩
  | .hbm, ⟨2, _⟩ => ⟨S33280x512, .f32⟩
  | .hbm, ⟨3, _⟩ => ⟨S33280x1024, .f32⟩
  | .hbm, ⟨4, _⟩ => ⟨S33280x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S33280x512, .bf16⟩
  | .hbm, ⟨11, _⟩ => ⟨S33280x512, .bf16⟩
  | .hbm, ⟨12, _⟩ => ⟨S33280x1024, .f32⟩
  | .hbm, ⟨13, _⟩ => ⟨S33280x1024, .f32⟩
  | .hbm, ⟨14, _⟩ => ⟨S_, .f32⟩
  | .hbm, ⟨15, _⟩ => ⟨S33280x1024, .f32⟩
  | .hbm, ⟨16, _⟩ => ⟨S33280x1024, .f32⟩
  | .hbm, ⟨17, _⟩ => ⟨S_, .f32⟩
  | .hbm, ⟨18, _⟩ => ⟨S33280x1024, .f32⟩
  | .hbm, ⟨19, _⟩ => ⟨S33280x1024, .f32⟩
  | .hbm, ⟨20, _⟩ => ⟨S33280x1024, .bf16⟩
  | .hbm, ⟨21, _⟩ => ⟨S33280x1024, .f32⟩
  | .hbm, ⟨22, _⟩ => ⟨S33280x1024, .f32⟩
  | .hbm, ⟨23, _⟩ => ⟨S_, .f32⟩
  | .hbm, ⟨24, _⟩ => ⟨S33280x1024, .f32⟩
  | .hbm, ⟨25, _⟩ => ⟨S33280x1024, .f32⟩
  | .hbm, ⟨26, _⟩ => ⟨S_, .f32⟩
  | .hbm, ⟨27, _⟩ => ⟨S33280x1024, .f32⟩
  | .hbm, ⟨28, _⟩ => ⟨S33280x1024, .f32⟩
  | .hbm, ⟨29, _⟩ => ⟨S33280x1024, .bf16⟩
  | .hbm, ⟨30, _⟩ => ⟨S512x1024, .bf16⟩
  | .hbm, ⟨31, _⟩ => ⟨S512x1024, .bf16⟩
  | .hbm, ⟨32, _⟩ => ⟨S1024x1024, .bf16⟩
  | .hbm, ⟨33, _⟩ => ⟨S1x1024, .f32⟩
  | .hbm, ⟨34, _⟩ => ⟨S1x1024, .f32⟩
  | .hbm, ⟨35, _⟩ => ⟨S33280x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S33280x1024 : Shape := ⟨2, ![33280, 1024]⟩
abbrev S33280x512 : Shape := ⟨2, ![33280, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S33280 : Shape := ⟨1, ![33280]⟩
abbrev S33280x1 : Shape := ⟨2, ![33280, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S33280x512, .f32⟩
  | .hbm, ⟨2, _⟩ => ⟨S33280x512, .f32⟩
  | .hbm, ⟨3, _⟩ => ⟨S33280x1024, .f32⟩
  | .hbm, ⟨4, _⟩ => ⟨S33280x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S33280x1024, .f32⟩
  | .hbm, ⟨11, _⟩ => ⟨S33280x1024, .f32⟩
  | .hbm, ⟨12, _⟩ => ⟨S_, .f32⟩
  | .hbm, ⟨13, _⟩ => ⟨S33280x1024, .f32⟩
  | .hbm, ⟨14, _⟩ => ⟨S33280x1024, .f32⟩
  | .hbm, ⟨15, _⟩ => ⟨S_, .f32⟩
  | .hbm, ⟨16, _⟩ => ⟨S33280x1024, .f32⟩
  | .hbm, ⟨17, _⟩ => ⟨S33280x1024, .f32⟩
  | .hbm, ⟨18, _⟩ => ⟨S33280x1024, .f32⟩
  | .hbm, ⟨19, _⟩ => ⟨S33280x1024, .f32⟩
  | .hbm, ⟨20, _⟩ => ⟨S33280x1024, .f32⟩
  | .hbm, ⟨21, _⟩ => ⟨S33280x1024, .f32⟩
  | .hbm, ⟨22, _⟩ => ⟨S_, .f32⟩
  | .hbm, ⟨23, _⟩ => ⟨S33280x1024, .f32⟩
  | .hbm, ⟨24, _⟩ => ⟨S33280x1024, .f32⟩
  | .hbm, ⟨25, _⟩ => ⟨S_, .f32⟩
  | .hbm, ⟨26, _⟩ => ⟨S33280x1024, .f32⟩
  | .hbm, ⟨27, _⟩ => ⟨S33280x1024, .f32⟩
  | .hbm, ⟨28, _⟩ => ⟨S33280x1024, .f32⟩
  | .hbm, ⟨29, _⟩ => ⟨S33280x1024, .f32⟩
  | .hbm, ⟨30, _⟩ => ⟨S33280x1024, .f32⟩
  | .hbm, ⟨31, _⟩ => ⟨S_, .f32⟩
  | .hbm, ⟨32, _⟩ => ⟨S33280x1024, .f32⟩
  | .hbm, ⟨33, _⟩ => ⟨S33280x1024, .f32⟩
  | .hbm, ⟨34, _⟩ => ⟨S33280x1024, .f32⟩
  | .hbm, ⟨35, _⟩ => ⟨S33280x1024, .f32⟩
  | .hbm, ⟨36, _⟩ => ⟨S_, .f32⟩
  | .hbm, ⟨37, _⟩ => ⟨S33280, .f32⟩
  | .hbm, ⟨38, _⟩ => ⟨S33280x1, .f32⟩
  | .hbm, ⟨39, _⟩ => ⟨S_, .f32⟩
  | .hbm, ⟨40, _⟩ => ⟨S33280x1, .f32⟩
  | .hbm, ⟨41, _⟩ => ⟨S33280x1, .f32⟩
  | .hbm, ⟨42, _⟩ => ⟨S33280x1024, .f32⟩
  | .hbm, ⟨43, _⟩ => ⟨S33280x1024, .f32⟩
  | .hbm, ⟨44, _⟩ => ⟨S33280x1024, .f32⟩
  | .hbm, ⟨45, _⟩ => ⟨S_, .f32⟩
  | .hbm, ⟨46, _⟩ => ⟨S33280, .f32⟩
  | .hbm, ⟨47, _⟩ => ⟨S33280x1, .f32⟩
  | .hbm, ⟨48, _⟩ => ⟨S_, .f32⟩
  | .hbm, ⟨49, _⟩ => ⟨S33280x1, .f32⟩
  | .hbm, ⟨50, _⟩ => ⟨S33280x1, .f32⟩
  | .hbm, ⟨51, _⟩ => ⟨S33280x1024, .f32⟩
  | .hbm, ⟨52, _⟩ => ⟨S33280x1024, .f32⟩
  | .hbm, ⟨53, _⟩ => ⟨S_, .f32⟩
  | .hbm, ⟨54, _⟩ => ⟨S33280x1, .f32⟩
  | .hbm, ⟨55, _⟩ => ⟨S33280x1, .f32⟩
  | .hbm, ⟨56, _⟩ => ⟨S33280x1, .f32⟩
  | .hbm, ⟨57, _⟩ => ⟨S33280x1024, .f32⟩
  | .hbm, ⟨58, _⟩ => ⟨S33280x1024, .f32⟩
  | .hbm, ⟨59, _⟩ => ⟨S1x1024, .f32⟩
  | .hbm, ⟨60, _⟩ => ⟨S33280x1024, .f32⟩
  | .hbm, ⟨61, _⟩ => ⟨S33280x1024, .f32⟩
  | .hbm, ⟨62, _⟩ => ⟨S1x1024, .f32⟩
  | .hbm, ⟨63, _⟩ => ⟨S33280x1024, .f32⟩
  | .hbm, ⟨64, _⟩ => ⟨S33280x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Gates.lean ====
abbrev S33280x1024 : Shape := ⟨2, ![33280, 1024]⟩
abbrev S1024x3816 : Shape := ⟨2, ![1024, 3816]⟩
abbrev S256x768 : Shape := ⟨2, ![256, 768]⟩
abbrev S128x1024 : Shape := ⟨2, ![128, 1024]⟩
abbrev S256 : Shape := ⟨1, ![256]⟩
abbrev S128 : Shape := ⟨1, ![128]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x256 : Shape := ⟨2, ![1024, 256]⟩
abbrev S1024x32 : Shape := ⟨2, ![1024, 32]⟩
abbrev S1024x1024 : Shape := ⟨2, ![1024, 1024]⟩
abbrev S1024x1x32 : Shape := ⟨3, ![1024, 1, 32]⟩
abbrev S1024x1x16 : Shape := ⟨3, ![1024, 1, 16]⟩
abbrev S_ : Shape := ⟨0, ![]⟩
abbrev S1024x1x0 : Shape := ⟨3, ![1024, 1, 0]⟩
abbrev S1024x120 : Shape := ⟨2, ![1024, 120]⟩
abbrev S1024x2272 : Shape := ⟨2, ![1024, 2272]⟩
abbrev S1024x2080 : Shape := ⟨2, ![1024, 2080]⟩
abbrev S1024x4352 : Shape := ⟨2, ![1024, 4352]⟩
abbrev S256x8x96 : Shape := ⟨3, ![256, 8, 96]⟩
abbrev S256x8x32 : Shape := ⟨3, ![256, 8, 32]⟩
abbrev S256x8x128 : Shape := ⟨3, ![256, 8, 128]⟩
abbrev S256x8x64 : Shape := ⟨3, ![256, 8, 64]⟩
abbrev S256x8x16 : Shape := ⟨3, ![256, 8, 16]⟩
abbrev S256x1024 : Shape := ⟨2, ![256, 1024]⟩
abbrev S256x2048 : Shape := ⟨2, ![256, 2048]⟩
abbrev S128x8x128 : Shape := ⟨3, ![128, 8, 128]⟩
abbrev S128x8x64 : Shape := ⟨3, ![128, 8, 64]⟩
abbrev S128x512 : Shape := ⟨2, ![128, 512]⟩
abbrev S128x1536 : Shape := ⟨2, ![128, 1536]⟩
abbrev S8320 : Shape := ⟨1, ![8320]⟩
abbrev S8 : Shape := ⟨1, ![8]⟩
abbrev S8320x1 : Shape := ⟨2, ![8320, 1]⟩
abbrev S1x8 : Shape := ⟨2, ![1, 8]⟩
abbrev S8320x8 : Shape := ⟨2, ![8320, 8]⟩
abbrev S8320x48 : Shape := ⟨2, ![8320, 48]⟩
abbrev S8320x64 : Shape := ⟨2, ![8320, 64]⟩
abbrev S8320x128 : Shape := ⟨2, ![8320, 128]⟩
abbrev S16 : Shape := ⟨1, ![16]⟩
abbrev S1x16 : Shape := ⟨2, ![1, 16]⟩
abbrev S8320x16 : Shape := ⟨2, ![8320, 16]⟩
abbrev S8320x32 : Shape := ⟨2, ![8320, 32]⟩
abbrev S1x256 : Shape := ⟨2, ![1, 256]⟩
abbrev S1x128 : Shape := ⟨2, ![1, 128]⟩
abbrev S4x8320x512 : Shape := ⟨3, ![4, 8320, 512]⟩
abbrev S4x2x8320x128 : Shape := ⟨4, ![4, 2, 8320, 128]⟩
abbrev S4x2x13x128x640 : Shape := ⟨5, ![4, 2, 13, 128, 640]⟩
abbrev S4x8320x128 : Shape := ⟨3, ![4, 8320, 128]⟩
abbrev S4x8320x1024 : Shape := ⟨3, ![4, 8320, 1024]⟩
abbrev S4x8x8320x128 : Shape := ⟨4, ![4, 8, 8320, 128]⟩
abbrev S4x8x13x128x640 : Shape := ⟨5, ![4, 8, 13, 128, 640]⟩
abbrev S640x1024 : Shape := ⟨2, ![640, 1024]⟩
abbrev S640x128 : Shape := ⟨2, ![640, 128]⟩
abbrev S1x640x512 : Shape := ⟨3, ![1, 640, 512]⟩
abbrev S1x2x640x128 : Shape := ⟨4, ![1, 2, 640, 128]⟩
abbrev S1x2x1x128x640 : Shape := ⟨5, ![1, 2, 1, 128, 640]⟩
abbrev S1x640x128 : Shape := ⟨3, ![1, 640, 128]⟩
abbrev S1x640x1024 : Shape := ⟨3, ![1, 640, 1024]⟩
abbrev S1x8x640x128 : Shape := ⟨4, ![1, 8, 640, 128]⟩
abbrev S1x8x1x128x640 : Shape := ⟨5, ![1, 8, 1, 128, 640]⟩
abbrev S640x512 : Shape := ⟨2, ![640, 512]⟩
abbrev S1x1x640x128 : Shape := ⟨4, ![1, 1, 640, 128]⟩
abbrev S128x640 : Shape := ⟨2, ![128, 640]⟩
abbrev S1x1x1x128x640 : Shape := ⟨5, ![1, 1, 1, 128, 640]⟩
abbrev S640x256 : Shape := ⟨2, ![640, 256]⟩
abbrev S640 : Shape := ⟨1, ![640]⟩
abbrev S640x1 : Shape := ⟨2, ![640, 1]⟩
abbrev S256x128 : Shape := ⟨2, ![256, 128]⟩
abbrev S128x128 : Shape := ⟨2, ![128, 128]⟩

abbrev nBuf : Space → Nat
  | .hbm => 139
  | .vmem => 37
  | .smem => 0
  | _ => 0

abbrev hbmTy0_0 (i : Nat) : BufTy := match i % 128 with
  | 0 => ⟨S33280x1024, .f32⟩
  | 1 => ⟨S1024x3816, .f32⟩
  | 2 => ⟨S256x768, .f32⟩
  | 3 => ⟨S128x1024, .f32⟩
  | 4 => ⟨S256, .f32⟩
  | 5 => ⟨S128, .f32⟩
  | 6 => ⟨S1024x512, .f32⟩
  | 7 => ⟨S1024x128, .f32⟩
  | 8 => ⟨S1024x128, .f32⟩
  | 9 => ⟨S1024x512, .f32⟩
  | 10 => ⟨S1024x64, .f32⟩
  | 11 => ⟨S1024x8, .f32⟩
  | 12 => ⟨S1024x256, .f32⟩
  | 13 => ⟨S1024x128, .f32⟩
  | 14 => ⟨S1024x32, .f32⟩
  | 15 => ⟨S1024x1024, .f32⟩
  | 16 => ⟨S1024x1024, .f32⟩
  | 17 => ⟨S1024x1x32, .f32⟩
  | 18 => ⟨S1024x1x16, .f32⟩
  | 19 => ⟨S1024x1x16, .f32⟩
  | 20 => ⟨S1024x1x16, .f32⟩
  | 21 => ⟨S_, .f32⟩
  | 22 => ⟨S1024x1x0, .f32⟩
  | 23 => ⟨S1024x1x32, .f32⟩
  | 24 => ⟨S1024x32, .f32⟩
  | 25 => ⟨S1024x64, .f32⟩
  | 26 => ⟨S1024x128, .f32⟩
  | 27 => ⟨S1024x64, .f32⟩
  | 28 => ⟨S1024x128, .f32⟩
  | 29 => ⟨S_, .f32⟩
  | 30 => ⟨S1024x120, .f32⟩
  | 31 => ⟨S_, .f32⟩
  | 32 => ⟨S1024x64, .f32⟩
  | 33 => ⟨S_, .f32⟩
  | 34 => ⟨S1024x32, .f32⟩
  | 35 => ⟨S_, .f32⟩
  | 36 => ⟨S1024x64, .f32⟩
  | 37 => ⟨S_, .f32⟩
  | 38 => ⟨S1024x32, .f32⟩
  | 39 => ⟨S1024x2272, .f32⟩
  | 40 => ⟨S1024x2080, .f32⟩
  | 41 => ⟨S1024x4352, .f32⟩
  | 42 => ⟨S1024x4352, .bf16⟩
  | 43 => ⟨S256x8x96, .f32⟩
  | 44 => ⟨S_, .f32⟩
  | 45 => ⟨S256x8x32, .f32⟩
  | 46 => ⟨S256x8x128, .f32⟩
  | 47 => ⟨S256x8x32, .f32⟩
  | 48 => ⟨S_, .f32⟩
  | 49 => ⟨S256x8x64, .f32⟩
  | 50 => ⟨S256x8x16, .f32⟩
  | 51 => ⟨S256x8x16, .f32⟩
  | 52 => ⟨S256x8x16, .f32⟩
  | 53 => ⟨S_, .f32⟩
  | 54 => ⟨S256x8x32, .f32⟩
  | 55 => ⟨S256x8x128, .f32⟩
  | 56 => ⟨S256x1024, .f32⟩
  | 57 => ⟨S256x1024, .f32⟩
  | 58 => ⟨S256x2048, .f32⟩
  | 59 => ⟨S256x2048, .bf16⟩
  | 60 => ⟨S128x8x128, .f32⟩
  | 61 => ⟨S128x8x64, .f32⟩
  | 62 => ⟨S_, .f32⟩
  | 63 => ⟨S128x8x64, .f32⟩
  | 64 => ⟨S128x8x128, .f32⟩
  | 65 => ⟨S128x1024, .f32⟩
  | 66 => ⟨S128x8x64, .f32⟩
  | 67 => ⟨S128x512, .f32⟩
  | 68 => ⟨S128x1536, .f32⟩
  | 69 => ⟨S128x1536, .bf16⟩
  | 70 => ⟨S8320, .f32⟩
  | 71 => ⟨S8, .f32⟩
  | 72 => ⟨S_, .f32⟩
  | 73 => ⟨S8, .f32⟩
  | 74 => ⟨S8, .f32⟩
  | 75 => ⟨S_, .f32⟩
  | 76 => ⟨S8, .f32⟩
  | 77 => ⟨S8, .f32⟩
  | 78 => ⟨S8, .f32⟩
  | 79 => ⟨S_, .f32⟩
  | 80 => ⟨S8, .f32⟩
  | 81 => ⟨S8, .f32⟩
  | 82 => ⟨S8320x1, .f32⟩
  | 83 => ⟨S1x8, .f32⟩
  | 84 => ⟨S8320x8, .f32⟩
  | 85 => ⟨S8320x8, .f32⟩
  | 86 => ⟨S8320x8, .f32⟩
  | 87 => ⟨S8320x8, .f32⟩
  | 88 => ⟨S8320x8, .f32⟩
  | 89 => ⟨S_, .f32⟩
  | 90 => ⟨S8320x48, .f32⟩
  | 91 => ⟨S8320x64, .f32⟩
  | 92 => ⟨S8320x8, .f32⟩
  | 93 => ⟨S_, .f32⟩
  | 94 => ⟨S8320x48, .f32⟩
  | 95 => ⟨S8320x64, .f32⟩
  | 96 => ⟨S8320x128, .f32⟩
  | 97 => ⟨S8320x128, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S16, .f32⟩
  | 106 => ⟨S_, .f32⟩
  | 107 => ⟨S16, .f32⟩
  | 108 => ⟨S16, .f32⟩
  | 109 => ⟨S8320x1, .f32⟩
  | 110 => ⟨S1x16, .f32⟩
  | 111 => ⟨S8320x16, .f32⟩
  | 112 => ⟨S8320x16, .f32⟩
  | 113 => ⟨S8320x16, .f32⟩
  | 114 => ⟨S8320x16, .f32⟩
  | 115 => ⟨S8320x16, .f32⟩
  | 116 => ⟨S_, .f32⟩
  | 117 => ⟨S8320x64, .f32⟩
  | 118 => ⟨S_, .f32⟩
  | 119 => ⟨S8320x32, .f32⟩
  | 120 => ⟨S8320x128, .f32⟩
  | 121 => ⟨S_, .f32⟩
  | 122 => ⟨S8320x64, .f32⟩
  | 123 => ⟨S_, .f32⟩
  | 124 => ⟨S8320x32, .f32⟩
  | 125 => ⟨S8320x128, .f32⟩
  | 126 => ⟨S1x256, .f32⟩
  | 127 => ⟨S1x128, .f32⟩
  | _ => ⟨S33280x1024, .f32⟩

abbrev hbmTy0_1 (i : Nat) : BufTy := match i % 128 with
  | 0 => ⟨S4x8320x512, .bf16⟩
  | 1 => ⟨S4x2x8320x128, .bf16⟩
  | 2 => ⟨S4x2x13x128x640, .bf16⟩
  | 3 => ⟨S4x8320x512, .bf16⟩
  | 4 => ⟨S4x8320x128, .bf16⟩
  | 5 => ⟨S4x8320x128, .f32⟩
  | 6 => ⟨S4x8320x1024, .bf16⟩
  | 7 => ⟨S4x8x8320x128, .bf16⟩
  | 8 => ⟨S4x8x13x128x640, .bf16⟩
  | 9 => ⟨S33280x1024, .bf16⟩
  | 10 => ⟨S33280x1024, .bf16⟩
  | _ => ⟨S33280x1024, .f32⟩

abbrev hbmTy (i : Nat) : BufTy := match i / 128 with
  | 0 => hbmTy0_0 i
  | 1 => hbmTy0_1 i
  | _ => ⟨S33280x1024, .f32⟩

abbrev bufTy : (tb : Table) → Fin (tcTables nBuf tb) → BufTy
  | .hbm, ⟨i, _⟩ => hbmTy i
  | .local _ .vmem, ⟨0, _⟩ => ⟨S640x1024, .f32⟩
  | .local _ .vmem, ⟨1, _⟩ => ⟨S640x1024, .f32⟩
  | .local _ .vmem, ⟨2, _⟩ => ⟨S1024x4352, .bf16⟩
  | .local _ .vmem, ⟨3, _⟩ => ⟨S640x128, .f32⟩
  | .local _ .vmem, ⟨4, _⟩ => ⟨S640x128, .f32⟩
  | .local _ .vmem, ⟨5, _⟩ => ⟨S640x128, .f32⟩
  | .local _ .vmem, ⟨6, _⟩ => ⟨S640x128, .f32⟩
  | .local _ .vmem, ⟨7, _⟩ => ⟨S640x128, .f32⟩
  | .local _ .vmem, ⟨8, _⟩ => ⟨S640x128, .f32⟩
  | .local _ .vmem, ⟨9, _⟩ => ⟨S640x128, .f32⟩
  | .local _ .vmem, ⟨10, _⟩ => ⟨S640x128, .f32⟩
  | .local _ .vmem, ⟨11, _⟩ => ⟨S1x256, .f32⟩
  | .local _ .vmem, ⟨12, _⟩ => ⟨S1x128, .f32⟩
  | .local _ .vmem, ⟨13, _⟩ => ⟨S256x2048, .bf16⟩
  | .local _ .vmem, ⟨14, _⟩ => ⟨S128x1536, .bf16⟩
  | .local _ .vmem, ⟨15, _⟩ => ⟨S1x640x512, .bf16⟩
  | .local _ .vmem, ⟨16, _⟩ => ⟨S1x640x512, .bf16⟩
  | .local _ .vmem, ⟨17, _⟩ => ⟨S1x2x640x128, .bf16⟩
  | .local _ .vmem, ⟨18, _⟩ => ⟨S1x2x640x128, .bf16⟩
  | .local _ .vmem, ⟨19, _⟩ => ⟨S1x2x1x128x640, .bf16⟩
  | .local _ .vmem, ⟨20, _⟩ => ⟨S1x2x1x128x640, .bf16⟩
  | .local _ .vmem, ⟨21, _⟩ => ⟨S1x640x512, .bf16⟩
  | .local _ .vmem, ⟨22, _⟩ => ⟨S1x640x512, .bf16⟩
  | .local _ .vmem, ⟨23, _⟩ => ⟨S1x640x128, .bf16⟩
  | .local _ .vmem, ⟨24, _⟩ => ⟨S1x640x128, .bf16⟩
  | .local _ .vmem, ⟨25, _⟩ => ⟨S1x640x128, .f32⟩
  | .local _ .vmem, ⟨26, _⟩ => ⟨S1x640x128, .f32⟩
  | .local _ .vmem, ⟨27, _⟩ => ⟨S1x640x1024, .bf16⟩
  | .local _ .vmem, ⟨28, _⟩ => ⟨S1x640x1024, .bf16⟩
  | .local _ .vmem, ⟨29, _⟩ => ⟨S1x8x640x128, .bf16⟩
  | .local _ .vmem, ⟨30, _⟩ => ⟨S1x8x640x128, .bf16⟩
  | .local _ .vmem, ⟨31, _⟩ => ⟨S1x8x1x128x640, .bf16⟩
  | .local _ .vmem, ⟨32, _⟩ => ⟨S1x8x1x128x640, .bf16⟩
  | .local _ .vmem, ⟨33, _⟩ => ⟨S640x1024, .bf16⟩
  | .local _ .vmem, ⟨34, _⟩ => ⟨S640x1024, .bf16⟩
  | .local _ .vmem, ⟨35, _⟩ => ⟨S640x1024, .bf16⟩
  | .local _ .vmem, ⟨36, _⟩ => ⟨S640x1024, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_13 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_14 : Ref sig .tc := ⟨.hbm, 99, rfl⟩
abbrev main_v78 : Ref sig .tc := ⟨.hbm, 100, rfl⟩
abbrev main_v79 : Ref sig .tc := ⟨.hbm, 101, rfl⟩
abbrev main_cst_15 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_16 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_17 : Ref sig .tc := ⟨.hbm, 116, rfl⟩
abbrev main_v92 : Ref sig .tc := ⟨.hbm, 117, rfl⟩
abbrev main_cst_18 : Ref sig .tc := ⟨.hbm, 118, rfl⟩
abbrev main_v93 : Ref sig .tc := ⟨.hbm, 119, rfl⟩
abbrev main_v94 : Ref sig .tc := ⟨.hbm, 120, rfl⟩
abbrev main_cst_19 : Ref sig .tc := ⟨.hbm, 121, rfl⟩
abbrev main_v95 : Ref sig .tc := ⟨.hbm, 122, rfl⟩
abbrev main_cst_20 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100_0 : Ref sig .tc := ⟨.hbm, 128, rfl⟩
abbrev main_v100_1 : Ref sig .tc := ⟨.hbm, 129, rfl⟩
abbrev main_v100_2 : Ref sig .tc := ⟨.hbm, 130, rfl⟩
abbrev main_v100_3 : Ref sig .tc := ⟨.hbm, 131, rfl⟩
abbrev main_v100_4 : Ref sig .tc := ⟨.hbm, 132, rfl⟩
abbrev main_v100_5 : Ref sig .tc := ⟨.hbm, 133, rfl⟩
abbrev main_v100_6 : Ref sig .tc := ⟨.hbm, 134, rfl⟩
abbrev main_v100_7 : Ref sig .tc := ⟨.hbm, 135, rfl⟩
abbrev main_v100_8 : Ref sig .tc := ⟨.hbm, 136, rfl⟩
abbrev main_v100_9 : Ref sig .tc := ⟨.hbm, 137, rfl⟩
abbrev main_v100_10 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_19 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4352 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x640x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x640x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x1x128x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x640x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x640x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x640x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x640x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x640x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x1x128x640 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S640x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S640x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== GatesReferenceIdeal.lean ====
abbrev S33280x1024 : Shape := ⟨2, ![33280, 1024]⟩
abbrev S1024x3816 : Shape := ⟨2, ![1024, 3816]⟩
abbrev S256x768 : Shape := ⟨2, ![256, 768]⟩
abbrev S128x1024 : Shape := ⟨2, ![128, 1024]⟩
abbrev S256 : Shape := ⟨1, ![256]⟩
abbrev S128 : Shape := ⟨1, ![128]⟩
abbrev S33280x3816 : Shape := ⟨2, ![33280, 3816]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024x3816, .f32⟩
  | .hbm, ⟨2, _⟩ => ⟨S256x768, .f32⟩
  | .hbm, ⟨3, _⟩ => ⟨S128x1024, .f32⟩
  | .hbm, ⟨4, _⟩ => ⟨S256, .f32⟩
  | .hbm, ⟨5, _⟩ => ⟨S128, .f32⟩
  | .hbm, ⟨6, _⟩ => ⟨S33280x3816, .f32⟩
  | .hbm, ⟨7, _⟩ => ⟨S33280x1024, .f32⟩
  | .hbm, ⟨8, _⟩ => ⟨S33280x1024, .f32⟩
  | .hbm, ⟨9, _⟩ => ⟨S33280x1024, .f32⟩
  | .hbm, ⟨10, _⟩ => ⟨S33280x1024, .f32⟩
  | .hbm, ⟨11, _⟩ => ⟨S_, .f32⟩
  | .hbm, ⟨12, _⟩ => ⟨S33280x1024, .f32⟩
  | .hbm, ⟨13, _⟩ => ⟨S33280x1024, .f32⟩
  | .hbm, ⟨14, _⟩ => ⟨S_, .f32⟩
  | .hbm, ⟨15, _⟩ => ⟨S33280x1024, .f32⟩
  | .hbm, ⟨16, _⟩ => ⟨S33280x1024, .f32⟩
  | .hbm, ⟨17, _⟩ => ⟨S33280x1024, .bf16⟩
  | .hbm, ⟨18, _⟩ => ⟨S33280x1024, .f32⟩
  | .hbm, ⟨19, _⟩ => ⟨S33280x1024, .f32⟩
  | .hbm, ⟨20, _⟩ => ⟨S_, .f32⟩
  | .hbm, ⟨21, _⟩ => ⟨S33280x1024, .f32⟩
  | .hbm, ⟨22, _⟩ => ⟨S33280x1024, .f32⟩
  | .hbm, ⟨23, _⟩ => ⟨S_, .f32⟩
  | .hbm, ⟨24, _⟩ => ⟨S33280x1024, .f32⟩
  | .hbm, ⟨25, _⟩ => ⟨S33280x1024, .f32⟩
  | .hbm, ⟨26, _⟩ => ⟨S33280x1024, .bf16⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.KI.Steps.lean ====
/-
  The mathematics of one grid point of the attention kernel, as vector terms: what a key step computes for one head
  (its scores, their column maxima, the running maximum, the running sum of weighted values), what the output block is,
  and where the program's computed offsets lie.
-/
module

public import proofs.«01_k».proof.Proof.Gen.KernelIdeal.Skeleton
public import Idealize.ShloMosaic.Lib.Pipeline.FrameBody
public import Idealize.ShloMosaic.Lib.Pipeline.ReadBack

@[expose] public section

set_option maxRecDepth 16384

noncomputable section

namespace Cert.KernelIdeal.Mla

open Cert.KernelIdeal Cert.KernelIdeal.Gen
open Idealize.ShloMosaic Idealize.ShloMosaic.TcCoe Idealize.SL.Sem

variable {F : FTy → Type} [FloatOps F]

/-- Head `h`'s lanes of the query block lie inside it. -/
theorem q_inb (h : Fin 4) : ∀ a, (![0, 0, 128 * h.val] : Fin 3 → ℕ) a + S1x640x128.size a ≤ S1x640x512.size a := by
  revert h; decide
/-- Head `h`'s block `j % 13` of 640 keys lies inside the keys. -/
theorem k_inb (h : Fin 4) (j : ℕ) : ∀ a, (![0, h.val, 640 * (j % 13), 0] : Fin 4 → ℕ) a + S1x1x640x128.size a ≤ S1x4x8320x128.size a := by
  have H : ∀ (n : Fin 13) (h : Fin 4) (a : Fin 4), (![0, h.val, 640 * n.val, 0] : Fin 4 → ℕ) a + S1x1x640x128.size a ≤ S1x4x8320x128.size a := by decide
  exact H ⟨j % 13, Nat.mod_lt _ (by decide)⟩ h
/-- Head `h`'s block `j % 13` of transposed values lies inside the values. -/
theorem v_inb (h : Fin 4) (j : ℕ) : ∀ a, (![0, h.val, j % 13, 0, 0] : Fin 5 → ℕ) a + S1x1x1x128x640.size a ≤ S1x4x13x128x640.size a := by
  have H : ∀ (n : Fin 13) (h : Fin 4) (a : Fin 5), (![0, h.val, n.val, 0, 0] : Fin 5 → ℕ) a + S1x1x1x128x640.size a ≤ S1x4x13x128x640.size a := by decide
  exact H ⟨j % 13, Nat.mod_lt _ (by decide)⟩ h

/-- The query block of head `h`. -/
def qS (x0 : Vec F S1x640x512 .bf16) (h : Fin 4) : Vec F S1x640x128 .bf16 :=
  View.ld x0 (Rect.unit ![0, 0, 128 * h.val] S1x640x128.size (q_inb h))
/-- Key block `j` of head `h`. -/
def kS (x1 : Vec F S1x4x8320x128 .bf16) (h : Fin 4) (j : ℕ) : Vec F S1x1x640x128 .bf16 :=
  View.ld x1 (Rect.unit ![0, h.val, 640 * (j % 13), 0] S1x1x640x128.size (k_inb h j))
/-- Value block `j` of head `h`, transposed. -/
def vS (x2 : Vec F S1x4x13x128x640 .bf16) (h : Fin 4) (j : ℕ) : Vec F S1x1x1x128x640 .bf16 :=
  View.ld x2 (Rect.unit ![0, h.val, j % 13, 0, 0] S1x1x1x128x640.size (v_inb h j))
/-- The bias added to the scores of key block `j`: the causal one on the diagonal block, none before it. -/
def bias (i : grid0.Coords) (j : ℕ) : Vec F S1x640x640 .f32 :=
  if j = (i 2).val then k0_pay344 else k0_pay343

/-- The scores of head `h` against key block `j`: keys down, queries across. -/
def sc (i : grid0.Coords) (x0 : Vec F S1x640x512 .bf16) (x1 : Vec F S1x4x8320x128 .bf16) (h : Fin 4) (j : ℕ) : FVec F S640x640 .f32 :=
  addf (matmul dot_S640x128_S640x128_S640x640_1_1_0_0_n_n none
      (shapeCast S640x128 (kS x1 h j) shapeCasts_S1x1x640x128_S640x128)
      (shapeCast S640x128 (qS x0 h) shapeCasts_S1x640x128_S640x128)
      (constant S640x640 .f32 0x00000000#32))
    (shapeCast S640x640 (bias i j) shapeCasts_S1x640x640_S640x640)
/-- The maximum of each query's scores in key block `j`. -/
def mx (i : grid0.Coords) (x0 : Vec F S1x640x512 .bf16) (x1 : Vec F S1x4x8320x128 .bf16) (h : Fin 4) (j : ℕ) : FVec F S1x640 .f32 :=
  shapeCast S1x640 (multiReduction .maximumf [0] S640 (sc i x0 x1 h j) 0xFF800000#32 reduces_S640x640_S640 (.inl rfl) rfl) shapeCasts_S640_S1x640
/-- The scores as the buffer between the two halves of a step holds them. -/
def buf (i : grid0.Coords) (x0 : Vec F S1x640x512 .bf16) (x1 : Vec F S1x4x8320x128 .bf16) (h : Fin 4) (j : ℕ) : FVec F S1x640x640 .f32 :=
  shapeCast S1x640x640 (sc i x0 x1 h j) shapeCasts_S640x640_S1x640x640
/-- The running maximum before key block `j`. -/
def M (i : grid0.Coords) (x0 : Vec F S1x640x512 .bf16) (x1 : Vec F S1x4x8320x128 .bf16) (h : Fin 4) : ℕ → FVec F S1x640 .f32
  | 0 => k0_pay345
  | j + 1 => maximumf (M i x0 x1 h j) (mx i x0 x1 h j)
/-- One step of the running sum: what was summed so far, scaled to the new maximum, plus the block's weighted values. -/
def stepA (m m' : FVec F S1x640 .f32) (b : Vec F S1x640x640 .f32) (a : Vec F S1x128x640 .f32) (v : Vec F S1x1x1x128x640 .bf16) : FVec F S1x128x640 .f32 :=
  shapeCast S1x128x640
    (addf (mulf (shapeCast S128x640 a shapeCasts_S1x128x640_S128x640) (broadcastTo S128x640 (exp2 (subf m m')) broadcasts_S1x640_S128x640))
      (matmul dot_S128x640_S640x640_S128x640_1_0_0_1_n_n none
        (shapeCast S128x640 v shapeCasts_S1x1x1x128x640_S128x640)
        (truncf .bf16 (exp2 (subf (shapeCast S640x640 b shapeCasts_S1x640x640_S640x640) (broadcastTo S640x640 m' broadcasts_S1x640_S640x640))) bitsLt_bf16_f32)
        (constant S128x640 .f32 0x00000000#32)))
    shapeCasts_S128x640_S1x128x640
/-- The running sum before key block `j`. -/
def A (i : grid0.Coords) (x0 : Vec F S1x640x512 .bf16) (x1 : Vec F S1x4x8320x128 .bf16) (x2 : Vec F S1x4x13x128x640 .bf16) (h : Fin 4) : ℕ → FVec F S1x128x640 .f32
  | 0 => fun _ => Scalar.ofBits .f32 0x00000000#32
  | j + 1 => stepA (M i x0 x1 h j) (M i x0 x1 h (j + 1)) (buf i x0 x1 h j) (A i x0 x1 x2 h j) (vS x2 h j)

/-- A head's sum over its weight row, queries down. -/
def nrm (a : FVec F S1x128x640 .f32) : FVec F S640x128 .f32 :=
  transpose S640x128 [1, 0]
    (divf (shapeCast S128x640 a shapeCasts_S1x128x640_S128x640)
      (broadcastTo S128x640 (extractStridedSlice S1x640 ![64, 0] (shapeCast S128x640 a shapeCasts_S1x128x640_S128x640) slices_S128x640_o64_0_S1x640) broadcasts_S1x640_S128x640))
    transposes_S128x640_p1_0_S640x128

/-- The block of the output a grid point stores. -/
def outVal (i : grid0.Coords) (x0 : Vec F S1x640x512 .bf16) (x1 : Vec F S1x4x8320x128 .bf16) (x2 : Vec F S1x4x13x128x640 .bf16) : Vec F S640x256 .bf16 :=
  k0_pay1 (nrm (A i x0 x1 x2 0 ((i 2).val + 1)))
    (shapeCast S128x640 (A i x0 x1 x2 1 ((i 2).val + 1)) shapeCasts_S1x128x640_S128x640)
    (shapeCast S128x640 (A i x0 x1 x2 2 ((i 2).val + 1)) shapeCasts_S1x128x640_S128x640)
    (shapeCast S128x640 (A i x0 x1 x2 3 ((i 2).val + 1)) shapeCasts_S1x128x640_S128x640)

/-- Plane `n` of the bias buffer lies inside it. -/
theorem b_inb (n : Fin 2) : ∀ a, (![n.val, 0, 0] : Fin 3 → ℕ) a + S1x640x640.size a ≤ S2x640x640.size a := by
  revert n; decide

/-- What the key loops keep true before key block `j`: the carried maxima, the next block's maxima, the running sums and
the buffered scores. -/
structure Good (i : grid0.Coords) (x0 : Vec F S1x640x512 .bf16) (x1 : Vec F S1x4x8320x128 .bf16) (x2 : Vec F S1x4x13x128x640 .bf16) (j : ℕ)
    (acc : FVec F S1x640 .f32 × FVec F S1x640 .f32 × FVec F S1x640 .f32 × FVec F S1x640 .f32 × FVec F S1x640 .f32 × FVec F S1x640 .f32 × FVec F S1x640 .f32 × FVec F S1x640 .f32)
    (g7 : S4x128x640.Idx → Elt F .f32) (g9 : S4x640x640.Idx → Elt F .f32) : Prop where
  acc_eq : acc = (M i x0 x1 0 j, M i x0 x1 1 j, M i x0 x1 2 j, M i x0 x1 3 j, mx i x0 x1 0 j, mx i x0 x1 1 j, mx i x0 x1 2 j, mx i x0 x1 3 j)
  a0 : View.ld g7 (Rect.unit (s := S4x128x640) ![0, 0, 0] S1x128x640.size inb_S4x128x640_S1x128x640_0_0_0) = A i x0 x1 x2 0 j
  a1 : View.ld g7 (Rect.unit (s := S4x128x640) ![1, 0, 0] S1x128x640.size inb_S4x128x640_S1x128x640_1_0_0) = A i x0 x1 x2 1 j
  a2 : View.ld g7 (Rect.unit (s := S4x128x640) ![2, 0, 0] S1x128x640.size inb_S4x128x640_S1x128x640_2_0_0) = A i x0 x1 x2 2 j
  a3 : View.ld g7 (Rect.unit (s := S4x128x640) ![3, 0, 0] S1x128x640.size inb_S4x128x640_S1x128x640_3_0_0) = A i x0 x1 x2 3 j
  b0 : View.ld g9 (Rect.unit (s := S4x640x640) ![0, 0, 0] S1x640x640.size inb_S4x640x640_S1x640x640_0_0_0) = buf i x0 x1 0 j
  b1 : View.ld g9 (Rect.unit (s := S4x640x640) ![1, 0, 0] S1x640x640.size inb_S4x640x640_S1x640x640_1_0_0) = buf i x0 x1 1 j
  b2 : View.ld g9 (Rect.unit (s := S4x640x640) ![2, 0, 0] S1x640x640.size inb_S4x640x640_S1x640x640_2_0_0) = buf i x0 x1 2 j
  b3 : View.ld g9 (Rect.unit (s := S4x640x640) ![3, 0, 0] S1x640x640.size inb_S4x640x640_S1x640x640_3_0_0) = buf i x0 x1 3 j

/-- The bias buffer as the point's first stores leave it: nothing in plane 0, the causal bias in plane 1. -/
def Tri (g8 : S2x640x640.Idx → Elt F .f32) : Prop :=
  View.ld g8 (Rect.unit ![0, 0, 0] S1x640x640.size inb_S2x640x640_S1x640x640_0_0_0) = k0_pay343 ∧
  View.ld g8 (Rect.unit ![1, 0, 0] S1x640x640.size inb_S2x640x640_S1x640x640_1_0_0) = k0_pay344

section Reads

variable {sig' : RefSig} {κ : Kind} {sp : Space}

/-- A load of head `h`'s queries. -/
theorem read_q (v : View sig' κ sp S1x640x512 .bf16) (f : v.ty.Contents (Elt F)) (x0 : Vec F S1x640x512 .bf16) (hf : v.read (Elt F) f = x0)
    (h : Fin 4) (off : Fin 3 → ℕ) (inb) (ho : off = ![0, 0, 128 * h.val]) :
    v.readAt (Elt F) (Rect.unit (s := S1x640x512) off S1x640x128.size inb).toLoadRect f = qS x0 h := by
  subst ho hf; rfl
/-- A load of head `h`'s key block `j`. -/
theorem read_k (v : View sig' κ sp S1x4x8320x128 .bf16) (f : v.ty.Contents (Elt F)) (x1 : Vec F S1x4x8320x128 .bf16) (hf : v.read (Elt F) f = x1)
    (h : Fin 4) (j : ℕ) (off : Fin 4 → ℕ) (inb) (ho : off = ![0, h.val, 640 * (j % 13), 0]) :
    v.readAt (Elt F) (Rect.unit (s := S1x4x8320x128) off S1x1x640x128.size inb).toLoadRect f = kS x1 h j := by
  subst ho hf; rfl
/-- A load of head `h`'s value block `j`. -/
theorem read_v (v : View sig' κ sp S1x4x13x128x640 .bf16) (f : v.ty.Contents (Elt F)) (x2 : Vec F S1x4x13x128x640 .bf16) (hf : v.read (Elt F) f = x2)
    (h : Fin 4) (j : ℕ) (off : Fin 5 → ℕ) (inb) (ho : off = ![0, h.val, j % 13, 0, 0]) :
    v.readAt (Elt F) (Rect.unit (s := S1x4x13x128x640) off S1x1x1x128x640.size inb).toLoadRect f = vS x2 h j := by
  subst ho hf; rfl
/-- A load of the bias of key block `j`. -/
theorem read_b (v : View sig' κ sp S2x640x640 .f32) (f : v.ty.Contents (Elt F)) (hf : Tri (v.read (Elt F) f)) (i : grid0.Coords)
    (j : ℕ) (off : Fin 3 → ℕ) (inb) (ho : off = ![(if j = (i 2).val then 1 else 0), 0, 0]) :
    v.readAt (Elt F) (Rect.unit (s := S2x640x640) off S1x640x640.size inb).toLoadRect f = bias i j := by
  unfold bias
  by_cases hj : j = (i 2).val
  · rw [if_pos hj] at ho ⊢; subst ho; exact hf.2
  · rw [if_neg hj] at ho ⊢; subst ho; exact hf.1

/-- A load through the newest store's own rectangle reads its payload. -/
theorem ld_hit {s : Shape} {e : EltTy} (v : View sig' κ sp s e) (f : v.ty.Contents (Elt F)) (r : Rect s) (w : r.shape.Idx → Elt F e)
    (L : List (View.Piece (Elt F) s e)) : View.ld (v.read (Elt F) (v.writes (Elt F) f (⟨r, w⟩ :: L))) r = w :=
  funext fun x => View.read_writes_cons_emb v f r w L x
/-- A load that the newest store misses reads what the earlier stores left. -/
theorem ld_skip {s : Shape} {e : EltTy} (v : View sig' κ sp s e) (f : v.ty.Contents (Elt F)) (r r' : Rect s) (w : r.shape.Idx → Elt F e)
    (L : List (View.Piece (Elt F) s e)) (h : LoadRect.disj r r'.toLoadRect = true) :
    View.ld (v.read (Elt F) (v.writes (Elt F) f (⟨r, w⟩ :: L))) r' = View.ld (v.read (Elt F) (v.writes (Elt F) f L)) r' :=
  funext fun x => View.read_writes_cons_miss v f ⟨r, w⟩ L _ (LoadRect.idx_not_mem_of_disj h x)

end Reads

end Cert.KernelIdeal.Mla

end
-- ==== Proof.KI.Offsets.lean ====
/-
  Where the loads of the attention kernel lie: each offset the program computes from the grid point and the trip, and the
  trip counts of its loops, in closed form.
-/
module

public import proofs.«01_k».proof.Proof.Gen.KernelIdeal

@[expose] public section

set_option maxRecDepth 16384

namespace Cert.KernelIdeal.Mla

open Cert.KernelIdeal Cert.KernelIdeal.Gen
open Idealize.ShloMosaic Idealize.ShloMosaic.TcCoe Idealize.SL.Sem

/-! ### The program's offsets -/
theorem off2_1 : ∀ (i : grid0.Coords) (k : Fin (k0_t1_loop i).trips), k0_off2 i k 1#32 = ![(if 4 * k.val + 1 = (i 2).val then 1 else 0), 0, 0] := by decide +kernel
theorem off3_1 : ∀ (i : grid0.Coords) (k : Fin (k0_t1_loop i).trips), k0_off3 i k 1#32 = ![0, 0, 640 * ((4 * k.val + 1) % 13), 0] := by decide +kernel
theorem off4_1 : ∀ (i : grid0.Coords) (k : Fin (k0_t1_loop i).trips), k0_off4 i k 1#32 = ![0, 1, 640 * ((4 * k.val + 1) % 13), 0] := by decide +kernel
theorem off5_1 : ∀ (i : grid0.Coords) (k : Fin (k0_t1_loop i).trips), k0_off5 i k 1#32 = ![0, 2, 640 * ((4 * k.val + 1) % 13), 0] := by decide +kernel
theorem off6_1 : ∀ (i : grid0.Coords) (k : Fin (k0_t1_loop i).trips), k0_off6 i k 1#32 = ![0, 3, 640 * ((4 * k.val + 1) % 13), 0] := by decide +kernel
theorem off2_2 : ∀ (i : grid0.Coords) (k : Fin (k0_t1_loop i).trips), k0_off2 i k 2#32 = ![(if 4 * k.val + 2 = (i 2).val then 1 else 0), 0, 0] := by decide +kernel
theorem off3_2 : ∀ (i : grid0.Coords) (k : Fin (k0_t1_loop i).trips), k0_off3 i k 2#32 = ![0, 0, 640 * ((4 * k.val + 2) % 13), 0] := by decide +kernel
theorem off4_2 : ∀ (i : grid0.Coords) (k : Fin (k0_t1_loop i).trips), k0_off4 i k 2#32 = ![0, 1, 640 * ((4 * k.val + 2) % 13), 0] := by decide +kernel
theorem off5_2 : ∀ (i : grid0.Coords) (k : Fin (k0_t1_loop i).trips), k0_off5 i k 2#32 = ![0, 2, 640 * ((4 * k.val + 2) % 13), 0] := by decide +kernel
theorem off6_2 : ∀ (i : grid0.Coords) (k : Fin (k0_t1_loop i).trips), k0_off6 i k 2#32 = ![0, 3, 640 * ((4 * k.val + 2) % 13), 0] := by decide +kernel
theorem off15_1 : ∀ (i : grid0.Coords) (k : Fin (k0_t1_loop i).trips), k0_off15 i k 1#32 = ![(if 4 * k.val + 3 = (i 2).val then 1 else 0), 0, 0] := by decide +kernel
theorem off16_1 : ∀ (i : grid0.Coords) (k : Fin (k0_t1_loop i).trips), k0_off16 i k 1#32 = ![0, 0, 640 * ((4 * k.val + 3) % 13), 0] := by decide +kernel
theorem off17_1 : ∀ (i : grid0.Coords) (k : Fin (k0_t1_loop i).trips), k0_off17 i k 1#32 = ![0, 1, 640 * ((4 * k.val + 3) % 13), 0] := by decide +kernel
theorem off18_1 : ∀ (i : grid0.Coords) (k : Fin (k0_t1_loop i).trips), k0_off18 i k 1#32 = ![0, 2, 640 * ((4 * k.val + 3) % 13), 0] := by decide +kernel
theorem off19_1 : ∀ (i : grid0.Coords) (k : Fin (k0_t1_loop i).trips), k0_off19 i k 1#32 = ![0, 3, 640 * ((4 * k.val + 3) % 13), 0] := by decide +kernel
theorem off15_2 : ∀ (i : grid0.Coords) (k : Fin (k0_t1_loop i).trips), k0_off15 i k 2#32 = ![(if 4 * k.val + 4 = (i 2).val then 1 else 0), 0, 0] := by decide +kernel
theorem off16_2 : ∀ (i : grid0.Coords) (k : Fin (k0_t1_loop i).trips), k0_off16 i k 2#32 = ![0, 0, 640 * ((4 * k.val + 4) % 13), 0] := by decide +kernel
theorem off17_2 : ∀ (i : grid0.Coords) (k : Fin (k0_t1_loop i).trips), k0_off17 i k 2#32 = ![0, 1, 640 * ((4 * k.val + 4) % 13), 0] := by decide +kernel
theorem off18_2 : ∀ (i : grid0.Coords) (k : Fin (k0_t1_loop i).trips), k0_off18 i k 2#32 = ![0, 2, 640 * ((4 * k.val + 4) % 13), 0] := by decide +kernel
theorem off19_2 : ∀ (i : grid0.Coords) (k : Fin (k0_t1_loop i).trips), k0_off19 i k 2#32 = ![0, 3, 640 * ((4 * k.val + 4) % 13), 0] := by decide +kernel
theorem off54_1 : ∀ (i : grid0.Coords) (k : Fin (k0_t3_loop i).trips), k0_off54 i k 1#32 = ![(if 4 * ((i 2).val / 4) + 2 * k.val + 1 = (i 2).val then 1 else 0), 0, 0] := by decide +kernel
theorem off55_1 : ∀ (i : grid0.Coords) (k : Fin (k0_t3_loop i).trips), k0_off55 i k 1#32 = ![0, 0, 640 * ((4 * ((i 2).val / 4) + 2 * k.val + 1) % 13), 0] := by decide +kernel
theorem off56_1 : ∀ (i : grid0.Coords) (k : Fin (k0_t3_loop i).trips), k0_off56 i k 1#32 = ![0, 1, 640 * ((4 * ((i 2).val / 4) + 2 * k.val + 1) % 13), 0] := by decide +kernel
theorem off57_1 : ∀ (i : grid0.Coords) (k : Fin (k0_t3_loop i).trips), k0_off57 i k 1#32 = ![0, 2, 640 * ((4 * ((i 2).val / 4) + 2 * k.val + 1) % 13), 0] := by decide +kernel
theorem off58_1 : ∀ (i : grid0.Coords) (k : Fin (k0_t3_loop i).trips), k0_off58 i k 1#32 = ![0, 3, 640 * ((4 * ((i 2).val / 4) + 2 * k.val + 1) % 13), 0] := by decide +kernel
theorem off54_2 : ∀ (i : grid0.Coords) (k : Fin (k0_t3_loop i).trips), k0_off54 i k 2#32 = ![(if 4 * ((i 2).val / 4) + 2 * k.val + 2 = (i 2).val then 1 else 0), 0, 0] := by decide +kernel
theorem off55_2 : ∀ (i : grid0.Coords) (k : Fin (k0_t3_loop i).trips), k0_off55 i k 2#32 = ![0, 0, 640 * ((4 * ((i 2).val / 4) + 2 * k.val + 2) % 13), 0] := by decide +kernel
theorem off56_2 : ∀ (i : grid0.Coords) (k : Fin (k0_t3_loop i).trips), k0_off56 i k 2#32 = ![0, 1, 640 * ((4 * ((i 2).val / 4) + 2 * k.val + 2) % 13), 0] := by decide +kernel
theorem off57_2 : ∀ (i : grid0.Coords) (k : Fin (k0_t3_loop i).trips), k0_off57 i k 2#32 = ![0, 2, 640 * ((4 * ((i 2).val / 4) + 2 * k.val + 2) % 13), 0] := by decide +kernel
theorem off58_2 : ∀ (i : grid0.Coords) (k : Fin (k0_t3_loop i).trips), k0_off58 i k 2#32 = ![0, 3, 640 * ((4 * ((i 2).val / 4) + 2 * k.val + 2) % 13), 0] := by decide +kernel
theorem off7_0 : ∀ (i : grid0.Coords) (k : Fin (k0_t1_loop i).trips), k0_off7 i k = ![0, 0, (4 * k.val) % 13, 0, 0] := by decide +kernel
theorem off8_0 : ∀ (i : grid0.Coords) (k : Fin (k0_t1_loop i).trips), k0_off8 i k = ![0, 1, (4 * k.val) % 13, 0, 0] := by decide +kernel
theorem off9_0 : ∀ (i : grid0.Coords) (k : Fin (k0_t1_loop i).trips), k0_off9 i k = ![0, 2, (4 * k.val) % 13, 0, 0] := by decide +kernel
theorem off10_0 : ∀ (i : grid0.Coords) (k : Fin (k0_t1_loop i).trips), k0_off10 i k = ![0, 3, (4 * k.val) % 13, 0, 0] := by decide +kernel
theorem off11_0 : ∀ (i : grid0.Coords) (k : Fin (k0_t1_loop i).trips), k0_off11 i k = ![0, 0, (4 * k.val + 1) % 13, 0, 0] := by decide +kernel
theorem off12_0 : ∀ (i : grid0.Coords) (k : Fin (k0_t1_loop i).trips), k0_off12 i k = ![0, 1, (4 * k.val + 1) % 13, 0, 0] := by decide +kernel
theorem off13_0 : ∀ (i : grid0.Coords) (k : Fin (k0_t1_loop i).trips), k0_off13 i k = ![0, 2, (4 * k.val + 1) % 13, 0, 0] := by decide +kernel
theorem off14_0 : ∀ (i : grid0.Coords) (k : Fin (k0_t1_loop i).trips), k0_off14 i k = ![0, 3, (4 * k.val + 1) % 13, 0, 0] := by decide +kernel
theorem off20_0 : ∀ (i : grid0.Coords) (k : Fin (k0_t1_loop i).trips), k0_off20 i k = ![0, 0, (4 * k.val + 2) % 13, 0, 0] := by decide +kernel
theorem off21_0 : ∀ (i : grid0.Coords) (k : Fin (k0_t1_loop i).trips), k0_off21 i k = ![0, 1, (4 * k.val + 2) % 13, 0, 0] := by decide +kernel
theorem off22_0 : ∀ (i : grid0.Coords) (k : Fin (k0_t1_loop i).trips), k0_off22 i k = ![0, 2, (4 * k.val + 2) % 13, 0, 0] := by decide +kernel
theorem off23_0 : ∀ (i : grid0.Coords) (k : Fin (k0_t1_loop i).trips), k0_off23 i k = ![0, 3, (4 * k.val + 2) % 13, 0, 0] := by decide +kernel
theorem off24_0 : ∀ (i : grid0.Coords) (k : Fin (k0_t1_loop i).trips), k0_off24 i k = ![0, 0, (4 * k.val + 3) % 13, 0, 0] := by decide +kernel
theorem off25_0 : ∀ (i : grid0.Coords) (k : Fin (k0_t1_loop i).trips), k0_off25 i k = ![0, 1, (4 * k.val + 3) % 13, 0, 0] := by decide +kernel
theorem off26_0 : ∀ (i : grid0.Coords) (k : Fin (k0_t1_loop i).trips), k0_off26 i k = ![0, 2, (4 * k.val + 3) % 13, 0, 0] := by decide +kernel
theorem off27_0 : ∀ (i : grid0.Coords) (k : Fin (k0_t1_loop i).trips), k0_off27 i k = ![0, 3, (4 * k.val + 3) % 13, 0, 0] := by decide +kernel
theorem off59_0 : ∀ (i : grid0.Coords) (k : Fin (k0_t3_loop i).trips), k0_off59 i k = ![0, 0, (4 * ((i 2).val / 4) + 2 * k.val) % 13, 0, 0] := by decide +kernel
theorem off60_0 : ∀ (i : grid0.Coords) (k : Fin (k0_t3_loop i).trips), k0_off60 i k = ![0, 1, (4 * ((i 2).val / 4) + 2 * k.val) % 13, 0, 0] := by decide +kernel
theorem off61_0 : ∀ (i : grid0.Coords) (k : Fin (k0_t3_loop i).trips), k0_off61 i k = ![0, 2, (4 * ((i 2).val / 4) + 2 * k.val) % 13, 0, 0] := by decide +kernel
theorem off62_0 : ∀ (i : grid0.Coords) (k : Fin (k0_t3_loop i).trips), k0_off62 i k = ![0, 3, (4 * ((i 2).val / 4) + 2 * k.val) % 13, 0, 0] := by decide +kernel
theorem off63_0 : ∀ (i : grid0.Coords) (k : Fin (k0_t3_loop i).trips), k0_off63 i k = ![0, 0, (4 * ((i 2).val / 4) + 2 * k.val + 1) % 13, 0, 0] := by decide +kernel
theorem off64_0 : ∀ (i : grid0.Coords) (k : Fin (k0_t3_loop i).trips), k0_off64 i k = ![0, 1, (4 * ((i 2).val / 4) + 2 * k.val + 1) % 13, 0, 0] := by decide +kernel
theorem off65_0 : ∀ (i : grid0.Coords) (k : Fin (k0_t3_loop i).trips), k0_off65 i k = ![0, 2, (4 * ((i 2).val / 4) + 2 * k.val + 1) % 13, 0, 0] := by decide +kernel
theorem off66_0 : ∀ (i : grid0.Coords) (k : Fin (k0_t3_loop i).trips), k0_off66 i k = ![0, 3, (4 * ((i 2).val / 4) + 2 * k.val + 1) % 13, 0, 0] := by decide +kernel
theorem off80_0 : ∀ (i : grid0.Coords), k0_cond1 i = 1#1 → k0_off80 i = ![(if (i 2).val = (i 2).val then 1 else 0), 0, 0] := by decide +kernel
theorem off81_0 : ∀ (i : grid0.Coords), k0_cond1 i = 1#1 → k0_off81 i = ![0, 0, 640 * ((i 2).val % 13), 0] := by decide +kernel
theorem off85_0 : ∀ (i : grid0.Coords), k0_cond1 i = 1#1 → k0_off85 i = ![0, 0, ((i 2).val - 1) % 13, 0, 0] := by decide +kernel
theorem off89_0 : ∀ (i : grid0.Coords), k0_cond1 i = 1#1 → k0_off89 i = ![0, 0, (i 2).val % 13, 0, 0] := by decide +kernel
theorem off93_0 : ∀ (i : grid0.Coords), ¬k0_cond1 i = 1#1 → k0_off93 i = ![0, 0, (i 2).val % 13, 0, 0] := by decide +kernel
theorem off82_0 : ∀ (i : grid0.Coords), k0_cond1 i = 1#1 → k0_off82 i = ![0, 1, 640 * ((i 2).val % 13), 0] := by decide +kernel
theorem off86_0 : ∀ (i : grid0.Coords), k0_cond1 i = 1#1 → k0_off86 i = ![0, 1, ((i 2).val - 1) % 13, 0, 0] := by decide +kernel
theorem off90_0 : ∀ (i : grid0.Coords), k0_cond1 i = 1#1 → k0_off90 i = ![0, 1, (i 2).val % 13, 0, 0] := by decide +kernel
theorem off94_0 : ∀ (i : grid0.Coords), ¬k0_cond1 i = 1#1 → k0_off94 i = ![0, 1, (i 2).val % 13, 0, 0] := by decide +kernel
theorem off83_0 : ∀ (i : grid0.Coords), k0_cond1 i = 1#1 → k0_off83 i = ![0, 2, 640 * ((i 2).val % 13), 0] := by decide +kernel
theorem off87_0 : ∀ (i : grid0.Coords), k0_cond1 i = 1#1 → k0_off87 i = ![0, 2, ((i 2).val - 1) % 13, 0, 0] := by decide +kernel
theorem off91_0 : ∀ (i : grid0.Coords), k0_cond1 i = 1#1 → k0_off91 i = ![0, 2, (i 2).val % 13, 0, 0] := by decide +kernel
theorem off95_0 : ∀ (i : grid0.Coords), ¬k0_cond1 i = 1#1 → k0_off95 i = ![0, 2, (i 2).val % 13, 0, 0] := by decide +kernel
theorem off84_0 : ∀ (i : grid0.Coords), k0_cond1 i = 1#1 → k0_off84 i = ![0, 3, 640 * ((i 2).val % 13), 0] := by decide +kernel
theorem off88_0 : ∀ (i : grid0.Coords), k0_cond1 i = 1#1 → k0_off88 i = ![0, 3, ((i 2).val - 1) % 13, 0, 0] := by decide +kernel
theorem off92_0 : ∀ (i : grid0.Coords), k0_cond1 i = 1#1 → k0_off92 i = ![0, 3, (i 2).val % 13, 0, 0] := by decide +kernel
theorem off96_0 : ∀ (i : grid0.Coords), ¬k0_cond1 i = 1#1 → k0_off96 i = ![0, 3, (i 2).val % 13, 0, 0] := by decide +kernel

/-- The first loop makes a trip for each four key blocks before the diagonal one. -/
theorem trips1 : ∀ i : grid0.Coords, (k0_t1_loop i).trips = (i 2).val / 4 := by decide +kernel
/-- The second loop makes no trip. -/
theorem trips2 : ∀ i : grid0.Coords, (k0_t2_loop i).trips = 0 := by decide +kernel
/-- The third loop makes a trip for a remaining pair of blocks. -/
theorem trips3 : ∀ i : grid0.Coords, (k0_t3_loop i).trips = (i 2).val / 2 % 2 := by decide +kernel
/-- The fourth loop makes no trip. -/
theorem trips4 : ∀ i : grid0.Coords, (k0_t4_loop i).trips = 0 := by decide +kernel
/-- Two key blocks are left where the diagonal block's number is odd. -/
theorem cond1_iff : ∀ i : grid0.Coords, k0_cond1 i = 1#1 ↔ (i 2).val % 2 = 1 := by decide +kernel

end Cert.KernelIdeal.Mla
-- ==== Proof.KI.Trip1.lean ====
/-
  One trip of the loop over four key blocks keeps the invariant, four blocks further.
-/
module

public import proofs.«01_k».proof.Proof.Gen.KernelIdeal.Loops
public import proofs.«01_k».proof.Proof.KI.Steps
public import proofs.«01_k».proof.Proof.KI.Offsets

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic Idealize.SL.Sem

variable {F : FTy → Type} [FloatOps F]

set_option maxHeartbeats 2000000 in
/-- A trip of the first loop takes what holds before block `j` to what holds before block `j + 4`. -/
theorem trip1_good (𝒱 : Variants) (c : Dev nD) (bd : Option 𝒱.V) (i : grid0.Coords) (arg3 : Memref sig .tc .vmem S1x640x512 .bf16) (harg3 : arg3.IsWhole) (arg4 : Memref sig .tc .vmem S1x4x8320x128 .bf16) (harg4 : arg4.IsWhole) (arg5 : Memref sig .tc .vmem S1x4x13x128x640 .bf16) (harg5 : arg5.IsWhole) (arg6 : Memref sig .tc .vmem S640x256 .bf16) (harg6 : arg6.IsWhole) (arg7 : Memref sig .tc .vmem S4x128x640 .f32) (harg7 : arg7.IsWhole) (arg8 : Memref sig .tc .vmem S2x640x640 .f32) (harg8 : arg8.IsWhole) (arg9 : Memref sig .tc .vmem S4x640x640 .f32) (harg9 : arg9.IsWhole) (arg10 : Memref sig .tc .vmem S4x640x640 .f32) (harg10 : arg10.IsWhole) (arg2 : BitVec 32) (v17 : BitVec 32) (v18 : FVec F S1x640 .f32) (v36 : BitVec 32) (v53 : BitVec 32) (v80 : FVec F S640x640 .f32) (v87 : FVec F S640x640 .f32) (v92 : FVec F S1x640 .f32) (v97 : FVec F S1x640 .f32) (v98 : Vec F S1x640x640 .f32) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (k : Fin (k0_t1_loop i).trips) (acc : FVec F S1x640 .f32 × FVec F S1x640 .f32 × FVec F S1x640 .f32 × FVec F S1x640 .f32 × FVec F S1x640 .f32 × FVec F S1x640 .f32 × FVec F S1x640 .f32 × FVec F S1x640 .f32) (f_arg7 : BufTy.Contents (Elt F) arg7.view.ty) (f_arg9 : BufTy.Contents (Elt F) arg9.view.ty) (f_arg10 : BufTy.Contents (Elt F) arg10.view.ty)
    (x0 : Vec F S1x640x512 .bf16) (x1 : Vec F S1x4x8320x128 .bf16) (x2 : Vec F S1x4x13x128x640 .bf16)
    (h3 : arg3.view.read (Elt F) X_arg3 = x0) (h4 : arg4.view.read (Elt F) X_arg4 = x1) (h5 : arg5.view.read (Elt F) X_arg5 = x2)
    (h8 : Tri (arg8.view.read (Elt F) X_arg8))
    (hg : Good i x0 x1 x2 (4 * k.val) acc (arg7.view.read (Elt F) f_arg7) (arg9.view.read (Elt F) f_arg9)) :
    Good i x0 x1 x2 (4 * k.val + 4) (tripR_k0_t1 (F := F) 𝒱 c bd i arg3 harg3 arg4 harg4 arg5 harg5 arg6 harg6 arg7 harg7 arg8 harg8 arg9 harg9 arg10 harg10 arg2 v17 v18 v36 v53 v80 v87 v92 v97 v98 X_arg3 X_arg4 X_arg5 X_arg8 k acc f_arg7 f_arg9 f_arg10)
      (arg7.view.read (Elt F) (arg7.view.writes (Elt F) f_arg7 (tripL_k0_t1 (F := F) 𝒱 c bd i arg3 harg3 arg4 harg4 arg5 harg5 arg6 harg6 arg7 harg7 arg8 harg8 arg9 harg9 arg10 harg10 arg2 v17 v18 v36 v53 v80 v87 v92 v97 v98 X_arg3 X_arg4 X_arg5 X_arg8 k acc f_arg7 f_arg9 f_arg10).1))
      (arg9.view.read (Elt F) (arg9.view.writes (Elt F) f_arg9 (tripL_k0_t1 (F := F) 𝒱 c bd i arg3 harg3 arg4 harg4 arg5 harg5 arg6 harg6 arg7 harg7 arg8 harg8 arg9 harg9 arg10 harg10 arg2 v17 v18 v36 v53 v80 v87 v92 v97 v98 X_arg3 X_arg4 X_arg5 X_arg8 k acc f_arg7 f_arg9 f_arg10).2.1)) := by
  obtain ⟨hacc, ha0, ha1, ha2, ha3, hb0, hb1, hb2, hb3⟩ := hg
  subst hacc
  have hq0 := read_q (F := F) arg3.view X_arg3 x0 h3 0 ![0, 0, 0] inb_S1x640x512_S1x640x128_0_0_0 rfl
  have hq1 := read_q (F := F) arg3.view X_arg3 x0 h3 1 ![0, 0, 128] inb_S1x640x512_S1x640x128_0_0_128 rfl
  have hq2 := read_q (F := F) arg3.view X_arg3 x0 h3 2 ![0, 0, 256] inb_S1x640x512_S1x640x128_0_0_256 rfl
  have hq3 := read_q (F := F) arg3.view X_arg3 x0 h3 3 ![0, 0, 384] inb_S1x640x512_S1x640x128_0_0_384 rfl
  have hb_2_1 := fun inb => read_b (F := F) arg8.view X_arg8 h8 i (4 * k.val + 1) (k0_off2 i k 1#32) inb (off2_1 i k)
  have hk_3_1 := fun inb => read_k (F := F) arg4.view X_arg4 x1 h4 0 (4 * k.val + 1) (k0_off3 i k 1#32) inb (off3_1 i k)
  have hk_4_1 := fun inb => read_k (F := F) arg4.view X_arg4 x1 h4 1 (4 * k.val + 1) (k0_off4 i k 1#32) inb (off4_1 i k)
  have hk_5_1 := fun inb => read_k (F := F) arg4.view X_arg4 x1 h4 2 (4 * k.val + 1) (k0_off5 i k 1#32) inb (off5_1 i k)
  have hk_6_1 := fun inb => read_k (F := F) arg4.view X_arg4 x1 h4 3 (4 * k.val + 1) (k0_off6 i k 1#32) inb (off6_1 i k)
  have hv_7 := fun inb => read_v (F := F) arg5.view X_arg5 x2 h5 0 (4 * k.val) (k0_off7 i k) inb (off7_0 i k)
  have hv_8 := fun inb => read_v (F := F) arg5.view X_arg5 x2 h5 1 (4 * k.val) (k0_off8 i k) inb (off8_0 i k)
  have hv_9 := fun inb => read_v (F := F) arg5.view X_arg5 x2 h5 2 (4 * k.val) (k0_off9 i k) inb (off9_0 i k)
  have hv_10 := fun inb => read_v (F := F) arg5.view X_arg5 x2 h5 3 (4 * k.val) (k0_off10 i k) inb (off10_0 i k)
  have hb_2_2 := fun inb => read_b (F := F) arg8.view X_arg8 h8 i (4 * k.val + 2) (k0_off2 i k 2#32) inb (off2_2 i k)
  have hk_3_2 := fun inb => read_k (F := F) arg4.view X_arg4 x1 h4 0 (4 * k.val + 2) (k0_off3 i k 2#32) inb (off3_2 i k)
  have hk_4_2 := fun inb => read_k (F := F) arg4.view X_arg4 x1 h4 1 (4 * k.val + 2) (k0_off4 i k 2#32) inb (off4_2 i k)
  have hk_5_2 := fun inb => read_k (F := F) arg4.view X_arg4 x1 h4 2 (4 * k.val + 2) (k0_off5 i k 2#32) inb (off5_2 i k)
  have hk_6_2 := fun inb => read_k (F := F) arg4.view X_arg4 x1 h4 3 (4 * k.val + 2) (k0_off6 i k 2#32) inb (off6_2 i k)
  have hv_11 := fun inb => read_v (F := F) arg5.view X_arg5 x2 h5 0 (4 * k.val + 1) (k0_off11 i k) inb (off11_0 i k)
  have hv_12 := fun inb => read_v (F := F) arg5.view X_arg5 x2 h5 1 (4 * k.val + 1) (k0_off12 i k) inb (off12_0 i k)
  have hv_13 := fun inb => read_v (F := F) arg5.view X_arg5 x2 h5 2 (4 * k.val + 1) (k0_off13 i k) inb (off13_0 i k)
  have hv_14 := fun inb => read_v (F := F) arg5.view X_arg5 x2 h5 3 (4 * k.val + 1) (k0_off14 i k) inb (off14_0 i k)
  have hb_15_1 := fun inb => read_b (F := F) arg8.view X_arg8 h8 i (4 * k.val + 3) (k0_off15 i k 1#32) inb (off15_1 i k)
  have hk_16_1 := fun inb => read_k (F := F) arg4.view X_arg4 x1 h4 0 (4 * k.val + 3) (k0_off16 i k 1#32) inb (off16_1 i k)
  have hk_17_1 := fun inb => read_k (F := F) arg4.view X_arg4 x1 h4 1 (4 * k.val + 3) (k0_off17 i k 1#32) inb (off17_1 i k)
  have hk_18_1 := fun inb => read_k (F := F) arg4.view X_arg4 x1 h4 2 (4 * k.val + 3) (k0_off18 i k 1#32) inb (off18_1 i k)
  have hk_19_1 := fun inb => read_k (F := F) arg4.view X_arg4 x1 h4 3 (4 * k.val + 3) (k0_off19 i k 1#32) inb (off19_1 i k)
  have hv_20 := fun inb => read_v (F := F) arg5.view X_arg5 x2 h5 0 (4 * k.val + 2) (k0_off20 i k) inb (off20_0 i k)
  have hv_21 := fun inb => read_v (F := F) arg5.view X_arg5 x2 h5 1 (4 * k.val + 2) (k0_off21 i k) inb (off21_0 i k)
  have hv_22 := fun inb => read_v (F := F) arg5.view X_arg5 x2 h5 2 (4 * k.val + 2) (k0_off22 i k) inb (off22_0 i k)
  have hv_23 := fun inb => read_v (F := F) arg5.view X_arg5 x2 h5 3 (4 * k.val + 2) (k0_off23 i k) inb (off23_0 i k)
  have hb_15_2 := fun inb => read_b (F := F) arg8.view X_arg8 h8 i (4 * k.val + 4) (k0_off15 i k 2#32) inb (off15_2 i k)
  have hk_16_2 := fun inb => read_k (F := F) arg4.view X_arg4 x1 h4 0 (4 * k.val + 4) (k0_off16 i k 2#32) inb (off16_2 i k)
  have hk_17_2 := fun inb => read_k (F := F) arg4.view X_arg4 x1 h4 1 (4 * k.val + 4) (k0_off17 i k 2#32) inb (off17_2 i k)
  have hk_18_2 := fun inb => read_k (F := F) arg4.view X_arg4 x1 h4 2 (4 * k.val + 4) (k0_off18 i k 2#32) inb (off18_2 i k)
  have hk_19_2 := fun inb => read_k (F := F) arg4.view X_arg4 x1 h4 3 (4 * k.val + 4) (k0_off19 i k 2#32) inb (off19_2 i k)
  have hv_24 := fun inb => read_v (F := F) arg5.view X_arg5 x2 h5 0 (4 * k.val + 3) (k0_off24 i k) inb (off24_0 i k)
  have hv_25 := fun inb => read_v (F := F) arg5.view X_arg5 x2 h5 1 (4 * k.val + 3) (k0_off25 i k) inb (off25_0 i k)
  have hv_26 := fun inb => read_v (F := F) arg5.view X_arg5 x2 h5 2 (4 * k.val + 3) (k0_off26 i k) inb (off26_0 i k)
  have hv_27 := fun inb => read_v (F := F) arg5.view X_arg5 x2 h5 3 (4 * k.val + 3) (k0_off27 i k) inb (off27_0 i k)
  have hx0 : View.readAt (Elt F) arg7.view (Rect.unit (s := S4x128x640) ![0, 0, 0] S1x128x640.size inb_S4x128x640_S1x128x640_0_0_0).toLoadRect f_arg7 = _ := ha0
  have hx1 : View.readAt (Elt F) arg7.view (Rect.unit (s := S4x128x640) ![1, 0, 0] S1x128x640.size inb_S4x128x640_S1x128x640_1_0_0).toLoadRect f_arg7 = _ := ha1
  have hx2 : View.readAt (Elt F) arg7.view (Rect.unit (s := S4x128x640) ![2, 0, 0] S1x128x640.size inb_S4x128x640_S1x128x640_2_0_0).toLoadRect f_arg7 = _ := ha2
  have hx3 : View.readAt (Elt F) arg7.view (Rect.unit (s := S4x128x640) ![3, 0, 0] S1x128x640.size inb_S4x128x640_S1x128x640_3_0_0).toLoadRect f_arg7 = _ := ha3
  have hy0 : View.readAt (Elt F) arg9.view (Rect.unit (s := S4x640x640) ![0, 0, 0] S1x640x640.size inb_S4x640x640_S1x640x640_0_0_0).toLoadRect f_arg9 = _ := hb0
  have hy1 : View.readAt (Elt F) arg9.view (Rect.unit (s := S4x640x640) ![1, 0, 0] S1x640x640.size inb_S4x640x640_S1x640x640_1_0_0).toLoadRect f_arg9 = _ := hb1
  have hy2 : View.readAt (Elt F) arg9.view (Rect.unit (s := S4x640x640) ![2, 0, 0] S1x640x640.size inb_S4x640x640_S1x640x640_2_0_0).toLoadRect f_arg9 = _ := hb2
  have hy3 : View.readAt (Elt F) arg9.view (Rect.unit (s := S4x640x640) ![3, 0, 0] S1x640x640.size inb_S4x640x640_S1x640x640_3_0_0).toLoadRect f_arg9 = _ := hb3
  unfold tripR_k0_t1 tripL_k0_t1 trip_k0_t1
  dsimp only
  refine ⟨?_, ?_, ?_, ?_, ?_, ?_, ?_, ?_, ?_⟩
  · sl_unfold_run_names
    simp only [hq0, hq1, hq2, hq3, hb_2_1, hk_3_1, hk_4_1, hk_5_1, hk_6_1, hv_7, hv_8, hv_9, hv_10, hb_2_2, hk_3_2, hk_4_2, hk_5_2, hk_6_2, hv_11, hv_12, hv_13, hv_14, hb_15_1, hk_16_1, hk_17_1, hk_18_1, hk_19_1, hv_20, hv_21, hv_22, hv_23, hb_15_2, hk_16_2, hk_17_2, hk_18_2, hk_19_2, hv_24, hv_25, hv_26, hv_27]
    rfl
  all_goals
    sl_unfold_run_names
    simp (disch := first | rfl | decide) only [ld_hit, ↓ld_skip, View.readCov_cons_toLoadRect, ↓View.readCov_skip, hx0, hx1, hx2, hx3, hy0, hy1, hy2, hy3, hq0, hq1, hq2, hq3, hb_2_1, hk_3_1, hk_4_1, hk_5_1, hk_6_1, hv_7, hv_8, hv_9, hv_10, hb_2_2, hk_3_2, hk_4_2, hk_5_2, hk_6_2, hv_11, hv_12, hv_13, hv_14, hb_15_1, hk_16_1, hk_17_1, hk_18_1, hk_19_1, hv_20, hv_21, hv_22, hv_23, hb_15_2, hk_16_2, hk_17_2, hk_18_2, hk_19_2, hv_24, hv_25, hv_26, hv_27]
    rfl

end Cert.KernelIdeal.Mla

end
-- ==== Proof.KI.Trip3.lean ====
/-
  One trip of the loop over a remaining pair of key blocks keeps the invariant, two blocks further.
-/
module

public import proofs.«01_k».proof.Proof.Gen.KernelIdeal.Loops
public import proofs.«01_k».proof.Proof.KI.Steps
public import proofs.«01_k».proof.Proof.KI.Offsets

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic Idealize.SL.Sem

variable {F : FTy → Type} [FloatOps F]

set_option maxHeartbeats 2000000 in
/-- A trip of the pair loop takes what holds before block `j` to what holds before block `j + 2`. -/
theorem trip3_good (𝒱 : Variants) (c : Dev nD) (bd : Option 𝒱.V) (i : grid0.Coords) (arg3 : Memref sig .tc .vmem S1x640x512 .bf16) (harg3 : arg3.IsWhole) (arg4 : Memref sig .tc .vmem S1x4x8320x128 .bf16) (harg4 : arg4.IsWhole) (arg5 : Memref sig .tc .vmem S1x4x13x128x640 .bf16) (harg5 : arg5.IsWhole) (arg6 : Memref sig .tc .vmem S640x256 .bf16) (harg6 : arg6.IsWhole) (arg7 : Memref sig .tc .vmem S4x128x640 .f32) (harg7 : arg7.IsWhole) (arg8 : Memref sig .tc .vmem S2x640x640 .f32) (harg8 : arg8.IsWhole) (arg9 : Memref sig .tc .vmem S4x640x640 .f32) (harg9 : arg9.IsWhole) (arg10 : Memref sig .tc .vmem S4x640x640 .f32) (harg10 : arg10.IsWhole) (arg2 : BitVec 32) (v17 : BitVec 32) (v18 : FVec F S1x640 .f32) (v36 : BitVec 32) (v53 : BitVec 32) (v80 : FVec F S640x640 .f32) (v87 : FVec F S640x640 .f32) (v92 : FVec F S1x640 .f32) (v97 : FVec F S1x640 .f32) (v98 : Vec F S1x640x640 .f32) (v115 : BitVec 32) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (k : Fin (k0_t3_loop i).trips) (acc : FVec F S1x640 .f32 × FVec F S1x640 .f32 × FVec F S1x640 .f32 × FVec F S1x640 .f32 × FVec F S1x640 .f32 × FVec F S1x640 .f32 × FVec F S1x640 .f32 × FVec F S1x640 .f32) (f_arg7 : BufTy.Contents (Elt F) arg7.view.ty) (f_arg9 : BufTy.Contents (Elt F) arg9.view.ty) (f_arg10 : BufTy.Contents (Elt F) arg10.view.ty)
    (x0 : Vec F S1x640x512 .bf16) (x1 : Vec F S1x4x8320x128 .bf16) (x2 : Vec F S1x4x13x128x640 .bf16)
    (h3 : arg3.view.read (Elt F) X_arg3 = x0) (h4 : arg4.view.read (Elt F) X_arg4 = x1) (h5 : arg5.view.read (Elt F) X_arg5 = x2)
    (h8 : Tri (arg8.view.read (Elt F) X_arg8))
    (hg : Good i x0 x1 x2 (4 * ((i 2).val / 4) + 2 * k.val) acc (arg7.view.read (Elt F) f_arg7) (arg9.view.read (Elt F) f_arg9)) :
    Good i x0 x1 x2 (4 * ((i 2).val / 4) + 2 * k.val + 2) (tripR_k0_t3 (F := F) 𝒱 c bd i arg3 harg3 arg4 harg4 arg5 harg5 arg6 harg6 arg7 harg7 arg8 harg8 arg9 harg9 arg10 harg10 arg2 v17 v18 v36 v53 v80 v87 v92 v97 v98 v115 X_arg3 X_arg4 X_arg5 X_arg8 k acc f_arg7 f_arg9 f_arg10)
      (arg7.view.read (Elt F) (arg7.view.writes (Elt F) f_arg7 (tripL_k0_t3 (F := F) 𝒱 c bd i arg3 harg3 arg4 harg4 arg5 harg5 arg6 harg6 arg7 harg7 arg8 harg8 arg9 harg9 arg10 harg10 arg2 v17 v18 v36 v53 v80 v87 v92 v97 v98 v115 X_arg3 X_arg4 X_arg5 X_arg8 k acc f_arg7 f_arg9 f_arg10).1))
      (arg9.view.read (Elt F) (arg9.view.writes (Elt F) f_arg9 (tripL_k0_t3 (F := F) 𝒱 c bd i arg3 harg3 arg4 harg4 arg5 harg5 arg6 harg6 arg7 harg7 arg8 harg8 arg9 harg9 arg10 harg10 arg2 v17 v18 v36 v53 v80 v87 v92 v97 v98 v115 X_arg3 X_arg4 X_arg5 X_arg8 k acc f_arg7 f_arg9 f_arg10).2.1)) := by
  obtain ⟨hacc, ha0, ha1, ha2, ha3, hb0, hb1, hb2, hb3⟩ := hg
  subst hacc
  have hq0 := read_q (F := F) arg3.view X_arg3 x0 h3 0 ![0, 0, 0] inb_S1x640x512_S1x640x128_0_0_0 rfl
  have hq1 := read_q (F := F) arg3.view X_arg3 x0 h3 1 ![0, 0, 128] inb_S1x640x512_S1x640x128_0_0_128 rfl
  have hq2 := read_q (F := F) arg3.view X_arg3 x0 h3 2 ![0, 0, 256] inb_S1x640x512_S1x640x128_0_0_256 rfl
  have hq3 := read_q (F := F) arg3.view X_arg3 x0 h3 3 ![0, 0, 384] inb_S1x640x512_S1x640x128_0_0_384 rfl
  have hb_54_1 := fun inb => read_b (F := F) arg8.view X_arg8 h8 i (4 * ((i 2).val / 4) + 2 * k.val + 1) (k0_off54 i k 1#32) inb (off54_1 i k)
  have hk_55_1 := fun inb => read_k (F := F) arg4.view X_arg4 x1 h4 0 (4 * ((i 2).val / 4) + 2 * k.val + 1) (k0_off55 i k 1#32) inb (off55_1 i k)
  have hk_56_1 := fun inb => read_k (F := F) arg4.view X_arg4 x1 h4 1 (4 * ((i 2).val / 4) + 2 * k.val + 1) (k0_off56 i k 1#32) inb (off56_1 i k)
  have hk_57_1 := fun inb => read_k (F := F) arg4.view X_arg4 x1 h4 2 (4 * ((i 2).val / 4) + 2 * k.val + 1) (k0_off57 i k 1#32) inb (off57_1 i k)
  have hk_58_1 := fun inb => read_k (F := F) arg4.view X_arg4 x1 h4 3 (4 * ((i 2).val / 4) + 2 * k.val + 1) (k0_off58 i k 1#32) inb (off58_1 i k)
  have hv_59 := fun inb => read_v (F := F) arg5.view X_arg5 x2 h5 0 (4 * ((i 2).val / 4) + 2 * k.val) (k0_off59 i k) inb (off59_0 i k)
  have hv_60 := fun inb => read_v (F := F) arg5.view X_arg5 x2 h5 1 (4 * ((i 2).val / 4) + 2 * k.val) (k0_off60 i k) inb (off60_0 i k)
  have hv_61 := fun inb => read_v (F := F) arg5.view X_arg5 x2 h5 2 (4 * ((i 2).val / 4) + 2 * k.val) (k0_off61 i k) inb (off61_0 i k)
  have hv_62 := fun inb => read_v (F := F) arg5.view X_arg5 x2 h5 3 (4 * ((i 2).val / 4) + 2 * k.val) (k0_off62 i k) inb (off62_0 i k)
  have hb_54_2 := fun inb => read_b (F := F) arg8.view X_arg8 h8 i (4 * ((i 2).val / 4) + 2 * k.val + 2) (k0_off54 i k 2#32) inb (off54_2 i k)
  have hk_55_2 := fun inb => read_k (F := F) arg4.view X_arg4 x1 h4 0 (4 * ((i 2).val / 4) + 2 * k.val + 2) (k0_off55 i k 2#32) inb (off55_2 i k)
  have hk_56_2 := fun inb => read_k (F := F) arg4.view X_arg4 x1 h4 1 (4 * ((i 2).val / 4) + 2 * k.val + 2) (k0_off56 i k 2#32) inb (off56_2 i k)
  have hk_57_2 := fun inb => read_k (F := F) arg4.view X_arg4 x1 h4 2 (4 * ((i 2).val / 4) + 2 * k.val + 2) (k0_off57 i k 2#32) inb (off57_2 i k)
  have hk_58_2 := fun inb => read_k (F := F) arg4.view X_arg4 x1 h4 3 (4 * ((i 2).val / 4) + 2 * k.val + 2) (k0_off58 i k 2#32) inb (off58_2 i k)
  have hv_63 := fun inb => read_v (F := F) arg5.view X_arg5 x2 h5 0 (4 * ((i 2).val / 4) + 2 * k.val + 1) (k0_off63 i k) inb (off63_0 i k)
  have hv_64 := fun inb => read_v (F := F) arg5.view X_arg5 x2 h5 1 (4 * ((i 2).val / 4) + 2 * k.val + 1) (k0_off64 i k) inb (off64_0 i k)
  have hv_65 := fun inb => read_v (F := F) arg5.view X_arg5 x2 h5 2 (4 * ((i 2).val / 4) + 2 * k.val + 1) (k0_off65 i k) inb (off65_0 i k)
  have hv_66 := fun inb => read_v (F := F) arg5.view X_arg5 x2 h5 3 (4 * ((i 2).val / 4) + 2 * k.val + 1) (k0_off66 i k) inb (off66_0 i k)
  have hx0 : View.readAt (Elt F) arg7.view (Rect.unit (s := S4x128x640) ![0, 0, 0] S1x128x640.size inb_S4x128x640_S1x128x640_0_0_0).toLoadRect f_arg7 = _ := ha0
  have hx1 : View.readAt (Elt F) arg7.view (Rect.unit (s := S4x128x640) ![1, 0, 0] S1x128x640.size inb_S4x128x640_S1x128x640_1_0_0).toLoadRect f_arg7 = _ := ha1
  have hx2 : View.readAt (Elt F) arg7.view (Rect.unit (s := S4x128x640) ![2, 0, 0] S1x128x640.size inb_S4x128x640_S1x128x640_2_0_0).toLoadRect f_arg7 = _ := ha2
  have hx3 : View.readAt (Elt F) arg7.view (Rect.unit (s := S4x128x640) ![3, 0, 0] S1x128x640.size inb_S4x128x640_S1x128x640_3_0_0).toLoadRect f_arg7 = _ := ha3
  have hy0 : View.readAt (Elt F) arg9.view (Rect.unit (s := S4x640x640) ![0, 0, 0] S1x640x640.size inb_S4x640x640_S1x640x640_0_0_0).toLoadRect f_arg9 = _ := hb0
  have hy1 : View.readAt (Elt F) arg9.view (Rect.unit (s := S4x640x640) ![1, 0, 0] S1x640x640.size inb_S4x640x640_S1x640x640_1_0_0).toLoadRect f_arg9 = _ := hb1
  have hy2 : View.readAt (Elt F) arg9.view (Rect.unit (s := S4x640x640) ![2, 0, 0] S1x640x640.size inb_S4x640x640_S1x640x640_2_0_0).toLoadRect f_arg9 = _ := hb2
  have hy3 : View.readAt (Elt F) arg9.view (Rect.unit (s := S4x640x640) ![3, 0, 0] S1x640x640.size inb_S4x640x640_S1x640x640_3_0_0).toLoadRect f_arg9 = _ := hb3
  unfold tripR_k0_t3 tripL_k0_t3 trip_k0_t3
  dsimp only
  refine ⟨?_, ?_, ?_, ?_, ?_, ?_, ?_, ?_, ?_⟩
  · sl_unfold_run_names
    simp only [hq0, hq1, hq2, hq3, hb_54_1, hk_55_1, hk_56_1, hk_57_1, hk_58_1, hv_59, hv_60, hv_61, hv_62, hb_54_2, hk_55_2, hk_56_2, hk_57_2, hk_58_2, hv_63, hv_64, hv_65, hv_66]
    rfl
  all_goals
    sl_unfold_run_names
    simp (disch := first | rfl | decide) only [ld_hit, ↓ld_skip, View.readCov_cons_toLoadRect, ↓View.readCov_skip, hx0, hx1, hx2, hx3, hy0, hy1, hy2, hy3, hq0, hq1, hq2, hq3, hb_54_1, hk_55_1, hk_56_1, hk_57_1, hk_58_1, hv_59, hv_60, hv_61, hv_62, hb_54_2, hk_55_2, hk_56_2, hk_57_2, hk_58_2, hv_63, hv_64, hv_65, hv_66]
    rfl

end Cert.KernelIdeal.Mla

end
-- ==== Proof.KI.LoopGood.lean ====
/-
  The two loops over key blocks that make trips, by induction on the trips.
-/
module

public import proofs.«01_k».proof.Proof.KI.Trip1
public import proofs.«01_k».proof.Proof.KI.Trip3

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic Idealize.SL.Sem

variable {F : FTy → Type} [FloatOps F]

/-- The first loop: after `n` trips what holds before block `4 n`. -/
theorem loop1_good (𝒱 : Variants) (c : Dev nD) (bd : Option 𝒱.V) (i : grid0.Coords) (arg3 : Memref sig .tc .vmem S1x640x512 .bf16) (harg3 : arg3.IsWhole) (arg4 : Memref sig .tc .vmem S1x4x8320x128 .bf16) (harg4 : arg4.IsWhole) (arg5 : Memref sig .tc .vmem S1x4x13x128x640 .bf16) (harg5 : arg5.IsWhole) (arg6 : Memref sig .tc .vmem S640x256 .bf16) (harg6 : arg6.IsWhole) (arg7 : Memref sig .tc .vmem S4x128x640 .f32) (harg7 : arg7.IsWhole) (arg8 : Memref sig .tc .vmem S2x640x640 .f32) (harg8 : arg8.IsWhole) (arg9 : Memref sig .tc .vmem S4x640x640 .f32) (harg9 : arg9.IsWhole) (arg10 : Memref sig .tc .vmem S4x640x640 .f32) (harg10 : arg10.IsWhole) (arg2 : BitVec 32) (v17 : BitVec 32) (v18 : FVec F S1x640 .f32) (v36 : BitVec 32) (v53 : BitVec 32) (v80 : FVec F S640x640 .f32) (v87 : FVec F S640x640 .f32) (v92 : FVec F S1x640 .f32) (v97 : FVec F S1x640 .f32) (v98 : Vec F S1x640x640 .f32) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (G_arg7 : BufTy.Contents (Elt F) arg7.view.ty) (G_arg9 : BufTy.Contents (Elt F) arg9.view.ty) (G_arg10 : BufTy.Contents (Elt F) arg10.view.ty) (init : FVec F S1x640 .f32 × FVec F S1x640 .f32 × FVec F S1x640 .f32 × FVec F S1x640 .f32 × FVec F S1x640 .f32 × FVec F S1x640 .f32 × FVec F S1x640 .f32 × FVec F S1x640 .f32)
    (x0 : Vec F S1x640x512 .bf16) (x1 : Vec F S1x4x8320x128 .bf16) (x2 : Vec F S1x4x13x128x640 .bf16)
    (h3 : arg3.view.read (Elt F) X_arg3 = x0) (h4 : arg4.view.read (Elt F) X_arg4 = x1) (h5 : arg5.view.read (Elt F) X_arg5 = x2)
    (h8 : Tri (arg8.view.read (Elt F) X_arg8))
    (hg : Good i x0 x1 x2 (0) init (arg7.view.read (Elt F) G_arg7) (arg9.view.read (Elt F) G_arg9)) :
    ∀ n, n ≤ (k0_t1_loop i).trips → Good i x0 x1 x2 (4 * n) (st_k0_t1 (F := F) 𝒱 c bd i arg3 harg3 arg4 harg4 arg5 harg5 arg6 harg6 arg7 harg7 arg8 harg8 arg9 harg9 arg10 harg10 arg2 v17 v18 v36 v53 v80 v87 v92 v97 v98 X_arg3 X_arg4 X_arg5 X_arg8 G_arg7 G_arg9 G_arg10 init n).1
      (arg7.view.read (Elt F) (arg7.view.writes (Elt F) G_arg7 (st_k0_t1 (F := F) 𝒱 c bd i arg3 harg3 arg4 harg4 arg5 harg5 arg6 harg6 arg7 harg7 arg8 harg8 arg9 harg9 arg10 harg10 arg2 v17 v18 v36 v53 v80 v87 v92 v97 v98 X_arg3 X_arg4 X_arg5 X_arg8 G_arg7 G_arg9 G_arg10 init n).2.1))
      (arg9.view.read (Elt F) (arg9.view.writes (Elt F) G_arg9 (st_k0_t1 (F := F) 𝒱 c bd i arg3 harg3 arg4 harg4 arg5 harg5 arg6 harg6 arg7 harg7 arg8 harg8 arg9 harg9 arg10 harg10 arg2 v17 v18 v36 v53 v80 v87 v92 v97 v98 X_arg3 X_arg4 X_arg5 X_arg8 G_arg7 G_arg9 G_arg10 init n).2.2.1)) := by
  intro n
  induction n with
  | zero => intro _; exact hg
  | succ n ih =>
    intro hn
    have h := trip1_good (F := F) 𝒱 c bd i arg3 harg3 arg4 harg4 arg5 harg5 arg6 harg6 arg7 harg7 arg8 harg8 arg9 harg9 arg10 harg10 arg2 v17 v18 v36 v53 v80 v87 v92 v97 v98 X_arg3 X_arg4 X_arg5 X_arg8 ⟨n, hn⟩ _ _ _ (arg10.view.writes (Elt F) G_arg10 (st_k0_t1 (F := F) 𝒱 c bd i arg3 harg3 arg4 harg4 arg5 harg5 arg6 harg6 arg7 harg7 arg8 harg8 arg9 harg9 arg10 harg10 arg2 v17 v18 v36 v53 v80 v87 v92 v97 v98 X_arg3 X_arg4 X_arg5 X_arg8 G_arg7 G_arg9 G_arg10 init n).2.2.2) x0 x1 x2 h3 h4 h5 h8 (ih (Nat.le_of_succ_le hn))
    rw [st_k0_t1_succ (F := F) 𝒱 c bd i arg3 harg3 arg4 harg4 arg5 harg5 arg6 harg6 arg7 harg7 arg8 harg8 arg9 harg9 arg10 harg10 arg2 v17 v18 v36 v53 v80 v87 v92 v97 v98 X_arg3 X_arg4 X_arg5 X_arg8 G_arg7 G_arg9 G_arg10 init ⟨n, hn⟩]
    dsimp only
    rw [View.writes_append, View.writes_append]
    exact h

/-- The pair loop: after `n` trips what holds `2 n` blocks past its start. -/
theorem loop3_good (𝒱 : Variants) (c : Dev nD) (bd : Option 𝒱.V) (i : grid0.Coords) (arg3 : Memref sig .tc .vmem S1x640x512 .bf16) (harg3 : arg3.IsWhole) (arg4 : Memref sig .tc .vmem S1x4x8320x128 .bf16) (harg4 : arg4.IsWhole) (arg5 : Memref sig .tc .vmem S1x4x13x128x640 .bf16) (harg5 : arg5.IsWhole) (arg6 : Memref sig .tc .vmem S640x256 .bf16) (harg6 : arg6.IsWhole) (arg7 : Memref sig .tc .vmem S4x128x640 .f32) (harg7 : arg7.IsWhole) (arg8 : Memref sig .tc .vmem S2x640x640 .f32) (harg8 : arg8.IsWhole) (arg9 : Memref sig .tc .vmem S4x640x640 .f32) (harg9 : arg9.IsWhole) (arg10 : Memref sig .tc .vmem S4x640x640 .f32) (harg10 : arg10.IsWhole) (arg2 : BitVec 32) (v17 : BitVec 32) (v18 : FVec F S1x640 .f32) (v36 : BitVec 32) (v53 : BitVec 32) (v80 : FVec F S640x640 .f32) (v87 : FVec F S640x640 .f32) (v92 : FVec F S1x640 .f32) (v97 : FVec F S1x640 .f32) (v98 : Vec F S1x640x640 .f32) (v115 : BitVec 32) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (G_arg7 : BufTy.Contents (Elt F) arg7.view.ty) (G_arg9 : BufTy.Contents (Elt F) arg9.view.ty) (G_arg10 : BufTy.Contents (Elt F) arg10.view.ty) (init : FVec F S1x640 .f32 × FVec F S1x640 .f32 × FVec F S1x640 .f32 × FVec F S1x640 .f32 × FVec F S1x640 .f32 × FVec F S1x640 .f32 × FVec F S1x640 .f32 × FVec F S1x640 .f32)
    (x0 : Vec F S1x640x512 .bf16) (x1 : Vec F S1x4x8320x128 .bf16) (x2 : Vec F S1x4x13x128x640 .bf16)
    (h3 : arg3.view.read (Elt F) X_arg3 = x0) (h4 : arg4.view.read (Elt F) X_arg4 = x1) (h5 : arg5.view.read (Elt F) X_arg5 = x2)
    (h8 : Tri (arg8.view.read (Elt F) X_arg8))
    (hg : Good i x0 x1 x2 (4 * ((i 2).val / 4)) init (arg7.view.read (Elt F) G_arg7) (arg9.view.read (Elt F) G_arg9)) :
    ∀ n, n ≤ (k0_t3_loop i).trips → Good i x0 x1 x2 (4 * ((i 2).val / 4) + 2 * n) (st_k0_t3 (F := F) 𝒱 c bd i arg3 harg3 arg4 harg4 arg5 harg5 arg6 harg6 arg7 harg7 arg8 harg8 arg9 harg9 arg10 harg10 arg2 v17 v18 v36 v53 v80 v87 v92 v97 v98 v115 X_arg3 X_arg4 X_arg5 X_arg8 G_arg7 G_arg9 G_arg10 init n).1
      (arg7.view.read (Elt F) (arg7.view.writes (Elt F) G_arg7 (st_k0_t3 (F := F) 𝒱 c bd i arg3 harg3 arg4 harg4 arg5 harg5 arg6 harg6 arg7 harg7 arg8 harg8 arg9 harg9 arg10 harg10 arg2 v17 v18 v36 v53 v80 v87 v92 v97 v98 v115 X_arg3 X_arg4 X_arg5 X_arg8 G_arg7 G_arg9 G_arg10 init n).2.1))
      (arg9.view.read (Elt F) (arg9.view.writes (Elt F) G_arg9 (st_k0_t3 (F := F) 𝒱 c bd i arg3 harg3 arg4 harg4 arg5 harg5 arg6 harg6 arg7 harg7 arg8 harg8 arg9 harg9 arg10 harg10 arg2 v17 v18 v36 v53 v80 v87 v92 v97 v98 v115 X_arg3 X_arg4 X_arg5 X_arg8 G_arg7 G_arg9 G_arg10 init n).2.2.1)) := by
  intro n
  induction n with
  | zero => intro _; exact hg
  | succ n ih =>
    intro hn
    have h := trip3_good (F := F) 𝒱 c bd i arg3 harg3 arg4 harg4 arg5 harg5 arg6 harg6 arg7 harg7 arg8 harg8 arg9 harg9 arg10 harg10 arg2 v17 v18 v36 v53 v80 v87 v92 v97 v98 v115 X_arg3 X_arg4 X_arg5 X_arg8 ⟨n, hn⟩ _ _ _ (arg10.view.writes (Elt F) G_arg10 (st_k0_t3 (F := F) 𝒱 c bd i arg3 harg3 arg4 harg4 arg5 harg5 arg6 harg6 arg7 harg7 arg8 harg8 arg9 harg9 arg10 harg10 arg2 v17 v18 v36 v53 v80 v87 v92 v97 v98 v115 X_arg3 X_arg4 X_arg5 X_arg8 G_arg7 G_arg9 G_arg10 init n).2.2.2) x0 x1 x2 h3 h4 h5 h8 (ih (Nat.le_of_succ_le hn))
    rw [st_k0_t3_succ (F := F) 𝒱 c bd i arg3 harg3 arg4 harg4 arg5 harg5 arg6 harg6 arg7 harg7 arg8 harg8 arg9 harg9 arg10 harg10 arg2 v17 v18 v36 v53 v80 v87 v92 v97 v98 v115 X_arg3 X_arg4 X_arg5 X_arg8 G_arg7 G_arg9 G_arg10 init ⟨n, hn⟩]
    dsimp only
    rw [View.writes_append, View.writes_append]
    exact h

end Cert.KernelIdeal.Mla

end
-- ==== Proof.KI.Tail.lean ====
module

public import proofs.«01_k».proof.Proof.KI.LoopGood

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A running sum read through the two dropped axes of its buffer, as a cast of the plane it lies in. -/
theorem valAlong_plane (v : View sig .tc .vmem S4x128x640 .f32) (L : List (View.Piece (Elt F) S4x128x640 .f32)) (off : Fin 3 → ℕ)
    (inb : ∀ a, off a + S1x128x640.size a ≤ S4x128x640.size a) (inb2 : ∀ a, (![0, 0] : Fin 2 → ℕ) a + S128x640.size a ≤ S128x640.size a) (h1 h2 hw)
    (hR : (Rect.unit (s := S128x640) ![0, 0] S128x640.size inb2).toLoadRect.shape.numel
      = ((Rect.unit (s := S4x128x640) off S1x128x640.size inb).withinL ((Rect.unit (s := S128x640) ![0, 0] S128x640.size inb2).consLift ![1, 128, 640] h1 h2).toLoadRect hw).shape.numel) :
    (LoadRect.valAlong hR (v.readCov L ((Rect.unit (s := S4x128x640) off S1x128x640.size inb).withinL ((Rect.unit (s := S128x640) ![0, 0] S128x640.size inb2).consLift ![1, 128, 640] h1 h2).toLoadRect hw)) : Vec F S128x640 .f32)
      = shapeCast S128x640 (v.readCov L (Rect.unit (s := S4x128x640) off S1x128x640.size inb).toLoadRect : Vec F S1x128x640 .f32) shapeCasts_S1x128x640_S128x640 := by
  funext x
  refine congrArg (v.read (Elt F) (v.writes (Elt F) v.junk L)) ((Rect.idx_withinL _ _ hw _).trans ?_)
  refine congrArg (Rect.unit (s := S4x128x640) off S1x128x640.size inb).emb ?_
  funext a; apply Fin.ext
  fin_cases a <;> exact (Nat.zero_add _).trans (Nat.one_mul _)

/-- Loop 2 makes no trip. -/
theorem zero2 (𝒱 : Variants) (c : Dev nD) (bd : Option 𝒱.V) (i : grid0.Coords) (arg3 : Memref sig .tc .vmem S1x640x512 .bf16) (harg3 : arg3.IsWhole) (arg4 : Memref sig .tc .vmem S1x4x8320x128 .bf16) (harg4 : arg4.IsWhole) (arg5 : Memref sig .tc .vmem S1x4x13x128x640 .bf16) (harg5 : arg5.IsWhole) (arg6 : Memref sig .tc .vmem S640x256 .bf16) (harg6 : arg6.IsWhole) (arg7 : Memref sig .tc .vmem S4x128x640 .f32) (harg7 : arg7.IsWhole) (arg8 : Memref sig .tc .vmem S2x640x640 .f32) (harg8 : arg8.IsWhole) (arg9 : Memref sig .tc .vmem S4x640x640 .f32) (harg9 : arg9.IsWhole) (arg10 : Memref sig .tc .vmem S4x640x640 .f32) (harg10 : arg10.IsWhole) (arg2 : BitVec 32) (v17 : BitVec 32) (v18 : FVec F S1x640 .f32) (v36 : BitVec 32) (v53 : BitVec 32) (v80 : FVec F S640x640 .f32) (v87 : FVec F S640x640 .f32) (v92 : FVec F S1x640 .f32) (v97 : FVec F S1x640 .f32) (v98 : Vec F S1x640x640 .f32) (v112 : BitVec 32) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (G_arg7 : BufTy.Contents (Elt F) arg7.view.ty) (G_arg9 : BufTy.Contents (Elt F) arg9.view.ty) (G_arg10 : BufTy.Contents (Elt F) arg10.view.ty) (init : FVec F S1x640 .f32 × FVec F S1x640 .f32 × FVec F S1x640 .f32 × FVec F S1x640 .f32 × FVec F S1x640 .f32 × FVec F S1x640 .f32 × FVec F S1x640 .f32 × FVec F S1x640 .f32) :
    st_k0_t2 (F := F) 𝒱 c bd i arg3 harg3 arg4 harg4 arg5 harg5 arg6 harg6 arg7 harg7 arg8 harg8 arg9 harg9 arg10 harg10 arg2 v17 v18 v36 v53 v80 v87 v92 v97 v98 v112 X_arg3 X_arg4 X_arg5 X_arg8 G_arg7 G_arg9 G_arg10 init (Scf.trips (k0_t2_loop i).lb (k0_t2_loop i).ub (k0_t2_loop i).st) = (init, [], [], []) := by
  rw [show Scf.trips (k0_t2_loop i).lb (k0_t2_loop i).ub (k0_t2_loop i).st = 0 from trips2 i]; rfl

/-- Loop 4 makes no trip. -/
theorem zero4 (𝒱 : Variants) (c : Dev nD) (bd : Option 𝒱.V) (i : grid0.Coords) (arg3 : Memref sig .tc .vmem S1x640x512 .bf16) (harg3 : arg3.IsWhole) (arg4 : Memref sig .tc .vmem S1x4x8320x128 .bf16) (harg4 : arg4.IsWhole) (arg5 : Memref sig .tc .vmem S1x4x13x128x640 .bf16) (harg5 : arg5.IsWhole) (arg6 : Memref sig .tc .vmem S640x256 .bf16) (harg6 : arg6.IsWhole) (arg7 : Memref sig .tc .vmem S4x128x640 .f32) (harg7 : arg7.IsWhole) (arg8 : Memref sig .tc .vmem S2x640x640 .f32) (harg8 : arg8.IsWhole) (arg9 : Memref sig .tc .vmem S4x640x640 .f32) (harg9 : arg9.IsWhole) (arg10 : Memref sig .tc .vmem S4x640x640 .f32) (harg10 : arg10.IsWhole) (arg2 : BitVec 32) (v17 : BitVec 32) (v18 : FVec F S1x640 .f32) (v36 : BitVec 32) (v53 : BitVec 32) (v80 : FVec F S640x640 .f32) (v87 : FVec F S640x640 .f32) (v92 : FVec F S1x640 .f32) (v97 : FVec F S1x640 .f32) (v98 : Vec F S1x640x640 .f32) (v120 : BitVec 32) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (G_arg7 : BufTy.Contents (Elt F) arg7.view.ty) (G_arg9 : BufTy.Contents (Elt F) arg9.view.ty) (G_arg10 : BufTy.Contents (Elt F) arg10.view.ty) (init : FVec F S1x640 .f32 × FVec F S1x640 .f32 × FVec F S1x640 .f32 × FVec F S1x640 .f32 × FVec F S1x640 .f32 × FVec F S1x640 .f32 × FVec F S1x640 .f32 × FVec F S1x640 .f32) :
    st_k0_t4 (F := F) 𝒱 c bd i arg3 harg3 arg4 harg4 arg5 harg5 arg6 harg6 arg7 harg7 arg8 harg8 arg9 harg9 arg10 harg10 arg2 v17 v18 v36 v53 v80 v87 v92 v97 v98 v120 X_arg3 X_arg4 X_arg5 X_arg8 G_arg7 G_arg9 G_arg10 init (Scf.trips (k0_t4_loop i).lb (k0_t4_loop i).ub (k0_t4_loop i).st) = (init, [], [], []) := by
  rw [show Scf.trips (k0_t4_loop i).lb (k0_t4_loop i).ub (k0_t4_loop i).st = 0 from trips4 i]; rfl

/-- The bias plane the first key block reads. -/
theorem off1_0 : ∀ (i : grid0.Coords), k0_off1 i = ![(if 0 = (i 2).val then 1 else 0), 0, 0] := by decide +kernel

theorem Good.cast {i : grid0.Coords} {x0 : Vec F S1x640x512 .bf16} {x1 : Vec F S1x4x8320x128 .bf16} {x2 : Vec F S1x4x13x128x640 .bf16} {j j' : ℕ} {acc g7 g9}
    (h : Good i x0 x1 x2 j acc g7 g9) (e : j = j') : Good i x0 x1 x2 j' acc g7 g9 := e ▸ h

set_option maxHeartbeats 1000000 in
/-- What the point has set up before its first key step: nothing summed, the first block's scores buffered. -/
theorem good_init (i : grid0.Coords) (x0 : Vec F S1x640x512 .bf16) (x1 : Vec F S1x4x8320x128 .bf16) (x2 : Vec F S1x4x13x128x640 .bf16)
    (arg3 : Memref sig .tc .vmem S1x640x512 .bf16) (arg4 : Memref sig .tc .vmem S1x4x8320x128 .bf16) (arg7 : Memref sig .tc .vmem S4x128x640 .f32) (arg8 : Memref sig .tc .vmem S2x640x640 .f32) (arg9 : Memref sig .tc .vmem S4x640x640 .f32)
    (f0 : BufTy.Contents (Elt F) arg3.view.ty) (f1 : BufTy.Contents (Elt F) arg4.view.ty) (f3 : BufTy.Contents (Elt F) arg8.view.ty)
    (g7 : BufTy.Contents (Elt F) arg7.view.ty) (g9 : BufTy.Contents (Elt F) arg9.view.ty)
    (hf0 : arg3.view.read (Elt F) f0 = x0) (hf1 : arg4.view.read (Elt F) f1 = x1) (hf3 : Tri (arg8.view.read (Elt F) f3)) (h1 : ∀ a, k0_off1 i a + S1x640x640.size a ≤ S2x640x640.size a) :
    Good i x0 x1 x2 0 (k0_pay345, k0_pay345, k0_pay345, k0_pay345, k0_pay353 (k0_pay347 (View.readAt (Elt F) arg8.view (Rect.unit (s := S2x640x640) (k0_off1 i) S1x640x640.size h1).toLoadRect f3) (View.readAt (Elt F) arg4.view (Rect.unit (s := S1x4x8320x128) ![0, 0, 0, 0] S1x1x640x128.size inb_S1x4x8320x128_S1x1x640x128_0_0_0_0).toLoadRect f1) (View.readAt (Elt F) arg3.view (Rect.unit (s := S1x640x512) ![0, 0, 0] S1x640x128.size inb_S1x640x512_S1x640x128_0_0_0).toLoadRect f0)), k0_pay355 (k0_pay346 (View.readAt (Elt F) arg8.view (Rect.unit (s := S2x640x640) (k0_off1 i) S1x640x640.size h1).toLoadRect f3)) (k0_pay348 (View.readAt (Elt F) arg4.view (Rect.unit (s := S1x4x8320x128) ![0, 1, 0, 0] S1x1x640x128.size inb_S1x4x8320x128_S1x1x640x128_0_1_0_0).toLoadRect f1)) (View.readAt (Elt F) arg3.view (Rect.unit (s := S1x640x512) ![0, 0, 128] S1x640x128.size inb_S1x640x512_S1x640x128_0_0_128).toLoadRect f0), k0_pay357 (k0_pay350 (k0_pay346 (View.readAt (Elt F) arg8.view (Rect.unit (s := S2x640x640) (k0_off1 i) S1x640x640.size h1).toLoadRect f3)) (View.readAt (Elt F) arg4.view (Rect.unit (s := S1x4x8320x128) ![0, 2, 0, 0] S1x1x640x128.size inb_S1x4x8320x128_S1x1x640x128_0_2_0_0).toLoadRect f1) (View.readAt (Elt F) arg3.view (Rect.unit (s := S1x640x512) ![0, 0, 256] S1x640x128.size inb_S1x640x512_S1x640x128_0_0_256).toLoadRect f0)), k0_pay359 (k0_pay351 (k0_pay346 (View.readAt (Elt F) arg8.view (Rect.unit (s := S2x640x640) (k0_off1 i) S1x640x640.size h1).toLoadRect f3)) (View.readAt (Elt F) arg4.view (Rect.unit (s := S1x4x8320x128) ![0, 3, 0, 0] S1x1x640x128.size inb_S1x4x8320x128_S1x1x640x128_0_3_0_0).toLoadRect f1) (View.readAt (Elt F) arg3.view (Rect.unit (s := S1x640x512) ![0, 0, 384] S1x640x128.size inb_S1x640x512_S1x640x128_0_0_384).toLoadRect f0)))
      (arg7.view.read (Elt F) (arg7.view.writes (Elt F) g7 [⟨Rect.unit (s := S4x128x640) ![0, 0, 0] S4x128x640.size inb_S4x128x640_S4x128x640_0_0_0, k0_pay342⟩]))
      (arg9.view.read (Elt F) (arg9.view.writes (Elt F) g9 [⟨(Rect.unit (s := S4x640x640) ![3, 0, 0] S1x640x640.size inb_S4x640x640_S1x640x640_3_0_0), k0_pay358 (k0_pay351 (k0_pay346 (View.readAt (Elt F) arg8.view (Rect.unit (s := S2x640x640) (k0_off1 i) S1x640x640.size h1).toLoadRect f3)) (View.readAt (Elt F) arg4.view (Rect.unit (s := S1x4x8320x128) ![0, 3, 0, 0] S1x1x640x128.size inb_S1x4x8320x128_S1x1x640x128_0_3_0_0).toLoadRect f1) (View.readAt (Elt F) arg3.view (Rect.unit (s := S1x640x512) ![0, 0, 384] S1x640x128.size inb_S1x640x512_S1x640x128_0_0_384).toLoadRect f0))⟩, ⟨(Rect.unit (s := S4x640x640) ![2, 0, 0] S1x640x640.size inb_S4x640x640_S1x640x640_2_0_0), k0_pay356 (k0_pay350 (k0_pay346 (View.readAt (Elt F) arg8.view (Rect.unit (s := S2x640x640) (k0_off1 i) S1x640x640.size h1).toLoadRect f3)) (View.readAt (Elt F) arg4.view (Rect.unit (s := S1x4x8320x128) ![0, 2, 0, 0] S1x1x640x128.size inb_S1x4x8320x128_S1x1x640x128_0_2_0_0).toLoadRect f1) (View.readAt (Elt F) arg3.view (Rect.unit (s := S1x640x512) ![0, 0, 256] S1x640x128.size inb_S1x640x512_S1x640x128_0_0_256).toLoadRect f0))⟩, ⟨(Rect.unit (s := S4x640x640) ![1, 0, 0] S1x640x640.size inb_S4x640x640_S1x640x640_1_0_0), k0_pay354 (k0_pay346 (View.readAt (Elt F) arg8.view (Rect.unit (s := S2x640x640) (k0_off1 i) S1x640x640.size h1).toLoadRect f3)) (k0_pay348 (View.readAt (Elt F) arg4.view (Rect.unit (s := S1x4x8320x128) ![0, 1, 0, 0] S1x1x640x128.size inb_S1x4x8320x128_S1x1x640x128_0_1_0_0).toLoadRect f1)) (View.readAt (Elt F) arg3.view (Rect.unit (s := S1x640x512) ![0, 0, 128] S1x640x128.size inb_S1x640x512_S1x640x128_0_0_128).toLoadRect f0)⟩, ⟨(Rect.unit (s := S4x640x640) ![0, 0, 0] S1x640x640.size inb_S4x640x640_S1x640x640_0_0_0), k0_pay352 (k0_pay347 (View.readAt (Elt F) arg8.view (Rect.unit (s := S2x640x640) (k0_off1 i) S1x640x640.size h1).toLoadRect f3) (View.readAt (Elt F) arg4.view (Rect.unit (s := S1x4x8320x128) ![0, 0, 0, 0] S1x1x640x128.size inb_S1x4x8320x128_S1x1x640x128_0_0_0_0).toLoadRect f1) (View.readAt (Elt F) arg3.view (Rect.unit (s := S1x640x512) ![0, 0, 0] S1x640x128.size inb_S1x640x512_S1x640x128_0_0_0).toLoadRect f0))⟩])) := by
  have hb := read_b (F := F) arg8.view f3 hf3 i 0 (k0_off1 i) h1 (off1_0 i)
  have hq0 := read_q (F := F) arg3.view f0 x0 hf0 0 ![0, 0, 0] inb_S1x640x512_S1x640x128_0_0_0 rfl
  have hk0 := read_k (F := F) arg4.view f1 x1 hf1 0 0 ![0, 0, 0, 0] inb_S1x4x8320x128_S1x1x640x128_0_0_0_0 rfl
  have hq1 := read_q (F := F) arg3.view f0 x0 hf0 1 ![0, 0, 128] inb_S1x640x512_S1x640x128_0_0_128 rfl
  have hk1 := read_k (F := F) arg4.view f1 x1 hf1 1 0 ![0, 1, 0, 0] inb_S1x4x8320x128_S1x1x640x128_0_1_0_0 rfl
  have hq2 := read_q (F := F) arg3.view f0 x0 hf0 2 ![0, 0, 256] inb_S1x640x512_S1x640x128_0_0_256 rfl
  have hk2 := read_k (F := F) arg4.view f1 x1 hf1 2 0 ![0, 2, 0, 0] inb_S1x4x8320x128_S1x1x640x128_0_2_0_0 rfl
  have hq3 := read_q (F := F) arg3.view f0 x0 hf0 3 ![0, 0, 384] inb_S1x640x512_S1x640x128_0_0_384 rfl
  have hk3 := read_k (F := F) arg4.view f1 x1 hf1 3 0 ![0, 3, 0, 0] inb_S1x4x8320x128_S1x1x640x128_0_3_0_0 rfl
  have hz : arg7.view.read (Elt F) (arg7.view.writes (Elt F) g7 [⟨Rect.unit (s := S4x128x640) ![0, 0, 0] S4x128x640.size inb_S4x128x640_S4x128x640_0_0_0, k0_pay342⟩]) = k0_pay342 :=
    (View.ld_unit_zero (S := S4x128x640) (off := ![0, 0, 0]) (by decide) inb_S4x128x640_S4x128x640_0_0_0 _).symm.trans (ld_hit arg7.view g7 _ _ [])
  rw [hz]
  refine ⟨?_, rfl, rfl, rfl, rfl, ?_, ?_, ?_, ?_⟩
  · simp only [hb, hq0, hq1, hq2, hq3, hk0, hk1, hk2, hk3]; rfl
  all_goals
    simp (disch := first | rfl | decide) only [ld_hit, ↓ld_skip, hb, hq0, hq1, hq2, hq3, hk0, hk1, hk2, hk3]
    rfl

/-- The bias buffer after the point's two stores into it. -/
theorem tri_init (arg8 : Memref sig .tc .vmem S2x640x640 .f32) (g8 : BufTy.Contents (Elt F) arg8.view.ty) :
    Tri (arg8.view.read (Elt F) (arg8.view.writes (Elt F) g8 [⟨Rect.unit (s := S2x640x640) ![1, 0, 0] S1x640x640.size inb_S2x640x640_S1x640x640_1_0_0, k0_pay344⟩, ⟨Rect.unit (s := S2x640x640) ![0, 0, 0] S1x640x640.size inb_S2x640x640_S1x640x640_0_0_0, k0_pay343⟩])) :=
  ⟨(ld_skip arg8.view g8 _ _ _ _ (by decide)).trans (ld_hit arg8.view g8 _ _ _), ld_hit arg8.view g8 _ _ _⟩

/-- The stores of the last key step, its first heads. -/
def tA1 (i : grid0.Coords) (arg5 : Memref sig .tc .vmem S1x4x13x128x640 .bf16) (arg7 : Memref sig .tc .vmem S4x128x640 .f32) (arg9 : Memref sig .tc .vmem S4x640x640 .f32) (f2 : BufTy.Contents (Elt F) arg5.view.ty) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h93 : ∀ a, k0_off93 i a + S1x1x1x128x640.size a ≤ S1x4x13x128x640.size a) : List (View.Piece (Elt F) S4x128x640 .f32) :=
  ⟨(Rect.unit (s := S4x128x640) ![0, 0, 0] S1x128x640.size inb_S4x128x640_S1x128x640_0_0_0), k0_pay333 acc.1 acc.2.2.2.2.1 (arg9.view.readCov P9 (Rect.unit (s := S4x640x640) ![0, 0, 0] S1x640x640.size inb_S4x640x640_S1x640x640_0_0_0).toLoadRect) (arg7.view.readCov P7 (Rect.unit (s := S4x128x640) ![0, 0, 0] S1x128x640.size inb_S4x128x640_S1x128x640_0_0_0).toLoadRect) (View.readAt (Elt F) arg5.view (Rect.unit (s := S1x4x13x128x640) (k0_off93 i) S1x1x1x128x640.size h93).toLoadRect f2)⟩ :: P7
/-- The stores of the last key step, its first two heads. -/
def tA2 (i : grid0.Coords) (arg5 : Memref sig .tc .vmem S1x4x13x128x640 .bf16) (arg7 : Memref sig .tc .vmem S4x128x640 .f32) (arg9 : Memref sig .tc .vmem S4x640x640 .f32) (f2 : BufTy.Contents (Elt F) arg5.view.ty) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h93 : ∀ a, k0_off93 i a + S1x1x1x128x640.size a ≤ S1x4x13x128x640.size a) (h94 : ∀ a, k0_off94 i a + S1x1x1x128x640.size a ≤ S1x4x13x128x640.size a) : List (View.Piece (Elt F) S4x128x640 .f32) :=
  ⟨(Rect.unit (s := S4x128x640) ![1, 0, 0] S1x128x640.size inb_S4x128x640_S1x128x640_1_0_0), k0_pay337 (k0_pay335 acc.2.1 acc.2.2.2.2.2.1 (arg9.view.readCov P9 (Rect.unit (s := S4x640x640) ![1, 0, 0] S1x640x640.size inb_S4x640x640_S1x640x640_1_0_0).toLoadRect)) (k0_pay336 acc.2.1 acc.2.2.2.2.2.1 (arg7.view.readCov (tA1 i arg5 arg7 arg9 f2 acc P7 P9 h93) (Rect.unit (s := S4x128x640) ![1, 0, 0] S1x128x640.size inb_S4x128x640_S1x128x640_1_0_0).toLoadRect)) (View.readAt (Elt F) arg5.view (Rect.unit (s := S1x4x13x128x640) (k0_off94 i) S1x1x1x128x640.size h94).toLoadRect f2)⟩ :: tA1 i arg5 arg7 arg9 f2 acc P7 P9 h93
/-- The stores of the last key step, its first three heads. -/
def tA3 (i : grid0.Coords) (arg5 : Memref sig .tc .vmem S1x4x13x128x640 .bf16) (arg7 : Memref sig .tc .vmem S4x128x640 .f32) (arg9 : Memref sig .tc .vmem S4x640x640 .f32) (f2 : BufTy.Contents (Elt F) arg5.view.ty) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h93 : ∀ a, k0_off93 i a + S1x1x1x128x640.size a ≤ S1x4x13x128x640.size a) (h94 : ∀ a, k0_off94 i a + S1x1x1x128x640.size a ≤ S1x4x13x128x640.size a) (h95 : ∀ a, k0_off95 i a + S1x1x1x128x640.size a ≤ S1x4x13x128x640.size a) : List (View.Piece (Elt F) S4x128x640 .f32) :=
  ⟨(Rect.unit (s := S4x128x640) ![2, 0, 0] S1x128x640.size inb_S4x128x640_S1x128x640_2_0_0), k0_pay338 acc.2.2.1 acc.2.2.2.2.2.2.1 (arg9.view.readCov P9 (Rect.unit (s := S4x640x640) ![2, 0, 0] S1x640x640.size inb_S4x640x640_S1x640x640_2_0_0).toLoadRect) (arg7.view.readCov (tA2 i arg5 arg7 arg9 f2 acc P7 P9 h93 h94) (Rect.unit (s := S4x128x640) ![2, 0, 0] S1x128x640.size inb_S4x128x640_S1x128x640_2_0_0).toLoadRect) (View.readAt (Elt F) arg5.view (Rect.unit (s := S1x4x13x128x640) (k0_off95 i) S1x1x1x128x640.size h95).toLoadRect f2)⟩ :: tA2 i arg5 arg7 arg9 f2 acc P7 P9 h93 h94
/-- The stores of the last key step, its four heads. -/
def tA4 (i : grid0.Coords) (arg5 : Memref sig .tc .vmem S1x4x13x128x640 .bf16) (arg7 : Memref sig .tc .vmem S4x128x640 .f32) (arg9 : Memref sig .tc .vmem S4x640x640 .f32) (f2 : BufTy.Contents (Elt F) arg5.view.ty) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h93 : ∀ a, k0_off93 i a + S1x1x1x128x640.size a ≤ S1x4x13x128x640.size a) (h94 : ∀ a, k0_off94 i a + S1x1x1x128x640.size a ≤ S1x4x13x128x640.size a) (h95 : ∀ a, k0_off95 i a + S1x1x1x128x640.size a ≤ S1x4x13x128x640.size a) (h96 : ∀ a, k0_off96 i a + S1x1x1x128x640.size a ≤ S1x4x13x128x640.size a) : List (View.Piece (Elt F) S4x128x640 .f32) :=
  ⟨(Rect.unit (s := S4x128x640) ![3, 0, 0] S1x128x640.size inb_S4x128x640_S1x128x640_3_0_0), k0_pay366 (k0_pay340 acc.2.2.2.1 acc.2.2.2.2.2.2.2 (arg9.view.readCov P9 (Rect.unit (s := S4x640x640) ![3, 0, 0] S1x640x640.size inb_S4x640x640_S1x640x640_3_0_0).toLoadRect)) (k0_pay341 acc.2.2.2.1 acc.2.2.2.2.2.2.2) (arg7.view.readCov (tA3 i arg5 arg7 arg9 f2 acc P7 P9 h93 h94 h95) (Rect.unit (s := S4x128x640) ![3, 0, 0] S1x128x640.size inb_S4x128x640_S1x128x640_3_0_0).toLoadRect) (View.readAt (Elt F) arg5.view (Rect.unit (s := S1x4x13x128x640) (k0_off96 i) S1x1x1x128x640.size h96).toLoadRect f2)⟩ :: tA3 i arg5 arg7 arg9 f2 acc P7 P9 h93 h94 h95

set_option maxHeartbeats 1000000 in
/-- The last key step of a point with one block left: the sums over all its blocks. -/
theorem tailA (i : grid0.Coords) (arg5 : Memref sig .tc .vmem S1x4x13x128x640 .bf16) (arg7 : Memref sig .tc .vmem S4x128x640 .f32) (arg9 : Memref sig .tc .vmem S4x640x640 .f32) (f2 : BufTy.Contents (Elt F) arg5.view.ty) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h93 : ∀ a, k0_off93 i a + S1x1x1x128x640.size a ≤ S1x4x13x128x640.size a) (h94 : ∀ a, k0_off94 i a + S1x1x1x128x640.size a ≤ S1x4x13x128x640.size a) (h95 : ∀ a, k0_off95 i a + S1x1x1x128x640.size a ≤ S1x4x13x128x640.size a) (h96 : ∀ a, k0_off96 i a + S1x1x1x128x640.size a ≤ S1x4x13x128x640.size a)
    (x0 : Vec F S1x640x512 .bf16) (x1 : Vec F S1x4x8320x128 .bf16) (x2 : Vec F S1x4x13x128x640 .bf16) (hc : ¬k0_cond1 i = 1#1)
    (hf2 : arg5.view.read (Elt F) f2 = x2)
    (hg : Good i x0 x1 x2 (i 2).val acc (arg7.view.read (Elt F) (arg7.view.writes (Elt F) arg7.view.junk P7)) (arg9.view.read (Elt F) (arg9.view.writes (Elt F) arg9.view.junk P9))) :
    (arg7.view.readCov (tA4 i arg5 arg7 arg9 f2 acc P7 P9 h93 h94 h95 h96) (Rect.unit (s := S4x128x640) ![0, 0, 0] S1x128x640.size inb_S4x128x640_S1x128x640_0_0_0).toLoadRect) = A i x0 x1 x2 0 ((i 2).val + 1) ∧ (arg7.view.readCov (tA4 i arg5 arg7 arg9 f2 acc P7 P9 h93 h94 h95 h96) (Rect.unit (s := S4x128x640) ![1, 0, 0] S1x128x640.size inb_S4x128x640_S1x128x640_1_0_0).toLoadRect) = A i x0 x1 x2 1 ((i 2).val + 1) ∧ (arg7.view.readCov (tA4 i arg5 arg7 arg9 f2 acc P7 P9 h93 h94 h95 h96) (Rect.unit (s := S4x128x640) ![2, 0, 0] S1x128x640.size inb_S4x128x640_S1x128x640_2_0_0).toLoadRect) = A i x0 x1 x2 2 ((i 2).val + 1) ∧ (arg7.view.readCov (tA4 i arg5 arg7 arg9 f2 acc P7 P9 h93 h94 h95 h96) (Rect.unit (s := S4x128x640) ![3, 0, 0] S1x128x640.size inb_S4x128x640_S1x128x640_3_0_0).toLoadRect) = A i x0 x1 x2 3 ((i 2).val + 1) := by
  obtain ⟨hacc, ha0, ha1, ha2, ha3, hb0, hb1, hb2, hb3⟩ := hg
  subst hacc
  have hx0 : (arg7.view.readCov P7 (Rect.unit (s := S4x128x640) ![0, 0, 0] S1x128x640.size inb_S4x128x640_S1x128x640_0_0_0).toLoadRect) = _ := ha0
  have hy0 : (arg9.view.readCov P9 (Rect.unit (s := S4x640x640) ![0, 0, 0] S1x640x640.size inb_S4x640x640_S1x640x640_0_0_0).toLoadRect) = _ := hb0
  have hx1 : (arg7.view.readCov P7 (Rect.unit (s := S4x128x640) ![1, 0, 0] S1x128x640.size inb_S4x128x640_S1x128x640_1_0_0).toLoadRect) = _ := ha1
  have hy1 : (arg9.view.readCov P9 (Rect.unit (s := S4x640x640) ![1, 0, 0] S1x640x640.size inb_S4x640x640_S1x640x640_1_0_0).toLoadRect) = _ := hb1
  have hx2 : (arg7.view.readCov P7 (Rect.unit (s := S4x128x640) ![2, 0, 0] S1x128x640.size inb_S4x128x640_S1x128x640_2_0_0).toLoadRect) = _ := ha2
  have hy2 : (arg9.view.readCov P9 (Rect.unit (s := S4x640x640) ![2, 0, 0] S1x640x640.size inb_S4x640x640_S1x640x640_2_0_0).toLoadRect) = _ := hb2
  have hx3 : (arg7.view.readCov P7 (Rect.unit (s := S4x128x640) ![3, 0, 0] S1x128x640.size inb_S4x128x640_S1x128x640_3_0_0).toLoadRect) = _ := ha3
  have hy3 : (arg9.view.readCov P9 (Rect.unit (s := S4x640x640) ![3, 0, 0] S1x640x640.size inb_S4x640x640_S1x640x640_3_0_0).toLoadRect) = _ := hb3
  have hv0 := read_v (F := F) arg5.view f2 x2 hf2 0 (i 2).val (k0_off93 i) h93 (off93_0 i hc)
  have hv1 := read_v (F := F) arg5.view f2 x2 hf2 1 (i 2).val (k0_off94 i) h94 (off94_0 i hc)
  have hv2 := read_v (F := F) arg5.view f2 x2 hf2 2 (i 2).val (k0_off95 i) h95 (off95_0 i hc)
  have hv3 := read_v (F := F) arg5.view f2 x2 hf2 3 (i 2).val (k0_off96 i) h96 (off96_0 i hc)
  refine ⟨?_, ?_, ?_, ?_⟩
  all_goals
    unfold tA4 tA3 tA2 tA1
    simp (disch := first | rfl | decide) only [View.readCov_cons_toLoadRect, ↓View.readCov_skip, hx0, hx1, hx2, hx3, hy0, hy1, hy2, hy3, hv0, hv1, hv2, hv3]
    rfl

/-- The stores of the last block's scores. -/
def tBS (i : grid0.Coords) (arg3 : Memref sig .tc .vmem S1x640x512 .bf16) (arg4 : Memref sig .tc .vmem S1x4x8320x128 .bf16) (arg8 : Memref sig .tc .vmem S2x640x640 .f32) (f0 : BufTy.Contents (Elt F) arg3.view.ty) (f1 : BufTy.Contents (Elt F) arg4.view.ty) (f8 : BufTy.Contents (Elt F) arg8.view.ty) (P10 : List (View.Piece (Elt F) S4x640x640 .f32)) (h80 : ∀ a, k0_off80 i a + S1x640x640.size a ≤ S2x640x640.size a) (h81 : ∀ a, k0_off81 i a + S1x1x640x128.size a ≤ S1x4x8320x128.size a) (h82 : ∀ a, k0_off82 i a + S1x1x640x128.size a ≤ S1x4x8320x128.size a) (h83 : ∀ a, k0_off83 i a + S1x1x640x128.size a ≤ S1x4x8320x128.size a) (h84 : ∀ a, k0_off84 i a + S1x1x640x128.size a ≤ S1x4x8320x128.size a) : List (View.Piece (Elt F) S4x640x640 .f32) :=
  ⟨(Rect.unit (s := S4x640x640) ![3, 0, 0] S1x640x640.size inb_S4x640x640_S1x640x640_3_0_0), k0_pay314 (k0_pay302 (View.readAt (Elt F) arg8.view (Rect.unit (s := S2x640x640) (k0_off80 i) S1x640x640.size h80).toLoadRect f8)) (k0_pay306 (View.readAt (Elt F) arg4.view (Rect.unit (s := S1x4x8320x128) (k0_off84 i) S1x1x640x128.size h84).toLoadRect f1)) (View.readAt (Elt F) arg3.view (Rect.unit (s := S1x640x512) ![0, 0, 384] S1x640x128.size inb_S1x640x512_S1x640x128_0_0_384).toLoadRect f0)⟩ :: ⟨(Rect.unit (s := S4x640x640) ![2, 0, 0] S1x640x640.size inb_S4x640x640_S1x640x640_2_0_0), k0_pay312 (k0_pay305 (View.readAt (Elt F) arg8.view (Rect.unit (s := S2x640x640) (k0_off80 i) S1x640x640.size h80).toLoadRect f8) (View.readAt (Elt F) arg4.view (Rect.unit (s := S1x4x8320x128) (k0_off83 i) S1x1x640x128.size h83).toLoadRect f1) (View.readAt (Elt F) arg3.view (Rect.unit (s := S1x640x512) ![0, 0, 256] S1x640x128.size inb_S1x640x512_S1x640x128_0_0_256).toLoadRect f0))⟩ :: ⟨(Rect.unit (s := S4x640x640) ![1, 0, 0] S1x640x640.size inb_S4x640x640_S1x640x640_1_0_0), k0_pay310 (k0_pay304 (View.readAt (Elt F) arg8.view (Rect.unit (s := S2x640x640) (k0_off80 i) S1x640x640.size h80).toLoadRect f8) (View.readAt (Elt F) arg4.view (Rect.unit (s := S1x4x8320x128) (k0_off82 i) S1x1x640x128.size h82).toLoadRect f1) (View.readAt (Elt F) arg3.view (Rect.unit (s := S1x640x512) ![0, 0, 128] S1x640x128.size inb_S1x640x512_S1x640x128_0_0_128).toLoadRect f0))⟩ :: ⟨(Rect.unit (s := S4x640x640) ![0, 0, 0] S1x640x640.size inb_S4x640x640_S1x640x640_0_0_0), k0_pay308 (k0_pay303 (View.readAt (Elt F) arg8.view (Rect.unit (s := S2x640x640) (k0_off80 i) S1x640x640.size h80).toLoadRect f8) (View.readAt (Elt F) arg4.view (Rect.unit (s := S1x4x8320x128) (k0_off81 i) S1x1x640x128.size h81).toLoadRect f1) (View.readAt (Elt F) arg3.view (Rect.unit (s := S1x640x512) ![0, 0, 0] S1x640x128.size inb_S1x640x512_S1x640x128_0_0_0).toLoadRect f0))⟩ :: P10
/-- The sums' stores of the last two key steps, up to number 1. -/
def tB1 (i : grid0.Coords) (arg3 : Memref sig .tc .vmem S1x640x512 .bf16) (arg4 : Memref sig .tc .vmem S1x4x8320x128 .bf16) (arg5 : Memref sig .tc .vmem S1x4x13x128x640 .bf16) (arg7 : Memref sig .tc .vmem S4x128x640 .f32) (arg8 : Memref sig .tc .vmem S2x640x640 .f32) (arg9 arg10 : Memref sig .tc .vmem S4x640x640 .f32) (f0 : BufTy.Contents (Elt F) arg3.view.ty) (f1 : BufTy.Contents (Elt F) arg4.view.ty) (f2 : BufTy.Contents (Elt F) arg5.view.ty) (f8 : BufTy.Contents (Elt F) arg8.view.ty) (P10 : List (View.Piece (Elt F) S4x640x640 .f32)) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h80 : ∀ a, k0_off80 i a + S1x640x640.size a ≤ S2x640x640.size a) (h81 : ∀ a, k0_off81 i a + S1x1x640x128.size a ≤ S1x4x8320x128.size a) (h82 : ∀ a, k0_off82 i a + S1x1x640x128.size a ≤ S1x4x8320x128.size a) (h83 : ∀ a, k0_off83 i a + S1x1x640x128.size a ≤ S1x4x8320x128.size a) (h84 : ∀ a, k0_off84 i a + S1x1x640x128.size a ≤ S1x4x8320x128.size a) (h85 : ∀ a, k0_off85 i a + S1x1x1x128x640.size a ≤ S1x4x13x128x640.size a) : List (View.Piece (Elt F) S4x128x640 .f32) :=
  ⟨(Rect.unit (s := S4x128x640) ![0, 0, 0] S1x128x640.size inb_S4x128x640_S1x128x640_0_0_0), k0_pay319 (k0_pay317 acc.1 acc.2.2.2.2.1 (arg9.view.readCov P9 (Rect.unit (s := S4x640x640) ![0, 0, 0] S1x640x640.size inb_S4x640x640_S1x640x640_0_0_0).toLoadRect)) (k0_pay318 acc.1 acc.2.2.2.2.1) (arg7.view.readCov P7 (Rect.unit (s := S4x128x640) ![0, 0, 0] S1x128x640.size inb_S4x128x640_S1x128x640_0_0_0).toLoadRect) (View.readAt (Elt F) arg5.view (Rect.unit (s := S1x4x13x128x640) (k0_off85 i) S1x1x1x128x640.size h85).toLoadRect f2)⟩ :: P7
/-- The sums' stores of the last two key steps, up to number 2. -/
def tB2 (i : grid0.Coords) (arg3 : Memref sig .tc .vmem S1x640x512 .bf16) (arg4 : Memref sig .tc .vmem S1x4x8320x128 .bf16) (arg5 : Memref sig .tc .vmem S1x4x13x128x640 .bf16) (arg7 : Memref sig .tc .vmem S4x128x640 .f32) (arg8 : Memref sig .tc .vmem S2x640x640 .f32) (arg9 arg10 : Memref sig .tc .vmem S4x640x640 .f32) (f0 : BufTy.Contents (Elt F) arg3.view.ty) (f1 : BufTy.Contents (Elt F) arg4.view.ty) (f2 : BufTy.Contents (Elt F) arg5.view.ty) (f8 : BufTy.Contents (Elt F) arg8.view.ty) (P10 : List (View.Piece (Elt F) S4x640x640 .f32)) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h80 : ∀ a, k0_off80 i a + S1x640x640.size a ≤ S2x640x640.size a) (h81 : ∀ a, k0_off81 i a + S1x1x640x128.size a ≤ S1x4x8320x128.size a) (h82 : ∀ a, k0_off82 i a + S1x1x640x128.size a ≤ S1x4x8320x128.size a) (h83 : ∀ a, k0_off83 i a + S1x1x640x128.size a ≤ S1x4x8320x128.size a) (h84 : ∀ a, k0_off84 i a + S1x1x640x128.size a ≤ S1x4x8320x128.size a) (h85 : ∀ a, k0_off85 i a + S1x1x1x128x640.size a ≤ S1x4x13x128x640.size a) (h86 : ∀ a, k0_off86 i a + S1x1x1x128x640.size a ≤ S1x4x13x128x640.size a) : List (View.Piece (Elt F) S4x128x640 .f32) :=
  ⟨(Rect.unit (s := S4x128x640) ![1, 0, 0] S1x128x640.size inb_S4x128x640_S1x128x640_1_0_0), k0_pay321 acc.2.1 acc.2.2.2.2.2.1 (arg9.view.readCov P9 (Rect.unit (s := S4x640x640) ![1, 0, 0] S1x640x640.size inb_S4x640x640_S1x640x640_1_0_0).toLoadRect) (arg7.view.readCov (tB1 i arg3 arg4 arg5 arg7 arg8 arg9 arg10 f0 f1 f2 f8 P10 acc P7 P9 h80 h81 h82 h83 h84 h85) (Rect.unit (s := S4x128x640) ![1, 0, 0] S1x128x640.size inb_S4x128x640_S1x128x640_1_0_0).toLoadRect) (View.readAt (Elt F) arg5.view (Rect.unit (s := S1x4x13x128x640) (k0_off86 i) S1x1x1x128x640.size h86).toLoadRect f2)⟩ :: (tB1 i arg3 arg4 arg5 arg7 arg8 arg9 arg10 f0 f1 f2 f8 P10 acc P7 P9 h80 h81 h82 h83 h84 h85)
/-- The sums' stores of the last two key steps, up to number 3. -/
def tB3 (i : grid0.Coords) (arg3 : Memref sig .tc .vmem S1x640x512 .bf16) (arg4 : Memref sig .tc .vmem S1x4x8320x128 .bf16) (arg5 : Memref sig .tc .vmem S1x4x13x128x640 .bf16) (arg7 : Memref sig .tc .vmem S4x128x640 .f32) (arg8 : Memref sig .tc .vmem S2x640x640 .f32) (arg9 arg10 : Memref sig .tc .vmem S4x640x640 .f32) (f0 : BufTy.Contents (Elt F) arg3.view.ty) (f1 : BufTy.Contents (Elt F) arg4.view.ty) (f2 : BufTy.Contents (Elt F) arg5.view.ty) (f8 : BufTy.Contents (Elt F) arg8.view.ty) (P10 : List (View.Piece (Elt F) S4x640x640 .f32)) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h80 : ∀ a, k0_off80 i a + S1x640x640.size a ≤ S2x640x640.size a) (h81 : ∀ a, k0_off81 i a + S1x1x640x128.size a ≤ S1x4x8320x128.size a) (h82 : ∀ a, k0_off82 i a + S1x1x640x128.size a ≤ S1x4x8320x128.size a) (h83 : ∀ a, k0_off83 i a + S1x1x640x128.size a ≤ S1x4x8320x128.size a) (h84 : ∀ a, k0_off84 i a + S1x1x640x128.size a ≤ S1x4x8320x128.size a) (h85 : ∀ a, k0_off85 i a + S1x1x1x128x640.size a ≤ S1x4x13x128x640.size a) (h86 : ∀ a, k0_off86 i a + S1x1x1x128x640.size a ≤ S1x4x13x128x640.size a) (h87 : ∀ a, k0_off87 i a + S1x1x1x128x640.size a ≤ S1x4x13x128x640.size a) : List (View.Piece (Elt F) S4x128x640 .f32) :=
  ⟨(Rect.unit (s := S4x128x640) ![2, 0, 0] S1x128x640.size inb_S4x128x640_S1x128x640_2_0_0), k0_pay323 acc.2.2.1 acc.2.2.2.2.2.2.1 (arg9.view.readCov P9 (Rect.unit (s := S4x640x640) ![2, 0, 0] S1x640x640.size inb_S4x640x640_S1x640x640_2_0_0).toLoadRect) (arg7.view.readCov (tB2 i arg3 arg4 arg5 arg7 arg8 arg9 arg10 f0 f1 f2 f8 P10 acc P7 P9 h80 h81 h82 h83 h84 h85 h86) (Rect.unit (s := S4x128x640) ![2, 0, 0] S1x128x640.size inb_S4x128x640_S1x128x640_2_0_0).toLoadRect) (View.readAt (Elt F) arg5.view (Rect.unit (s := S1x4x13x128x640) (k0_off87 i) S1x1x1x128x640.size h87).toLoadRect f2)⟩ :: (tB2 i arg3 arg4 arg5 arg7 arg8 arg9 arg10 f0 f1 f2 f8 P10 acc P7 P9 h80 h81 h82 h83 h84 h85 h86)
/-- The sums' stores of the last two key steps, up to number 4. -/
def tB4 (i : grid0.Coords) (arg3 : Memref sig .tc .vmem S1x640x512 .bf16) (arg4 : Memref sig .tc .vmem S1x4x8320x128 .bf16) (arg5 : Memref sig .tc .vmem S1x4x13x128x640 .bf16) (arg7 : Memref sig .tc .vmem S4x128x640 .f32) (arg8 : Memref sig .tc .vmem S2x640x640 .f32) (arg9 arg10 : Memref sig .tc .vmem S4x640x640 .f32) (f0 : BufTy.Contents (Elt F) arg3.view.ty) (f1 : BufTy.Contents (Elt F) arg4.view.ty) (f2 : BufTy.Contents (Elt F) arg5.view.ty) (f8 : BufTy.Contents (Elt F) arg8.view.ty) (P10 : List (View.Piece (Elt F) S4x640x640 .f32)) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h80 : ∀ a, k0_off80 i a + S1x640x640.size a ≤ S2x640x640.size a) (h81 : ∀ a, k0_off81 i a + S1x1x640x128.size a ≤ S1x4x8320x128.size a) (h82 : ∀ a, k0_off82 i a + S1x1x640x128.size a ≤ S1x4x8320x128.size a) (h83 : ∀ a, k0_off83 i a + S1x1x640x128.size a ≤ S1x4x8320x128.size a) (h84 : ∀ a, k0_off84 i a + S1x1x640x128.size a ≤ S1x4x8320x128.size a) (h85 : ∀ a, k0_off85 i a + S1x1x1x128x640.size a ≤ S1x4x13x128x640.size a) (h86 : ∀ a, k0_off86 i a + S1x1x1x128x640.size a ≤ S1x4x13x128x640.size a) (h87 : ∀ a, k0_off87 i a + S1x1x1x128x640.size a ≤ S1x4x13x128x640.size a) (h88 : ∀ a, k0_off88 i a + S1x1x1x128x640.size a ≤ S1x4x13x128x640.size a) : List (View.Piece (Elt F) S4x128x640 .f32) :=
  ⟨(Rect.unit (s := S4x128x640) ![3, 0, 0] S1x128x640.size inb_S4x128x640_S1x128x640_3_0_0), k0_pay327 (k0_pay325 acc.2.2.2.1 acc.2.2.2.2.2.2.2 (arg9.view.readCov P9 (Rect.unit (s := S4x640x640) ![3, 0, 0] S1x640x640.size inb_S4x640x640_S1x640x640_3_0_0).toLoadRect)) (k0_pay326 acc.2.2.2.1 acc.2.2.2.2.2.2.2 (arg7.view.readCov (tB3 i arg3 arg4 arg5 arg7 arg8 arg9 arg10 f0 f1 f2 f8 P10 acc P7 P9 h80 h81 h82 h83 h84 h85 h86 h87) (Rect.unit (s := S4x128x640) ![3, 0, 0] S1x128x640.size inb_S4x128x640_S1x128x640_3_0_0).toLoadRect)) (View.readAt (Elt F) arg5.view (Rect.unit (s := S1x4x13x128x640) (k0_off88 i) S1x1x1x128x640.size h88).toLoadRect f2)⟩ :: (tB3 i arg3 arg4 arg5 arg7 arg8 arg9 arg10 f0 f1 f2 f8 P10 acc P7 P9 h80 h81 h82 h83 h84 h85 h86 h87)
/-- The sums' stores of the last two key steps, up to number 5. -/
def tB5 (i : grid0.Coords) (arg3 : Memref sig .tc .vmem S1x640x512 .bf16) (arg4 : Memref sig .tc .vmem S1x4x8320x128 .bf16) (arg5 : Memref sig .tc .vmem S1x4x13x128x640 .bf16) (arg7 : Memref sig .tc .vmem S4x128x640 .f32) (arg8 : Memref sig .tc .vmem S2x640x640 .f32) (arg9 arg10 : Memref sig .tc .vmem S4x640x640 .f32) (f0 : BufTy.Contents (Elt F) arg3.view.ty) (f1 : BufTy.Contents (Elt F) arg4.view.ty) (f2 : BufTy.Contents (Elt F) arg5.view.ty) (f8 : BufTy.Contents (Elt F) arg8.view.ty) (P10 : List (View.Piece (Elt F) S4x640x640 .f32)) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h80 : ∀ a, k0_off80 i a + S1x640x640.size a ≤ S2x640x640.size a) (h81 : ∀ a, k0_off81 i a + S1x1x640x128.size a ≤ S1x4x8320x128.size a) (h82 : ∀ a, k0_off82 i a + S1x1x640x128.size a ≤ S1x4x8320x128.size a) (h83 : ∀ a, k0_off83 i a + S1x1x640x128.size a ≤ S1x4x8320x128.size a) (h84 : ∀ a, k0_off84 i a + S1x1x640x128.size a ≤ S1x4x8320x128.size a) (h85 : ∀ a, k0_off85 i a + S1x1x1x128x640.size a ≤ S1x4x13x128x640.size a) (h86 : ∀ a, k0_off86 i a + S1x1x1x128x640.size a ≤ S1x4x13x128x640.size a) (h87 : ∀ a, k0_off87 i a + S1x1x1x128x640.size a ≤ S1x4x13x128x640.size a) (h88 : ∀ a, k0_off88 i a + S1x1x1x128x640.size a ≤ S1x4x13x128x640.size a) (h89 : ∀ a, k0_off89 i a + S1x1x1x128x640.size a ≤ S1x4x13x128x640.size a) : List (View.Piece (Elt F) S4x128x640 .f32) :=
  ⟨(Rect.unit (s := S4x128x640) ![0, 0, 0] S1x128x640.size inb_S4x128x640_S1x128x640_0_0_0), k0_pay328 (k0_pay309 (k0_pay303 (View.readAt (Elt F) arg8.view (Rect.unit (s := S2x640x640) (k0_off80 i) S1x640x640.size h80).toLoadRect f8) (View.readAt (Elt F) arg4.view (Rect.unit (s := S1x4x8320x128) (k0_off81 i) S1x1x640x128.size h81).toLoadRect f1) (View.readAt (Elt F) arg3.view (Rect.unit (s := S1x640x512) ![0, 0, 0] S1x640x128.size inb_S1x640x512_S1x640x128_0_0_0).toLoadRect f0))) (k0_pay316 acc.1 acc.2.2.2.2.1) (arg10.view.readCov (tBS i arg3 arg4 arg8 f0 f1 f8 P10 h80 h81 h82 h83 h84) (Rect.unit (s := S4x640x640) ![0, 0, 0] S1x640x640.size inb_S4x640x640_S1x640x640_0_0_0).toLoadRect) (arg7.view.readCov (tB4 i arg3 arg4 arg5 arg7 arg8 arg9 arg10 f0 f1 f2 f8 P10 acc P7 P9 h80 h81 h82 h83 h84 h85 h86 h87 h88) (Rect.unit (s := S4x128x640) ![0, 0, 0] S1x128x640.size inb_S4x128x640_S1x128x640_0_0_0).toLoadRect) (View.readAt (Elt F) arg5.view (Rect.unit (s := S1x4x13x128x640) (k0_off89 i) S1x1x1x128x640.size h89).toLoadRect f2)⟩ :: (tB4 i arg3 arg4 arg5 arg7 arg8 arg9 arg10 f0 f1 f2 f8 P10 acc P7 P9 h80 h81 h82 h83 h84 h85 h86 h87 h88)
/-- The sums' stores of the last two key steps, up to number 6. -/
def tB6 (i : grid0.Coords) (arg3 : Memref sig .tc .vmem S1x640x512 .bf16) (arg4 : Memref sig .tc .vmem S1x4x8320x128 .bf16) (arg5 : Memref sig .tc .vmem S1x4x13x128x640 .bf16) (arg7 : Memref sig .tc .vmem S4x128x640 .f32) (arg8 : Memref sig .tc .vmem S2x640x640 .f32) (arg9 arg10 : Memref sig .tc .vmem S4x640x640 .f32) (f0 : BufTy.Contents (Elt F) arg3.view.ty) (f1 : BufTy.Contents (Elt F) arg4.view.ty) (f2 : BufTy.Contents (Elt F) arg5.view.ty) (f8 : BufTy.Contents (Elt F) arg8.view.ty) (P10 : List (View.Piece (Elt F) S4x640x640 .f32)) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h80 : ∀ a, k0_off80 i a + S1x640x640.size a ≤ S2x640x640.size a) (h81 : ∀ a, k0_off81 i a + S1x1x640x128.size a ≤ S1x4x8320x128.size a) (h82 : ∀ a, k0_off82 i a + S1x1x640x128.size a ≤ S1x4x8320x128.size a) (h83 : ∀ a, k0_off83 i a + S1x1x640x128.size a ≤ S1x4x8320x128.size a) (h84 : ∀ a, k0_off84 i a + S1x1x640x128.size a ≤ S1x4x8320x128.size a) (h85 : ∀ a, k0_off85 i a + S1x1x1x128x640.size a ≤ S1x4x13x128x640.size a) (h86 : ∀ a, k0_off86 i a + S1x1x1x128x640.size a ≤ S1x4x13x128x640.size a) (h87 : ∀ a, k0_off87 i a + S1x1x1x128x640.size a ≤ S1x4x13x128x640.size a) (h88 : ∀ a, k0_off88 i a + S1x1x1x128x640.size a ≤ S1x4x13x128x640.size a) (h89 : ∀ a, k0_off89 i a + S1x1x1x128x640.size a ≤ S1x4x13x128x640.size a) (h90 : ∀ a, k0_off90 i a + S1x1x1x128x640.size a ≤ S1x4x13x128x640.size a) : List (View.Piece (Elt F) S4x128x640 .f32) :=
  ⟨(Rect.unit (s := S4x128x640) ![1, 0, 0] S1x128x640.size inb_S4x128x640_S1x128x640_1_0_0), k0_pay331 (k0_pay320 acc.2.1 acc.2.2.2.2.2.1) (k0_pay329 (k0_pay311 (k0_pay304 (View.readAt (Elt F) arg8.view (Rect.unit (s := S2x640x640) (k0_off80 i) S1x640x640.size h80).toLoadRect f8) (View.readAt (Elt F) arg4.view (Rect.unit (s := S1x4x8320x128) (k0_off82 i) S1x1x640x128.size h82).toLoadRect f1) (View.readAt (Elt F) arg3.view (Rect.unit (s := S1x640x512) ![0, 0, 128] S1x640x128.size inb_S1x640x512_S1x640x128_0_0_128).toLoadRect f0))) (k0_pay320 acc.2.1 acc.2.2.2.2.2.1)) (k0_pay330 (k0_pay311 (k0_pay304 (View.readAt (Elt F) arg8.view (Rect.unit (s := S2x640x640) (k0_off80 i) S1x640x640.size h80).toLoadRect f8) (View.readAt (Elt F) arg4.view (Rect.unit (s := S1x4x8320x128) (k0_off82 i) S1x1x640x128.size h82).toLoadRect f1) (View.readAt (Elt F) arg3.view (Rect.unit (s := S1x640x512) ![0, 0, 128] S1x640x128.size inb_S1x640x512_S1x640x128_0_0_128).toLoadRect f0))) (k0_pay320 acc.2.1 acc.2.2.2.2.2.1) (arg10.view.readCov (tBS i arg3 arg4 arg8 f0 f1 f8 P10 h80 h81 h82 h83 h84) (Rect.unit (s := S4x640x640) ![1, 0, 0] S1x640x640.size inb_S4x640x640_S1x640x640_1_0_0).toLoadRect)) (arg7.view.readCov (tB5 i arg3 arg4 arg5 arg7 arg8 arg9 arg10 f0 f1 f2 f8 P10 acc P7 P9 h80 h81 h82 h83 h84 h85 h86 h87 h88 h89) (Rect.unit (s := S4x128x640) ![1, 0, 0] S1x128x640.size inb_S4x128x640_S1x128x640_1_0_0).toLoadRect) (View.readAt (Elt F) arg5.view (Rect.unit (s := S1x4x13x128x640) (k0_off90 i) S1x1x1x128x640.size h90).toLoadRect f2)⟩ :: (tB5 i arg3 arg4 arg5 arg7 arg8 arg9 arg10 f0 f1 f2 f8 P10 acc P7 P9 h80 h81 h82 h83 h84 h85 h86 h87 h88 h89)
/-- The sums' stores of the last two key steps, up to number 7. -/
def tB7 (i : grid0.Coords) (arg3 : Memref sig .tc .vmem S1x640x512 .bf16) (arg4 : Memref sig .tc .vmem S1x4x8320x128 .bf16) (arg5 : Memref sig .tc .vmem S1x4x13x128x640 .bf16) (arg7 : Memref sig .tc .vmem S4x128x640 .f32) (arg8 : Memref sig .tc .vmem S2x640x640 .f32) (arg9 arg10 : Memref sig .tc .vmem S4x640x640 .f32) (f0 : BufTy.Contents (Elt F) arg3.view.ty) (f1 : BufTy.Contents (Elt F) arg4.view.ty) (f2 : BufTy.Contents (Elt F) arg5.view.ty) (f8 : BufTy.Contents (Elt F) arg8.view.ty) (P10 : List (View.Piece (Elt F) S4x640x640 .f32)) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h80 : ∀ a, k0_off80 i a + S1x640x640.size a ≤ S2x640x640.size a) (h81 : ∀ a, k0_off81 i a + S1x1x640x128.size a ≤ S1x4x8320x128.size a) (h82 : ∀ a, k0_off82 i a + S1x1x640x128.size a ≤ S1x4x8320x128.size a) (h83 : ∀ a, k0_off83 i a + S1x1x640x128.size a ≤ S1x4x8320x128.size a) (h84 : ∀ a, k0_off84 i a + S1x1x640x128.size a ≤ S1x4x8320x128.size a) (h85 : ∀ a, k0_off85 i a + S1x1x1x128x640.size a ≤ S1x4x13x128x640.size a) (h86 : ∀ a, k0_off86 i a + S1x1x1x128x640.size a ≤ S1x4x13x128x640.size a) (h87 : ∀ a, k0_off87 i a + S1x1x1x128x640.size a ≤ S1x4x13x128x640.size a) (h88 : ∀ a, k0_off88 i a + S1x1x1x128x640.size a ≤ S1x4x13x128x640.size a) (h89 : ∀ a, k0_off89 i a + S1x1x1x128x640.size a ≤ S1x4x13x128x640.size a) (h90 : ∀ a, k0_off90 i a + S1x1x1x128x640.size a ≤ S1x4x13x128x640.size a) (h91 : ∀ a, k0_off91 i a + S1x1x1x128x640.size a ≤ S1x4x13x128x640.size a) : List (View.Piece (Elt F) S4x128x640 .f32) :=
  ⟨(Rect.unit (s := S4x128x640) ![2, 0, 0] S1x128x640.size inb_S4x128x640_S1x128x640_2_0_0), k0_pay364 (k0_pay332 (k0_pay313 (k0_pay305 (View.readAt (Elt F) arg8.view (Rect.unit (s := S2x640x640) (k0_off80 i) S1x640x640.size h80).toLoadRect f8) (View.readAt (Elt F) arg4.view (Rect.unit (s := S1x4x8320x128) (k0_off83 i) S1x1x640x128.size h83).toLoadRect f1) (View.readAt (Elt F) arg3.view (Rect.unit (s := S1x640x512) ![0, 0, 256] S1x640x128.size inb_S1x640x512_S1x640x128_0_0_256).toLoadRect f0))) (k0_pay322 acc.2.2.1 acc.2.2.2.2.2.2.1) (arg10.view.readCov (tBS i arg3 arg4 arg8 f0 f1 f8 P10 h80 h81 h82 h83 h84) (Rect.unit (s := S4x640x640) ![2, 0, 0] S1x640x640.size inb_S4x640x640_S1x640x640_2_0_0).toLoadRect) (arg7.view.readCov (tB6 i arg3 arg4 arg5 arg7 arg8 arg9 arg10 f0 f1 f2 f8 P10 acc P7 P9 h80 h81 h82 h83 h84 h85 h86 h87 h88 h89 h90) (Rect.unit (s := S4x128x640) ![2, 0, 0] S1x128x640.size inb_S4x128x640_S1x128x640_2_0_0).toLoadRect) (View.readAt (Elt F) arg5.view (Rect.unit (s := S1x4x13x128x640) (k0_off91 i) S1x1x1x128x640.size h91).toLoadRect f2))⟩ :: (tB6 i arg3 arg4 arg5 arg7 arg8 arg9 arg10 f0 f1 f2 f8 P10 acc P7 P9 h80 h81 h82 h83 h84 h85 h86 h87 h88 h89 h90)
/-- The sums' stores of the last two key steps, up to number 8. -/
def tB8 (i : grid0.Coords) (arg3 : Memref sig .tc .vmem S1x640x512 .bf16) (arg4 : Memref sig .tc .vmem S1x4x8320x128 .bf16) (arg5 : Memref sig .tc .vmem S1x4x13x128x640 .bf16) (arg7 : Memref sig .tc .vmem S4x128x640 .f32) (arg8 : Memref sig .tc .vmem S2x640x640 .f32) (arg9 arg10 : Memref sig .tc .vmem S4x640x640 .f32) (f0 : BufTy.Contents (Elt F) arg3.view.ty) (f1 : BufTy.Contents (Elt F) arg4.view.ty) (f2 : BufTy.Contents (Elt F) arg5.view.ty) (f8 : BufTy.Contents (Elt F) arg8.view.ty) (P10 : List (View.Piece (Elt F) S4x640x640 .f32)) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h80 : ∀ a, k0_off80 i a + S1x640x640.size a ≤ S2x640x640.size a) (h81 : ∀ a, k0_off81 i a + S1x1x640x128.size a ≤ S1x4x8320x128.size a) (h82 : ∀ a, k0_off82 i a + S1x1x640x128.size a ≤ S1x4x8320x128.size a) (h83 : ∀ a, k0_off83 i a + S1x1x640x128.size a ≤ S1x4x8320x128.size a) (h84 : ∀ a, k0_off84 i a + S1x1x640x128.size a ≤ S1x4x8320x128.size a) (h85 : ∀ a, k0_off85 i a + S1x1x1x128x640.size a ≤ S1x4x13x128x640.size a) (h86 : ∀ a, k0_off86 i a + S1x1x1x128x640.size a ≤ S1x4x13x128x640.size a) (h87 : ∀ a, k0_off87 i a + S1x1x1x128x640.size a ≤ S1x4x13x128x640.size a) (h88 : ∀ a, k0_off88 i a + S1x1x1x128x640.size a ≤ S1x4x13x128x640.size a) (h89 : ∀ a, k0_off89 i a + S1x1x1x128x640.size a ≤ S1x4x13x128x640.size a) (h90 : ∀ a, k0_off90 i a + S1x1x1x128x640.size a ≤ S1x4x13x128x640.size a) (h91 : ∀ a, k0_off91 i a + S1x1x1x128x640.size a ≤ S1x4x13x128x640.size a) (h92 : ∀ a, k0_off92 i a + S1x1x1x128x640.size a ≤ S1x4x13x128x640.size a) : List (View.Piece (Elt F) S4x128x640 .f32) :=
  ⟨(Rect.unit (s := S4x128x640) ![3, 0, 0] S1x128x640.size inb_S4x128x640_S1x128x640_3_0_0), k0_pay365 (k0_pay315 (k0_pay302 (View.readAt (Elt F) arg8.view (Rect.unit (s := S2x640x640) (k0_off80 i) S1x640x640.size h80).toLoadRect f8)) (k0_pay306 (View.readAt (Elt F) arg4.view (Rect.unit (s := S1x4x8320x128) (k0_off84 i) S1x1x640x128.size h84).toLoadRect f1)) (View.readAt (Elt F) arg3.view (Rect.unit (s := S1x640x512) ![0, 0, 384] S1x640x128.size inb_S1x640x512_S1x640x128_0_0_384).toLoadRect f0)) (k0_pay324 acc.2.2.2.1 acc.2.2.2.2.2.2.2) (arg10.view.readCov (tBS i arg3 arg4 arg8 f0 f1 f8 P10 h80 h81 h82 h83 h84) (Rect.unit (s := S4x640x640) ![3, 0, 0] S1x640x640.size inb_S4x640x640_S1x640x640_3_0_0).toLoadRect) (arg7.view.readCov (tB7 i arg3 arg4 arg5 arg7 arg8 arg9 arg10 f0 f1 f2 f8 P10 acc P7 P9 h80 h81 h82 h83 h84 h85 h86 h87 h88 h89 h90 h91) (Rect.unit (s := S4x128x640) ![3, 0, 0] S1x128x640.size inb_S4x128x640_S1x128x640_3_0_0).toLoadRect) (View.readAt (Elt F) arg5.view (Rect.unit (s := S1x4x13x128x640) (k0_off92 i) S1x1x1x128x640.size h92).toLoadRect f2)⟩ :: (tB7 i arg3 arg4 arg5 arg7 arg8 arg9 arg10 f0 f1 f2 f8 P10 acc P7 P9 h80 h81 h82 h83 h84 h85 h86 h87 h88 h89 h90 h91)

set_option maxHeartbeats 2000000 in
/-- The last two key steps of a point with two blocks left: the sums over all its blocks. -/
theorem tailB (i : grid0.Coords) (arg3 : Memref sig .tc .vmem S1x640x512 .bf16) (arg4 : Memref sig .tc .vmem S1x4x8320x128 .bf16) (arg5 : Memref sig .tc .vmem S1x4x13x128x640 .bf16) (arg7 : Memref sig .tc .vmem S4x128x640 .f32) (arg8 : Memref sig .tc .vmem S2x640x640 .f32) (arg9 arg10 : Memref sig .tc .vmem S4x640x640 .f32) (f0 : BufTy.Contents (Elt F) arg3.view.ty) (f1 : BufTy.Contents (Elt F) arg4.view.ty) (f2 : BufTy.Contents (Elt F) arg5.view.ty) (f8 : BufTy.Contents (Elt F) arg8.view.ty) (P10 : List (View.Piece (Elt F) S4x640x640 .f32)) (acc : FVec F S1x640 .f32 × FVec F S1x640 .f32 × FVec F S1x640 .f32 × FVec F S1x640 .f32 × FVec F S1x640 .f32 × FVec F S1x640 .f32 × FVec F S1x640 .f32 × FVec F S1x640 .f32) (P7 : List (View.Piece (Elt F) S4x128x640 .f32)) (P9 : List (View.Piece (Elt F) S4x640x640 .f32)) (h80 : ∀ a, k0_off80 i a + S1x640x640.size a ≤ S2x640x640.size a) (h81 : ∀ a, k0_off81 i a + S1x1x640x128.size a ≤ S1x4x8320x128.size a) (h82 : ∀ a, k0_off82 i a + S1x1x640x128.size a ≤ S1x4x8320x128.size a) (h83 : ∀ a, k0_off83 i a + S1x1x640x128.size a ≤ S1x4x8320x128.size a) (h84 : ∀ a, k0_off84 i a + S1x1x640x128.size a ≤ S1x4x8320x128.size a) (h85 : ∀ a, k0_off85 i a + S1x1x1x128x640.size a ≤ S1x4x13x128x640.size a) (h86 : ∀ a, k0_off86 i a + S1x1x1x128x640.size a ≤ S1x4x13x128x640.size a) (h87 : ∀ a, k0_off87 i a + S1x1x1x128x640.size a ≤ S1x4x13x128x640.size a) (h88 : ∀ a, k0_off88 i a + S1x1x1x128x640.size a ≤ S1x4x13x128x640.size a) (h89 : ∀ a, k0_off89 i a + S1x1x1x128x640.size a ≤ S1x4x13x128x640.size a) (h90 : ∀ a, k0_off90 i a + S1x1x1x128x640.size a ≤ S1x4x13x128x640.size a) (h91 : ∀ a, k0_off91 i a + S1x1x1x128x640.size a ≤ S1x4x13x128x640.size a) (h92 : ∀ a, k0_off92 i a + S1x1x1x128x640.size a ≤ S1x4x13x128x640.size a)
    (x0 : Vec F S1x640x512 .bf16) (x1 : Vec F S1x4x8320x128 .bf16) (x2 : Vec F S1x4x13x128x640 .bf16) (hc : k0_cond1 i = 1#1)
    (hf0 : arg3.view.read (Elt F) f0 = x0) (hf1 : arg4.view.read (Elt F) f1 = x1) (hf2 : arg5.view.read (Elt F) f2 = x2) (hf8 : Tri (arg8.view.read (Elt F) f8))
    (hg : Good i x0 x1 x2 ((i 2).val - 1) acc (arg7.view.read (Elt F) (arg7.view.writes (Elt F) arg7.view.junk P7)) (arg9.view.read (Elt F) (arg9.view.writes (Elt F) arg9.view.junk P9))) :
    (arg7.view.readCov (tB8 i arg3 arg4 arg5 arg7 arg8 arg9 arg10 f0 f1 f2 f8 P10 acc P7 P9 h80 h81 h82 h83 h84 h85 h86 h87 h88 h89 h90 h91 h92) (Rect.unit (s := S4x128x640) ![0, 0, 0] S1x128x640.size inb_S4x128x640_S1x128x640_0_0_0).toLoadRect) = A i x0 x1 x2 0 ((i 2).val + 1) ∧ (arg7.view.readCov (tB8 i arg3 arg4 arg5 arg7 arg8 arg9 arg10 f0 f1 f2 f8 P10 acc P7 P9 h80 h81 h82 h83 h84 h85 h86 h87 h88 h89 h90 h91 h92) (Rect.unit (s := S4x128x640) ![1, 0, 0] S1x128x640.size inb_S4x128x640_S1x128x640_1_0_0).toLoadRect) = A i x0 x1 x2 1 ((i 2).val + 1) ∧ (arg7.view.readCov (tB8 i arg3 arg4 arg5 arg7 arg8 arg9 arg10 f0 f1 f2 f8 P10 acc P7 P9 h80 h81 h82 h83 h84 h85 h86 h87 h88 h89 h90 h91 h92) (Rect.unit (s := S4x128x640) ![2, 0, 0] S1x128x640.size inb_S4x128x640_S1x128x640_2_0_0).toLoadRect) = A i x0 x1 x2 2 ((i 2).val + 1) ∧ (arg7.view.readCov (tB8 i arg3 arg4 arg5 arg7 arg8 arg9 arg10 f0 f1 f2 f8 P10 acc P7 P9 h80 h81 h82 h83 h84 h85 h86 h87 h88 h89 h90 h91 h92) (Rect.unit (s := S4x128x640) ![3, 0, 0] S1x128x640.size inb_S4x128x640_S1x128x640_3_0_0).toLoadRect) = A i x0 x1 x2 3 ((i 2).val + 1) := by
  obtain ⟨j, hj⟩ : ∃ j, (i 2).val = j + 1 := ⟨(i 2).val - 1, by have := (cond1_iff i).1 hc; omega⟩
  have hj1 : (i 2).val - 1 = j := by omega
  rw [hj1] at hg
  obtain ⟨hacc, ha0, ha1, ha2, ha3, hb0, hb1, hb2, hb3⟩ := hg
  subst hacc
  have hx0 : (arg7.view.readCov P7 (Rect.unit (s := S4x128x640) ![0, 0, 0] S1x128x640.size inb_S4x128x640_S1x128x640_0_0_0).toLoadRect) = _ := ha0
  have hy0 : (arg9.view.readCov P9 (Rect.unit (s := S4x640x640) ![0, 0, 0] S1x640x640.size inb_S4x640x640_S1x640x640_0_0_0).toLoadRect) = _ := hb0
  have hx1 : (arg7.view.readCov P7 (Rect.unit (s := S4x128x640) ![1, 0, 0] S1x128x640.size inb_S4x128x640_S1x128x640_1_0_0).toLoadRect) = _ := ha1
  have hy1 : (arg9.view.readCov P9 (Rect.unit (s := S4x640x640) ![1, 0, 0] S1x640x640.size inb_S4x640x640_S1x640x640_1_0_0).toLoadRect) = _ := hb1
  have hx2 : (arg7.view.readCov P7 (Rect.unit (s := S4x128x640) ![2, 0, 0] S1x128x640.size inb_S4x128x640_S1x128x640_2_0_0).toLoadRect) = _ := ha2
  have hy2 : (arg9.view.readCov P9 (Rect.unit (s := S4x640x640) ![2, 0, 0] S1x640x640.size inb_S4x640x640_S1x640x640_2_0_0).toLoadRect) = _ := hb2
  have hx3 : (arg7.view.readCov P7 (Rect.unit (s := S4x128x640) ![3, 0, 0] S1x128x640.size inb_S4x128x640_S1x128x640_3_0_0).toLoadRect) = _ := ha3
  have hy3 : (arg9.view.readCov P9 (Rect.unit (s := S4x640x640) ![3, 0, 0] S1x640x640.size inb_S4x640x640_S1x640x640_3_0_0).toLoadRect) = _ := hb3
  have hb := read_b (F := F) arg8.view f8 hf8 i (j + 1) (k0_off80 i) h80 (by rw [off80_0 i hc, hj] <;> rfl)
  have hq0 := read_q (F := F) arg3.view f0 x0 hf0 0 ![0, 0, 0] inb_S1x640x512_S1x640x128_0_0_0 rfl
  have hk0 := read_k (F := F) arg4.view f1 x1 hf1 0 (j + 1) (k0_off81 i) h81 (by rw [off81_0 i hc, hj] <;> rfl)
  have hv0 := read_v (F := F) arg5.view f2 x2 hf2 0 j (k0_off85 i) h85 (by rw [off85_0 i hc, hj1] <;> rfl)
  have hw0 := read_v (F := F) arg5.view f2 x2 hf2 0 (j + 1) (k0_off89 i) h89 (by rw [off89_0 i hc, hj] <;> rfl)
  have hq1 := read_q (F := F) arg3.view f0 x0 hf0 1 ![0, 0, 128] inb_S1x640x512_S1x640x128_0_0_128 rfl
  have hk1 := read_k (F := F) arg4.view f1 x1 hf1 1 (j + 1) (k0_off82 i) h82 (by rw [off82_0 i hc, hj] <;> rfl)
  have hv1 := read_v (F := F) arg5.view f2 x2 hf2 1 j (k0_off86 i) h86 (by rw [off86_0 i hc, hj1] <;> rfl)
  have hw1 := read_v (F := F) arg5.view f2 x2 hf2 1 (j + 1) (k0_off90 i) h90 (by rw [off90_0 i hc, hj] <;> rfl)
  have hq2 := read_q (F := F) arg3.view f0 x0 hf0 2 ![0, 0, 256] inb_S1x640x512_S1x640x128_0_0_256 rfl
  have hk2 := read_k (F := F) arg4.view f1 x1 hf1 2 (j + 1) (k0_off83 i) h83 (by rw [off83_0 i hc, hj] <;> rfl)
  have hv2 := read_v (F := F) arg5.view f2 x2 hf2 2 j (k0_off87 i) h87 (by rw [off87_0 i hc, hj1] <;> rfl)
  have hw2 := read_v (F := F) arg5.view f2 x2 hf2 2 (j + 1) (k0_off91 i) h91 (by rw [off91_0 i hc, hj] <;> rfl)
  have hq3 := read_q (F := F) arg3.view f0 x0 hf0 3 ![0, 0, 384] inb_S1x640x512_S1x640x128_0_0_384 rfl
  have hk3 := read_k (F := F) arg4.view f1 x1 hf1 3 (j + 1) (k0_off84 i) h84 (by rw [off84_0 i hc, hj] <;> rfl)
  have hv3 := read_v (F := F) arg5.view f2 x2 hf2 3 j (k0_off88 i) h88 (by rw [off88_0 i hc, hj1] <;> rfl)
  have hw3 := read_v (F := F) arg5.view f2 x2 hf2 3 (j + 1) (k0_off92 i) h92 (by rw [off92_0 i hc, hj] <;> rfl)
  rw [hj]
  refine ⟨?_, ?_, ?_, ?_⟩
  all_goals
    unfold tB8 tB7 tB6 tB5 tB4 tB3 tB2 tB1 tBS
    simp (disch := first | rfl | decide) only [View.readCov_cons_toLoadRect, ↓View.readCov_skip, hx0, hx1, hx2, hx3, hy0, hy1, hy2, hy3, hv0, hv1, hv2, hv3, hb, hq0, hk0, hw0, hq1, hk1, hw1, hq2, hk2, hw2, hq3, hk3, hw3]
    rfl

/-- The output block, stored from the sums over all key blocks. -/
theorem outL (i : grid0.Coords) (x0 : Vec F S1x640x512 .bf16) (x1 : Vec F S1x4x8320x128 .bf16) (x2 : Vec F S1x4x13x128x640 .bf16)
    (arg6 : Memref sig .tc .vmem S640x256 .bf16) (f3 : BufTy.Contents (Elt F) arg6.view.ty) (arg7 : Memref sig .tc .vmem S4x128x640 .f32) (L : List (View.Piece (Elt F) S4x128x640 .f32))
    (i2 : ∀ a, (![0, 0] : Fin 2 → ℕ) a + S128x640.size a ≤ S128x640.size a) (c1 c2 w0 w1 w2 w3)
    (r0 : (Rect.unit (s := S128x640) ![0, 0] S128x640.size i2).toLoadRect.shape.numel = ((Rect.unit (s := S4x128x640) ![0, 0, 0] S1x128x640.size inb_S4x128x640_S1x128x640_0_0_0).withinL ((Rect.unit (s := S128x640) ![0, 0] S128x640.size i2).consLift ![1, 128, 640] c1 c2).toLoadRect w0).shape.numel) (r1 : (Rect.unit (s := S128x640) ![0, 0] S128x640.size i2).toLoadRect.shape.numel = ((Rect.unit (s := S4x128x640) ![1, 0, 0] S1x128x640.size inb_S4x128x640_S1x128x640_1_0_0).withinL ((Rect.unit (s := S128x640) ![0, 0] S128x640.size i2).consLift ![1, 128, 640] c1 c2).toLoadRect w1).shape.numel) (r2 : (Rect.unit (s := S128x640) ![0, 0] S128x640.size i2).toLoadRect.shape.numel = ((Rect.unit (s := S4x128x640) ![2, 0, 0] S1x128x640.size inb_S4x128x640_S1x128x640_2_0_0).withinL ((Rect.unit (s := S128x640) ![0, 0] S128x640.size i2).consLift ![1, 128, 640] c1 c2).toLoadRect w2).shape.numel) (r3 : (Rect.unit (s := S128x640) ![0, 0] S128x640.size i2).toLoadRect.shape.numel = ((Rect.unit (s := S4x128x640) ![3, 0, 0] S1x128x640.size inb_S4x128x640_S1x128x640_3_0_0).withinL ((Rect.unit (s := S128x640) ![0, 0] S128x640.size i2).consLift ![1, 128, 640] c1 c2).toLoadRect w3).shape.numel)
    (H : (arg7.view.readCov L (Rect.unit (s := S4x128x640) ![0, 0, 0] S1x128x640.size inb_S4x128x640_S1x128x640_0_0_0).toLoadRect) = A i x0 x1 x2 0 ((i 2).val + 1) ∧ (arg7.view.readCov L (Rect.unit (s := S4x128x640) ![1, 0, 0] S1x128x640.size inb_S4x128x640_S1x128x640_1_0_0).toLoadRect) = A i x0 x1 x2 1 ((i 2).val + 1) ∧ (arg7.view.readCov L (Rect.unit (s := S4x128x640) ![2, 0, 0] S1x128x640.size inb_S4x128x640_S1x128x640_2_0_0).toLoadRect) = A i x0 x1 x2 2 ((i 2).val + 1) ∧ (arg7.view.readCov L (Rect.unit (s := S4x128x640) ![3, 0, 0] S1x128x640.size inb_S4x128x640_S1x128x640_3_0_0).toLoadRect) = A i x0 x1 x2 3 ((i 2).val + 1)) :
    arg6.view.read (Elt F) (arg6.view.writes (Elt F) f3 [⟨Rect.unit (s := S640x256) ![0, 0] S640x256.size inb_S640x256_S640x256_0_0, k0_pay1 (k0_pay367 (LoadRect.valAlong r0 (arg7.view.readCov L ((Rect.unit (s := S4x128x640) ![0, 0, 0] S1x128x640.size inb_S4x128x640_S1x128x640_0_0_0).withinL ((Rect.unit (s := S128x640) ![0, 0] S128x640.size i2).consLift ![1, 128, 640] c1 c2).toLoadRect w0)) : Vec F S128x640 .f32)) (LoadRect.valAlong r1 (arg7.view.readCov L ((Rect.unit (s := S4x128x640) ![1, 0, 0] S1x128x640.size inb_S4x128x640_S1x128x640_1_0_0).withinL ((Rect.unit (s := S128x640) ![0, 0] S128x640.size i2).consLift ![1, 128, 640] c1 c2).toLoadRect w1)) : Vec F S128x640 .f32) (LoadRect.valAlong r2 (arg7.view.readCov L ((Rect.unit (s := S4x128x640) ![2, 0, 0] S1x128x640.size inb_S4x128x640_S1x128x640_2_0_0).withinL ((Rect.unit (s := S128x640) ![0, 0] S128x640.size i2).consLift ![1, 128, 640] c1 c2).toLoadRect w2)) : Vec F S128x640 .f32) (LoadRect.valAlong r3 (arg7.view.readCov L ((Rect.unit (s := S4x128x640) ![3, 0, 0] S1x128x640.size inb_S4x128x640_S1x128x640_3_0_0).withinL ((Rect.unit (s := S128x640) ![0, 0] S128x640.size i2).consLift ![1, 128, 640] c1 c2).toLoadRect w3)) : Vec F S128x640 .f32)⟩]) = outVal i x0 x1 x2 := by
  obtain ⟨h0, h1, h2, h3⟩ := H
  refine ((View.ld_unit_zero (S := S640x256) (off := ![0, 0]) (by decide) inb_S640x256_S640x256_0_0 _).symm.trans (ld_hit arg6.view f3 _ _ [])).trans ?_
  rw [valAlong_plane, valAlong_plane, valAlong_plane, valAlong_plane, h0, h1, h2, h3]
  rfl

end Cert.KernelIdeal.Mla

end
-- ==== Proof.KI.RunA.lean ====
module

public import proofs.«01_k».proof.Proof.Gen.KernelIdeal.Frame.Runs
public import proofs.«01_k».proof.Proof.KI.Tail

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 400 in set_option pp.proofs false in set_option maxHeartbeats 2000000 in set_option sl_exec.squeezeSlice true in
/-- A point whose key blocks are odd in number: it stores the block its sums give. -/
theorem run_A (c : Dev nD) (i : grid0.Coords) (arg3 : Memref sig .tc .vmem S1x640x512 .bf16) (harg3 : arg3.IsWhole) (arg4 : Memref sig .tc .vmem S1x4x8320x128 .bf16) (harg4 : arg4.IsWhole) (arg5 : Memref sig .tc .vmem S1x4x13x128x640 .bf16) (harg5 : arg5.IsWhole) (arg6 : Memref sig .tc .vmem S640x256 .bf16) (harg6 : arg6.IsWhole) (arg7 : Memref sig .tc .vmem S4x128x640 .f32) (harg7 : arg7.IsWhole) (arg8 : Memref sig .tc .vmem S2x640x640 .f32) (harg8 : arg8.IsWhole) (arg9 : Memref sig .tc .vmem S4x640x640 .f32) (harg9 : arg9.IsWhole) (arg10 : Memref sig .tc .vmem S4x640x640 .f32) (harg10 : arg10.IsWhole) (hc0 : ¬cond0_0 i)
    (x0 : Vec F S1x640x512 .bf16) (x1 : Vec F S1x4x8320x128 .bf16) (x2 : Vec F S1x4x13x128x640 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare (outVal i x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_mla_attention i arg3 harg3 arg4 harg4 arg5 harg5 arg6 harg6 arg7 harg7 arg8 harg8 arg9 harg9 arg10 harg10) K := by
  simp only [cc0_mla_attention_eq_skeleton]; unfold cc0_mla_attention_skel
  simp only [k0_part59_eq_skeleton, k0_part60_eq_skeleton, k0_part61_eq_skeleton, k0_part62_eq_skeleton, k0_part57_eq_skeleton, k0_part58_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
  sl_exec (disch := first | sl_exact hc0)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    refine outL i x0 x1 x2 arg6 f3 arg7 (tA4 i arg5 arg7 arg9 f2 _ _ _ (by rw [off93_0 i hc0]; exact v_inb 0 _) (by rw [off94_0 i hc0]; exact v_inb 1 _) (by rw [off95_0 i hc0]; exact v_inb 2 _) (by rw [off96_0 i hc0]; exact v_inb 3 _)) inb_S128x640_S128x640_0_0 rfl (by decide) (fun _ => rfl) (fun _ => rfl) (fun _ => rfl) (fun _ => rfl) rfl rfl rfl rfl ?_
    refine tailA i arg5 arg7 arg9 f2 _ _ _ (by rw [off93_0 i hc0]; exact v_inb 0 _) (by rw [off94_0 i hc0]; exact v_inb 1 _) (by rw [off95_0 i hc0]; exact v_inb 2 _) (by rw [off96_0 i hc0]; exact v_inb 3 _) x0 x1 x2 hc0 hf2 ?_
    rw [zero4, zero2]
    simp only [List.nil_append, View.writes_append]
    refine Good.cast (loop3_good (F := F) Variants.none c none i arg3 harg3 arg4 harg4 arg5 harg5 arg6 harg6 arg7 harg7 arg8 harg8 arg9 harg9 arg10 harg10 _ _ _ _ _ _ _ _ _ _ _ _ _ _ _ _ _ _ _ x0 x1 x2 hf0 hf1 hf2 (tri_init arg8 _) ?_ (k0_t3_loop i).trips le_rfl) ?_
    · refine Good.cast (loop1_good (F := F) Variants.none c none i arg3 harg3 arg4 harg4 arg5 harg5 arg6 harg6 arg7 harg7 arg8 harg8 arg9 harg9 arg10 harg10 _ _ _ _ _ _ _ _ _ _ _ _ _ _ _ _ _ _ x0 x1 x2 hf0 hf1 hf2 (tri_init arg8 _) ?_ (k0_t1_loop i).trips le_rfl) (by rw [trips1])
      exact good_init i x0 x1 x2 arg3 arg4 arg7 arg8 arg9 f0 f1 _ _ _ hf0 hf1 (tri_init arg8 _) (by rw [off1_0]; split; exacts [b_inb 1, b_inb 0])
    · have hp := trips3 i; have hq := cond1_iff i; have h3 : ¬(i 2).val % 2 = 1 := fun h => hc0 (hq.2 h); omega
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Mla

end
-- ==== Proof.KI.RunB.lean ====
module

public import proofs.«01_k».proof.Proof.Gen.KernelIdeal.Frame.Runs
public import proofs.«01_k».proof.Proof.KI.Tail

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The bias plane the last of two remaining blocks reads. -/
theorem off80_closed : ∀ i : grid0.Coords, k0_off80 i = ![(if k0_cond1 i = 1#1 then 1 else 0), 0, 0] := by decide +kernel
instance closedOff_off80 (i : grid0.Coords) : ClosedOff (k0_off80 i) := ⟨![(if k0_cond1 i = 1#1 then 1 else 0), 0, 0], off80_closed i⟩

set_option pp.maxSteps 400 in set_option pp.proofs false in set_option maxHeartbeats 2000000 in set_option sl_exec.squeezeSlice true in
/-- A point whose key blocks are even in number: it stores the block its sums give. -/
theorem run_B (c : Dev nD) (i : grid0.Coords) (arg3 : Memref sig .tc .vmem S1x640x512 .bf16) (harg3 : arg3.IsWhole) (arg4 : Memref sig .tc .vmem S1x4x8320x128 .bf16) (harg4 : arg4.IsWhole) (arg5 : Memref sig .tc .vmem S1x4x13x128x640 .bf16) (harg5 : arg5.IsWhole) (arg6 : Memref sig .tc .vmem S640x256 .bf16) (harg6 : arg6.IsWhole) (arg7 : Memref sig .tc .vmem S4x128x640 .f32) (harg7 : arg7.IsWhole) (arg8 : Memref sig .tc .vmem S2x640x640 .f32) (harg8 : arg8.IsWhole) (arg9 : Memref sig .tc .vmem S4x640x640 .f32) (harg9 : arg9.IsWhole) (arg10 : Memref sig .tc .vmem S4x640x640 .f32) (harg10 : arg10.IsWhole) (hc0 : cond0_0 i)
    (x0 : Vec F S1x640x512 .bf16) (x1 : Vec F S1x4x8320x128 .bf16) (x2 : Vec F S1x4x13x128x640 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare (outVal i x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_mla_attention i arg3 harg3 arg4 harg4 arg5 harg5 arg6 harg6 arg7 harg7 arg8 harg8 arg9 harg9 arg10 harg10) K := by
  simp only [cc0_mla_attention_eq_skeleton]; unfold cc0_mla_attention_skel
  simp only [k0_part59_eq_skeleton, k0_part60_eq_skeleton, k0_part61_eq_skeleton, k0_part62_eq_skeleton, k0_part51_eq_skeleton, k0_part52_eq_skeleton, k0_part53_eq_skeleton, k0_part54_eq_skeleton, k0_part55_eq_skeleton, k0_part56_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
  sl_exec (disch := first | sl_exact hc0)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    refine outL i x0 x1 x2 arg6 f3 arg7 (tB8 i arg3 arg4 arg5 arg7 arg8 arg9 arg10 f0 f1 f2 _ _ _ _ _ (by rw [off80_0 i hc0, if_pos rfl]; exact b_inb 1) (by rw [off81_0 i hc0]; exact k_inb 0 _) (by rw [off82_0 i hc0]; exact k_inb 1 _) (by rw [off83_0 i hc0]; exact k_inb 2 _) (by rw [off84_0 i hc0]; exact k_inb 3 _) (by rw [off85_0 i hc0]; exact v_inb 0 _) (by rw [off86_0 i hc0]; exact v_inb 1 _) (by rw [off87_0 i hc0]; exact v_inb 2 _) (by rw [off88_0 i hc0]; exact v_inb 3 _) (by rw [off89_0 i hc0]; exact v_inb 0 _) (by rw [off90_0 i hc0]; exact v_inb 1 _) (by rw [off91_0 i hc0]; exact v_inb 2 _) (by rw [off92_0 i hc0]; exact v_inb 3 _)) inb_S128x640_S128x640_0_0 rfl (by decide) (fun _ => rfl) (fun _ => rfl) (fun _ => rfl) (fun _ => rfl) rfl rfl rfl rfl ?_
    refine tailB i arg3 arg4 arg5 arg7 arg8 arg9 arg10 f0 f1 f2 _ _ _ _ _ (by rw [off80_0 i hc0, if_pos rfl]; exact b_inb 1) (by rw [off81_0 i hc0]; exact k_inb 0 _) (by rw [off82_0 i hc0]; exact k_inb 1 _) (by rw [off83_0 i hc0]; exact k_inb 2 _) (by rw [off84_0 i hc0]; exact k_inb 3 _) (by rw [off85_0 i hc0]; exact v_inb 0 _) (by rw [off86_0 i hc0]; exact v_inb 1 _) (by rw [off87_0 i hc0]; exact v_inb 2 _) (by rw [off88_0 i hc0]; exact v_inb 3 _) (by rw [off89_0 i hc0]; exact v_inb 0 _) (by rw [off90_0 i hc0]; exact v_inb 1 _) (by rw [off91_0 i hc0]; exact v_inb 2 _) (by rw [off92_0 i hc0]; exact v_inb 3 _) x0 x1 x2 hc0 hf0 hf1 hf2 (tri_init arg8 _) ?_
    rw [zero4, zero2]
    simp only [List.nil_append, View.writes_append]
    refine Good.cast (loop3_good (F := F) Variants.none c none i arg3 harg3 arg4 harg4 arg5 harg5 arg6 harg6 arg7 harg7 arg8 harg8 arg9 harg9 arg10 harg10 _ _ _ _ _ _ _ _ _ _ _ _ _ _ _ _ _ _ _ x0 x1 x2 hf0 hf1 hf2 (tri_init arg8 _) ?_ (k0_t3_loop i).trips le_rfl) ?_
    · refine Good.cast (loop1_good (F := F) Variants.none c none i arg3 harg3 arg4 harg4 arg5 harg5 arg6 harg6 arg7 harg7 arg8 harg8 arg9 harg9 arg10 harg10 _ _ _ _ _ _ _ _ _ _ _ _ _ _ _ _ _ _ x0 x1 x2 hf0 hf1 hf2 (tri_init arg8 _) ?_ (k0_t1_loop i).trips le_rfl) (by rw [trips1])
      exact good_init i x0 x1 x2 arg3 arg4 arg7 arg8 arg9 f0 f1 _ _ _ hf0 hf1 (tri_init arg8 _) (by rw [off1_0]; split; exacts [b_inb 1, b_inb 0])
    · have hp := trips3 i; have h3 : (i 2).val % 2 = 1 := (cond1_iff i).1 hc0; omega
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Mla

end
-- ==== Proof.KI.Frame.lean ====
module

public import proofs.«01_k».proof.Proof.KI.RunA
public import proofs.«01_k».proof.Proof.KI.RunB
public import Idealize.ShloMosaic.Lib.Claim
public import Idealize.ShloMosaic.Lib.Pipeline.Value

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the arrays and the staging buffers hold: after a point the inputs hold their blocks and the output its softmax block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outVal (grid0.coords t) (iblk m c 0 t) (iblk m c 1 t) (iblk m c 2 t)
  Φ _ := Pipeline.ΦA spec0 c
  q _ := fullShare
  owed _ := 0

/-- The arrays as the host leaves them. -/
theorem A_eq (c : Dev nD) (w : Fin cfg0.W) : (dats m 0 c).A w = V m c (Pipeline.arrRef spec0 w) := by
  dsimp only [dats]
/-- The body leaves the queries' block. -/
theorem after0_0 (c : Dev nD) (t : Fin cfg0.N) : (dats m 0 c).after 0 t = iblk m c 0 t := by dsimp only [dats]
/-- It leaves the keys'. -/
theorem after0_1 (c : Dev nD) (t : Fin cfg0.N) : (dats m 0 c).after 1 t = iblk m c 1 t := by dsimp only [dats]
/-- It leaves the values'. -/
theorem after0_2 (c : Dev nD) (t : Fin cfg0.N) : (dats m 0 c).after 2 t = iblk m c 2 t := by dsimp only [dats]
/-- It leaves the result in the result's block. -/
theorem after0_3 (c : Dev nD) (t : Fin cfg0.N) : (dats m 0 c).after 3 t = outVal (grid0.coords t) (iblk m c 0 t) (iblk m c 1 t) (iblk m c 2 t) := by dsimp only [dats]
/-- The body finds the queries' block. -/
theorem before0_0 (c : Dev nD) (t : Fin cfg0.N) (d) : (dats m 0 c).before 0 t d = iblk m c 0 t :=
  before0_0_of m (dats m 0 c) (A_eq m c 0) (after0_0 m c) t d
/-- It finds the keys'. -/
theorem before0_1 (c : Dev nD) (t : Fin cfg0.N) (d) : (dats m 0 c).before 1 t d = iblk m c 1 t :=
  before0_1_of m (dats m 0 c) (A_eq m c 1) (after0_1 m c) t d
/-- It finds the values'. -/
theorem before0_2 (c : Dev nD) (t : Fin cfg0.N) (d) : (dats m 0 c).before 2 t d = iblk m c 2 t :=
  before0_2_of m (dats m 0 c) (A_eq m c 2) (after0_2 m c) t d

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body leaves at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 6400000 in
/-- At any point the body does what is said of it: the point is in one of two cases, and each has its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3,
    show (dats m 0 c).Φ t.castSucc = Pipeline.ΦA spec0 c from rfl,
    show (dats m 0 c).Φ t.succ = Pipeline.ΦA spec0 c from rfl, PhiA0_eq]
  by_cases hc : cond0_0 (grid0.coords t)
  · iintro ⟨⟨⟨HS0, HS1, HS2, HS3⟩, Hg⟩, Ho, ⟨%d0, H0⟩, ⟨%d1, H1⟩, ⟨%d2, H2⟩, ⟨%d3, H3⟩⟩
    iapply (run_B c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) scM0_3 (Memref.isWhole_whole _)
      hc (iblk m c 0 t) (iblk m c 1 t) (iblk m c 2 t) Set.univ _)
    isplitl [H0]
    · iexact H0
    isplitl [H1]
    · iexact H1
    isplitl [H2]
    · iexact H2
    isplitl [H3]
    · iexists _; iexact H3
    isplitl [HS0]
    · iexact HS0
    isplitl [HS1]
    · iexact HS1
    isplitl [HS2]
    · iexact HS2
    isplitl [HS3]
    · iexact HS3
    iintro ⟨H0, H1, H2, H3, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]
    · iexact Ho
    isplitl [H0]
    · iexact H0
    isplitl [H1]
    · iexact H1
    isplitl [H2]
    · iexact H2
    iexact H3
  · iintro ⟨⟨⟨HS0, HS1, HS2, HS3⟩, Hg⟩, Ho, ⟨%d0, H0⟩, ⟨%d1, H1⟩, ⟨%d2, H2⟩, ⟨%d3, H3⟩⟩
    iapply (run_A c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) scM0_3 (Memref.isWhole_whole _)
      hc (iblk m c 0 t) (iblk m c 1 t) (iblk m c 2 t) Set.univ _)
    isplitl [H0]
    · iexact H0
    isplitl [H1]
    · iexact H1
    isplitl [H2]
    · iexact H2
    isplitl [H3]
    · iexists _; iexact H3
    isplitl [HS0]
    · iexact HS0
    isplitl [HS1]
    · iexact HS1
    isplitl [HS2]
    · iexact HS2
    isplitl [HS3]
    · iexact HS3
    iintro ⟨H0, H1, H2, H3, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]
    · iexact Ho
    isplitl [H0]
    · iexact H0
    isplitl [H1]
    · iexact H1
    isplitl [H2]
    · iexact H2
    iexact H3

theorem defs₀_row (t : Fin cfg0.N) :
    defs₀ (F := F) .tc cfg0.body (cfg0.bodyArgs t (cfg0.slots t)) = bodyAt0 t := by
  unfold defs₀; rw [Defs.onTc_tc]

/-- The same, as the pipeline's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the region starts from. -/
theorem hin (c : Dev nD) : Pipeline.ΦA spec0 c ⊢ (dats m 0 c).Φ 0 := Idealize.SL.BI.Entails.refl _
/-- What it ends in. -/
theorem hout (c : Dev nD) : (dats m 0 c).Φ (Fin.last cfg0.N) ⊢ Pipeline.ΦA spec0 c := Idealize.SL.BI.Entails.refl _

set_option backward.isDefEq.respectTransparency.types false in
/-- The whole program runs, and every semaphore ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole program runs. -/
theorem run_main : θ_run defs (onTc (τ := τ) (main (F := F))) (s₀ m ρ) (Pipeline.FramePost cfgs (dats m) 0 (V m)) :=
  (θ_run defs _ _).mono (fun _ h => h.1) (run_main_quiescent m ρ)

/-- The program runs, leaves its arguments as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)) ((θ_run defs _ _).mono (fun _ h => h.2) (run_main_quiescent m ρ))

/-- That it runs so from every memory. -/
def Quiet (F : FTy → Type) [FloatOps F] : Prop :=
  ∀ (m : (ℓ : Loc nD τ sig) → Buf (Elt F) ℓ) (ρ : Dev nD → PrngReg), True → θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The frame, over any floats. -/
theorem quiet : Quiet F := fun m ρ _ => frame m ρ

/-- The program ends with its output array as the points left it, block by block, and its arguments as they were. -/
theorem run_blocks : θ_run defs (onTc (τ := τ) (main (F := F))) ⟨m, fun _ => 0, ρ⟩ fun r => ∀ c : Dev nD,
      r.2.mem ((c : Thread nD τ).loc main_v22) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

/-- No two points write the same block. -/
theorem idx_inj3 : ∀ t t' : Fin cfg0.N, win0_3.index t = win0_3.index t' → t = t' :=
  (by decide +kernel : ∀ t t' : Fin grid0.N, win0_3.index t = win0_3.index t' → t = t')

/-- Blocks written at different points are disjoint. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- A block of the final array is what its point wrote. -/
theorem blocks3 (c : Dev nD) (t : Fin cfg0.N) (hf : (cfg0.win 3).flush t = true) :
    ((cfg0.win 3).blk t).view.read (Elt F) ((dats m 0 c).arrAt 3 cfg0.N)
      = (cfg0.win 3).cut (grid0.coords t) (outVal (grid0.coords t) (iblk m c 0 t) (iblk m c 1 t) (iblk m c 2 t)) :=
  ((dats m 0 c).read_blk_arrAt_eq_flushed 3 disjoint3 cfg0.N t t.isLt hf).trans (by
    show (cfg0.win 3).cut (grid0.coords t) ((dats m 0 c).after 3 t) = _
    rw [after0_3])

end Cert.KernelIdeal.Mla

end
-- ==== Proof.Softmax.lean ====
module

public import Idealize.ShloMosaic.PureOps.Ideal
public import Mathlib.Analysis.SpecialFunctions.Pow.Real

@[expose] public section

/-! The arithmetic of attention over blocks of keys: a running maximum and a rescaled running sum, taken one
    block of 640 keys after another, give the softmax-weighted mean. -/

open Idealize.ShloMosaic
open scoped BigOperators

namespace Cert.Softmax

/-- The score of a key is either masked (`⊥`) or a real number. -/
def Score (x : EReal) : Prop := x = ⊥ ∨ ∃ r : ℝ, x = (r : EReal)

/-- The running maximum after `j` blocks, started at a real number. -/
noncomputable def runMax {n : ℕ} (m0 : EReal) (x : ℕ → Fin n → EReal) : ℕ → EReal
  | 0 => m0
  | j + 1 => max (runMax m0 x j) (Finset.univ.sup (x j))

/-- The running sum after `j` blocks: rescaled to the new maximum, then the block's own terms. -/
noncomputable def runAcc {n : ℕ} (m0 : EReal) (x v : ℕ → Fin n → EReal) : ℕ → EReal
  | 0 => 0
  | j + 1 => runAcc m0 x v j * Ideal.exp2 (runMax m0 x j - runMax m0 x (j + 1))
      + ∑ k, v j k * Ideal.exp2 (x j k - runMax m0 x (j + 1))

/-- The maximum of finitely many scores is a score. -/
theorem score_sup {ι : Type*} (s : Finset ι) (x : ι → EReal) (hx : ∀ k, Score (x k)) :
    Score (s.sup x) := by
  classical
  induction s using Finset.induction_on with
  | empty => exact Or.inl (by simp)
  | insert a s _ ih =>
    rw [Finset.sup_insert]
    rcases le_total (x a) (s.sup x) with h | h
    · rw [sup_eq_right.mpr h]; exact ih
    · rw [sup_eq_left.mpr h]; exact hx a

/-- The running maximum is a real number at every block. -/
theorem runMax_real {n : ℕ} (m0 : ℝ) (x : ℕ → Fin n → EReal) (hx : ∀ j k, Score (x j k)) (j : ℕ) :
    ∃ r : ℝ, runMax (m0 : EReal) x j = (r : EReal) := by
  induction j with
  | zero => exact ⟨m0, rfl⟩
  | succ j ih =>
    obtain ⟨r, hr⟩ := ih
    rcases score_sup Finset.univ (x j) (hx j) with h | ⟨q, h⟩
    · exact ⟨r, by simp [runMax, hr, h]⟩
    · exact ⟨max r q, by simp only [runMax, hr, h]; exact (EReal.coe_strictMono.monotone.map_max (a := r) (b := q)).symm⟩

/-- The power of two of a real number, as a real number. -/
theorem exp2_coe (r : ℝ) : Ideal.exp2 (r : EReal) = (((2 : ℝ) ^ r : ℝ) : EReal) := rfl

/-- The exponential of a real number, as a real number. -/
theorem exp_coe (r : ℝ) : Ideal.exp (r : EReal) = ((Real.exp r : ℝ) : EReal) := rfl

/-- Minus infinity less a real number stays. -/
theorem bot_sub_coe (r : ℝ) : (⊥ : EReal) - (r : EReal) = ⊥ := by
  simp [sub_eq_add_neg]

/-- Changing the maximum that a term was taken against multiplies the term. -/
theorem exp2_shift (x : EReal) (hx : Score x) (a b : ℝ) :
    Ideal.exp2 (x - (a : EReal)) * Ideal.exp2 ((a : EReal) - (b : EReal))
      = Ideal.exp2 (x - (b : EReal)) := by
  rcases hx with rfl | ⟨r, rfl⟩
  · rw [bot_sub_coe, bot_sub_coe]
    show (0 : EReal) * _ = 0
    rw [zero_mul]
  · rw [← EReal.coe_sub, ← EReal.coe_sub, ← EReal.coe_sub, exp2_coe, exp2_coe, exp2_coe, ← EReal.coe_mul,
      ← Real.rpow_add (by norm_num)]
    congr 2
    ring

/-- A non-negative real factor passes through a sum. -/
theorem sum_mul_coe {ι : Type*} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The running sum is the sum of every term so far, against the present maximum. -/
theorem runAcc_eq {n : ℕ} (m0 : ℝ) (x v : ℕ → Fin n → EReal) (hx : ∀ j k, Score (x j k)) (j : ℕ) :
    runAcc (m0 : EReal) x v j
      = ∑ i ∈ Finset.range j, ∑ k, v i k * Ideal.exp2 (x i k - runMax (m0 : EReal) x j) := by
  induction j with
  | zero => simp [runAcc]
  | succ j ih =>
    rw [Finset.sum_range_succ]
    show runAcc (m0 : EReal) x v j * _ + _ = _
    congr 1
    obtain ⟨a, ha⟩ := runMax_real m0 x hx j
    obtain ⟨b, hb⟩ := runMax_real m0 x hx (j + 1)
    rw [ih, ha, hb, ← EReal.coe_sub, exp2_coe, sum_mul_coe _ _ _ (by positivity)]
    refine Finset.sum_congr rfl fun i _ => ?_
    rw [sum_mul_coe _ _ _ (by positivity)]
    refine Finset.sum_congr rfl fun k _ => ?_
    rw [mul_assoc, ← exp2_coe, EReal.coe_sub, exp2_shift _ (hx i k)]

/-- A score `s` in natural units and the same score `x` in units of `log 2`. -/
def Same (s x : EReal) : Prop := (s = ⊥ ∧ x = ⊥) ∨ ∃ r : ℝ, s = (r : EReal) ∧ x = ((r / Real.log 2 : ℝ) : EReal)

/-- A score in units of log 2 is a score. -/
theorem Same.score {s x : EReal} (h : Same s x) : Score x := by
  rcases h with ⟨_, h⟩ | ⟨r, _, h⟩
  · exact Or.inl h
  · exact Or.inr ⟨_, h⟩

/-- A kernel's term is a reference's term times one positive factor. -/
theorem term_eq {s x : EReal} (h : Same s x) (M S : ℝ) :
    ∃ e : ℝ, 0 ≤ e ∧ (s ≠ ⊥ → 0 < e) ∧ Ideal.exp (s - (S : EReal)) = (e : EReal) ∧
      Ideal.exp2 (x - (M : EReal)) = ((e * Real.exp (S - M * Real.log 2) : ℝ) : EReal) := by
  rcases h with ⟨rfl, rfl⟩ | ⟨r, rfl, rfl⟩
  · refine ⟨0, le_rfl, fun h => absurd rfl h, ?_, ?_⟩
    · rw [bot_sub_coe]; rfl
    · rw [bot_sub_coe, zero_mul]; rfl
  · refine ⟨Real.exp (r - S), (Real.exp_pos _).le, fun _ => Real.exp_pos _, ?_, ?_⟩
    · rw [← EReal.coe_sub, exp_coe]
    · rw [← EReal.coe_sub, exp2_coe, ← Real.exp_add, Real.rpow_def_of_pos (by norm_num)]
      congr 2
      have : Real.log 2 ≠ 0 := (Real.log_pos (by norm_num)).ne'
      field_simp
      ring

/-- A sum of real numbers, taken as extended ones. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Division by a positive real number is multiplication by its inverse. -/
theorem div_coe (x : EReal) (y : ℝ) (hy : 0 < y) : Ideal.div x (y : EReal) = x * ((y⁻¹ : ℝ) : EReal) := by
  unfold Ideal.div
  rw [if_neg (by simpa using hy.ne'), EReal.coe_inv]

/-- Over any finite family of keys: the quotient of the two sums in units of `log 2`, against any maximum,
    is the sum of the softmax weights times the values. -/
theorem quotient_eq {ι : Type*} (t : Finset ι) (s x v : ι → EReal) (h : ∀ k, Same (s k) (x k))
    (hne : ∃ k ∈ t, s k ≠ ⊥) (M S : ℝ) :
    Ideal.div (∑ k ∈ t, v k * Ideal.exp2 (x k - (M : EReal))) (∑ k ∈ t, 1 * Ideal.exp2 (x k - (M : EReal)))
      = ∑ k ∈ t, Ideal.div (Ideal.exp (s k - (S : EReal))) (∑ k ∈ t, Ideal.exp (s k - (S : EReal))) * v k := by
  classical
  choose e he0 hepos hE hX using fun k => term_eq (h k) M S
  have hc : 0 < Real.exp (S - M * Real.log 2) := Real.exp_pos _
  set c := Real.exp (S - M * Real.log 2)
  have hsum : 0 < ∑ k ∈ t, e k := by
    obtain ⟨k, hk, hs⟩ := hne
    exact Finset.sum_pos' (fun k _ => he0 k) ⟨k, hk, hepos k hs⟩
  simp only [hE, hX, one_mul, coe_sum]
  rw [← Finset.sum_mul, div_coe _ _ (mul_pos hsum hc), sum_mul_coe _ _ _ (by positivity)]
  refine Finset.sum_congr rfl fun k _ => ?_
  rw [div_coe _ _ hsum, mul_assoc, ← EReal.coe_mul, ← EReal.coe_mul, mul_comm (v k)]
  congr 2
  field_simp

/-- The running sum over the running sum of the weights is the softmax-weighted mean of the keys taken. -/
theorem runAcc_div {n : ℕ} (m0 : ℝ) (s x v w : ℕ → Fin n → EReal) (h : ∀ j k, Same (s j k) (x j k))
    (hw : ∀ j k, w j k = 1) (N : ℕ) (hne : ∃ j, j < N ∧ ∃ k, s j k ≠ ⊥) (S : ℝ) :
    Ideal.div (runAcc (m0 : EReal) x v N) (runAcc (m0 : EReal) x w N)
      = ∑ j ∈ Finset.range N, ∑ k, Ideal.div (Ideal.exp (s j k - (S : EReal)))
          (∑ j ∈ Finset.range N, ∑ k, Ideal.exp (s j k - (S : EReal))) * v j k := by
  have hx := fun j k => (h j k).score
  obtain ⟨M, hM⟩ := runMax_real m0 x hx N
  obtain ⟨j, hj, k, hk⟩ := hne
  have key := quotient_eq (Finset.range N ×ˢ (Finset.univ : Finset (Fin n))) (fun p => s p.1 p.2)
    (fun p => x p.1 p.2) (fun p => v p.1 p.2) (fun p => h p.1 p.2)
    ⟨(j, k), by simp [hj], hk⟩ M S
  simp only [Finset.sum_product] at key
  rw [runAcc_eq m0 x v hx, runAcc_eq m0 x w hx, hM]
  simp only [hw]
  exact key

end Cert.Softmax

end
-- ==== Proof.KI.Point.lean ====
/-
  One grid point over the reals: for one head and one query the running maximum and the running sum are those of the
  attention over blocks of keys, and the stored block divides each sum by the sum of the weights.
-/
module

public import proofs.«01_k».proof.Proof.KI.Steps
public import proofs.«01_k».proof.Proof.Softmax
public import Idealize.ShloMosaic.Lib.Pointwise
public import Idealize.ShloMosaic.Lib.WordCmp

@[expose] public section

set_option maxRecDepth 16384

noncomputable section

namespace Cert.KernelIdeal.Mla

open Cert.KernelIdeal Cert.KernelIdeal.Gen
open Idealize.ShloMosaic Idealize.ShloMosaic.TcCoe Idealize.SL.Sem
open Idealize.ShloMosaic.WordCmp

/-- The start of the running maximum. -/
def m0 : EReal := Ideal.ofBits .f32 0xF149F2CA#32

/-- The score of query `q` against key `k` of block `j`. -/
def key (i : grid0.Coords) (x0 : Vec Ideal S1x640x512 .bf16) (x1 : Vec Ideal S1x4x8320x128 .bf16) (h : Fin 4) (q : Fin 640)
    (j : ℕ) (k : Fin 640) : EReal := sc i x0 x1 h j (ix2 k q)
/-- Entry `d` of the value of key `k` of block `j`. -/
def val (x2 : Vec Ideal S1x4x13x128x640 .bf16) (h : Fin 4) (d : Fin 128) (j : ℕ) (k : Fin 640) : EReal :=
  vS x2 h j (ix5 0 0 0 d k)

/-- The maximum of each query's scores. -/
theorem max_at (x : FVec Ideal S640x640 .f32) (q : Fin 640) :
    shapeCast S1x640 (multiReduction .maximumf [0] S640 x 0xFF800000#32 reduces_S640x640_S640 (.inl rfl) rfl) shapeCasts_S640_S1x640 (ix2 0 q)
      = Finset.univ.sup (fun k : Fin 640 => (x (ix2 k q) : EReal)) := by
  pointwise
  rfl

/-- One step of the running sum, at one entry and one query. -/
theorem stepA_at (m m' : FVec Ideal S1x640 .f32) (b : FVec Ideal S1x640x640 .f32) (a : FVec Ideal S1x128x640 .f32)
    (v : FVec Ideal S1x1x1x128x640 .bf16) (d : Fin 128) (q : Fin 640) :
    stepA m m' b a v (ix3 0 d q)
      = a (ix3 0 d q) * Ideal.exp2 (m (ix2 0 q) - m' (ix2 0 q))
        + ∑ k : Fin 640, v (ix5 0 0 0 d k) * Ideal.exp2 (b (ix3 0 k q) - m' (ix2 0 q)) := by
  pointwise [stepA]
  rfl

/-- The first 64 lanes are below 64. -/
theorem lane_lt : ∀ d : Fin 64, IntOp.cmpi .slt (BitVec.ofNat 32 d.val) 64#32 = 1#1 := by decide +kernel
/-- The others are not. -/
theorem lane_ge : ∀ d : Fin 64, IntOp.cmpi .slt (BitVec.ofNat 32 (64 + d.val)) 64#32 = 0#1 := by decide +kernel

/-- The output block is the four heads' quotients, 64 lanes each. -/
theorem pay1_0 (v134 : FVec Ideal S640x128 .f32) (v137 v144 v151 : FVec Ideal S128x640 .f32) (q : Fin 640) (d : Fin 64) :
    k0_pay1 v134 v137 v144 v151 (ix2 q ⟨d.val, by omega⟩) = v134 (ix2 q ⟨d.val, by omega⟩) := by
  pointwise [k0_pay1]
  rw [dif_pos (show d.val < 128 by omega), lane_lt]; rfl
/-- The second head's part of a block. -/
theorem pay1_1 (v134 : FVec Ideal S640x128 .f32) (v137 v144 v151 : FVec Ideal S128x640 .f32) (q : Fin 640) (d : Fin 64) :
    k0_pay1 v134 v137 v144 v151 (ix2 q ⟨64 + d.val, by omega⟩) = Ideal.div (v137 (ix2 ⟨d.val, by omega⟩ q)) (v137 (ix2 64 q)) := by
  pointwise [k0_pay1]
  rw [dif_pos (show 64 + d.val < 128 by omega), lane_ge]
  have e : (⟨(64 + d.val + 128 - 64) % 128, Nat.mod_lt _ (by decide)⟩ : Fin 128) = ⟨d.val, by omega⟩ := Fin.ext (by show (64 + d.val + 128 - 64) % 128 = d.val; omega)
  show Ideal.div (v137 (ix2 ⟨(64 + d.val + 128 - 64) % 128, _⟩ q)) _ = _
  rw [e]
/-- The third head's. -/
theorem pay1_2 (v134 : FVec Ideal S640x128 .f32) (v137 v144 v151 : FVec Ideal S128x640 .f32) (q : Fin 640) (d : Fin 64) :
    k0_pay1 v134 v137 v144 v151 (ix2 q ⟨128 + d.val, by omega⟩) = Ideal.div (v144 (ix2 ⟨d.val, by omega⟩ q)) (v144 (ix2 64 q)) := by
  pointwise [k0_pay1]
  rw [lane_lt]; rfl
/-- The fourth head's. -/
theorem pay1_3 (v134 : FVec Ideal S640x128 .f32) (v137 v144 v151 : FVec Ideal S128x640 .f32) (q : Fin 640) (d : Fin 64) :
    k0_pay1 v134 v137 v144 v151 (ix2 q ⟨192 + d.val, by omega⟩) = Ideal.div (v151 (ix2 ⟨d.val, by omega⟩ q)) (v151 (ix2 64 q)) := by
  pointwise [k0_pay1]
  have e : 192 + d.val - 128 = 64 + d.val := by omega
  have e' : (64 + d.val + 128 - 64) % 128 = d.val := by omega
  rw [dif_neg (show ¬192 + d.val < 128 by omega)]
  simp only [e, e', lane_ge]; rfl

/-- An entry divided by the sum in row 64. -/
theorem nrm_at (a : FVec Ideal S1x128x640 .f32) (q : Fin 640) (d : Fin 128) :
    nrm a (ix2 q d) = Ideal.div (a (ix3 0 d q)) (a (ix3 0 64 q)) := by
  pointwise [nrm]
/-- The same, read from the block without its first axis. -/
theorem flat_at (a : FVec Ideal S1x128x640 .f32) (q : Fin 640) (d : Fin 128) :
    shapeCast S128x640 a shapeCasts_S1x128x640_S128x640 (ix2 d q) = a (ix3 0 d q) := by
  pointwise

section Block

variable (i : grid0.Coords) (x0 : Vec Ideal S1x640x512 .bf16) (x1 : Vec Ideal S1x4x8320x128 .bf16) (x2 : Vec Ideal S1x4x13x128x640 .bf16) (h : Fin 4) (q : Fin 640)

/-- The running maximum is that of the blocks of scores. -/
theorem M_at (j : ℕ) : M i x0 x1 h j (ix2 0 q) = Softmax.runMax m0 (key i x0 x1 h q) j := by
  induction j with
  | zero => rfl
  | succ j ih =>
    show max (M i x0 x1 h j (ix2 0 q)) (mx i x0 x1 h j (ix2 0 q)) = _
    rw [ih]
    exact congrArg (max _) (max_at (sc i x0 x1 h j) q)

/-- A buffered score is the score. -/
theorem buf_at (j : ℕ) (k : Fin 640) : buf i x0 x1 h j (ix3 0 k q) = key i x0 x1 h q j k := by
  unfold key buf; pointwise

/-- The running sum is that of the blocks of weighted values. -/
theorem A_at (d : Fin 128) (j : ℕ) : A i x0 x1 x2 h j (ix3 0 d q) = Softmax.runAcc m0 (key i x0 x1 h q) (val x2 h d) j := by
  induction j with
  | zero => exact Ideal.ofBits_zero_f32
  | succ j ih =>
    refine (stepA_at _ _ _ _ _ d q).trans ?_
    rw [ih, M_at, M_at]
    simp only [buf_at]
    rfl

/-- What a point stores: each head's weighted mean of the values. -/
theorem out_at (d : Fin 64) :
    outVal i x0 x1 x2 (ix2 q ⟨64 * h.val + d.val, by omega⟩)
      = Ideal.div (Softmax.runAcc m0 (key i x0 x1 h q) (val x2 h ⟨d.val, by omega⟩) ((i 2).val + 1))
          (Softmax.runAcc m0 (key i x0 x1 h q) (val x2 h 64) ((i 2).val + 1)) := by
  rw [← A_at, ← A_at]
  have e : ∀ (n : ℕ) (hn : n = 64 * h.val + d.val) (hl : n < 256), outVal i x0 x1 x2 (ix2 q ⟨64 * h.val + d.val, by omega⟩) = outVal i x0 x1 x2 (ix2 q ⟨n, hl⟩) := by
    intro n hn hl; subst hn; rfl
  fin_cases h
  · exact (e d.val (by simp) (by omega)).trans ((pay1_0 _ _ _ _ q d).trans (nrm_at _ q _))
  · exact (e (64 + d.val) (by simp) (by omega)).trans ((pay1_1 _ _ _ _ q d).trans (congrArg₂ Ideal.div (flat_at _ q _) (flat_at _ q _)))
  · exact (e (128 + d.val) (by simp) (by omega)).trans ((pay1_2 _ _ _ _ q d).trans (congrArg₂ Ideal.div (flat_at _ q _) (flat_at _ q _)))
  · exact (e (192 + d.val) (by simp) (by omega)).trans ((pay1_3 _ _ _ _ q d).trans (congrArg₂ Ideal.div (flat_at _ q _) (flat_at _ q _)))

/-- The bias of a block: the causal mask on the diagonal block, nothing before it. -/
theorem bias_at (j : ℕ) (k : Fin 640) :
    bias (F := Ideal) i j (ix3 0 k q) = if j = (i 2).val ∧ ¬k.val ≤ q.val then (⊥ : EReal) else 0 := by
  unfold bias
  by_cases hj : j = (i 2).val
  · rw [if_pos hj]
    pointwise [k0_pay344]
    rw [show (Ideal.ofBits .f32 0xFF800000#32 : EReal) = ⊥ from rfl]
    by_cases hk : k.val ≤ q.val
    · rw [(cmpi_sle_ofNat_eq_one_iff (w := 32) (a := k.val) (b := q.val) (by omega) (by omega)).2 hk, if_neg (fun h => h.2 hk)]; rfl
    · rw [(cmpi_sle_ofNat_eq_zero_iff (w := 32) (a := k.val) (b := q.val) (by omega) (by omega)).2 hk, if_pos ⟨hj, hk⟩]; rfl
  · rw [if_neg hj, if_neg (fun h => hj h.1)]
    pointwise [k0_pay343]

/-- A score: the product of query and key, 128 entries, plus the bias. -/
theorem key_at (j : ℕ) (k : Fin 640) :
    key i x0 x1 h q j k
      = (∑ t : Fin 128, x1 (ix4 0 h ⟨640 * (j % 13) + k.val, by omega⟩ t) * x0 (ix3 0 q ⟨128 * h.val + t.val, by omega⟩))
        + (if j = (i 2).val ∧ ¬k.val ≤ q.val then (⊥ : EReal) else 0) := by
  rw [← bias_at]
  unfold key
  pointwise [sc, kS, qS]

/-- A value is an entry of the values' block. -/
theorem val_at (d : Fin 128) (j : ℕ) (k : Fin 640) :
    val x2 h d j k = x2 (ix5 0 h ⟨j % 13, Nat.mod_lt _ (by decide)⟩ d k) := by
  unfold val
  pointwise [vS]

end Block

end Cert.KernelIdeal.Mla

end
-- ==== Proof.KI.Host.lean ====
/-
  The kernel's operands as the host lays them out, read at an index: the queries times the scale, the keys, and the
  values with their row of ones.
-/
module

public import proofs.«01_k».proof.Proof.Gen.KernelIdeal.Frame.Runs
public import Idealize.ShloMosaic.Lib.Pointwise
public import Idealize.ShloMosaic.Lib.StableHlo.ReadAt

@[expose] public section

set_option maxRecDepth 16384

noncomputable section

namespace Cert.KernelIdeal.Mla

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The queries' scale, 1/(√96 · log 2). -/
def kap : EReal := Ideal.div 1 (Ideal.sqrt (Ideal.ofBits .f32 0x42C00000#32) * Ideal.log (Ideal.ofBits .f32 0x40000000#32))

/-- A query's first 64 entries. -/
theorem q_nope (b : Fin 4) (s : Fin 8320) (h : Fin 8) (d : Fin 64) (l : Fin 1024) (hl : l.val = 128 * h.val + d.val) :
    V m c main_v9 (ix3 b s l) = (show EReal from m ((c : Thread nD τ).loc main_arg0) (ix4 b s h d)) * kap := by
  have e1 : l.val / 128 = h.val := by omega
  have e2 : l.val % 128 = d.val := by omega
  unfold V
  after_reads_at
  simp only [e1, e2, dif_pos (show d.val < 64 from d.isLt)]
  after_reads_at
  rfl

/-- Its next 32. -/
theorem q_rope (b : Fin 4) (s : Fin 8320) (h : Fin 8) (d : Fin 32) (l : Fin 1024) (hl : l.val = 128 * h.val + 64 + d.val) :
    V m c main_v9 (ix3 b s l) = (show EReal from m ((c : Thread nD τ).loc main_arg1) (ix4 b s h d)) * kap := by
  have e1 : l.val / 128 = h.val := by omega
  have e2 : l.val % 128 = 64 + d.val := by omega
  have e3 : 64 + d.val - 64 = d.val := by omega
  unfold V
  after_reads_at
  simp only [e1, e2, e3, dif_neg (show ¬64 + d.val < 64 by omega), dif_pos (show d.val < 32 from d.isLt)]
  after_reads_at
  rfl

/-- Its last 32 are zero. -/
theorem q_zero (b : Fin 4) (s : Fin 8320) (h : Fin 8) (d : Fin 32) (l : Fin 1024) (hl : l.val = 128 * h.val + 96 + d.val) :
    V m c main_v9 (ix3 b s l) = (show EReal from 0) := by
  have e1 : l.val / 128 = h.val := by omega
  have e2 : l.val % 128 = 96 + d.val := by omega
  unfold V
  after_reads_at
  simp only [e1, e2, dif_neg (show ¬96 + d.val < 64 by omega), dif_neg (show ¬96 + d.val - 64 < 32 by omega)]
  after_reads_at
  exact zero_mul _

/-- A key's first 64 entries, for its head. -/
theorem k_nope (b : Fin 4) (h : Fin 8) (s : Fin 8320) (d : Fin 64) (l : Fin 128) (hl : l.val = d.val) :
    V m c main_v15 (ix4 b h s l) = (show EReal from m ((c : Thread nD τ).loc main_arg2) (ix4 b s h d)) := by
  unfold V
  after_reads_at
  simp only [hl, dif_pos (show d.val < 64 from d.isLt)]
  after_reads_at

/-- Its next 32, which all heads share. -/
theorem k_rope (b : Fin 4) (h : Fin 8) (s : Fin 8320) (d : Fin 32) (l : Fin 128) (hl : l.val = 64 + d.val) :
    V m c main_v15 (ix4 b h s l) = (show EReal from m ((c : Thread nD τ).loc main_arg3) (ix3 b s d)) := by
  have e3 : 64 + d.val - 64 = d.val := by omega
  unfold V
  after_reads_at
  simp only [hl, e3, dif_neg (show ¬64 + d.val < 64 by omega), dif_pos (show d.val < 32 from d.isLt)]
  after_reads_at

/-- Its last 32 are zero. -/
theorem k_zero (b : Fin 4) (h : Fin 8) (s : Fin 8320) (d : Fin 32) (l : Fin 128) (hl : l.val = 96 + d.val) :
    V m c main_v15 (ix4 b h s l) = (show EReal from 0) := by
  unfold V
  after_reads_at
  simp only [hl, dif_neg (show ¬96 + d.val < 64 by omega), dif_neg (show ¬96 + d.val - 64 < 32 by omega)]
  after_reads_at

/-- The values, transposed in blocks of 640. -/
theorem v_val (b : Fin 4) (h : Fin 8) (j : Fin 13) (d : Fin 64) (k : Fin 640) (l : Fin 128) (hl : l.val = d.val) :
    V m c main_v21 (ix5 b h j l k) = (show EReal from m ((c : Thread nD τ).loc main_arg4) (ix4 b ⟨j.val * 640 + k.val, by omega⟩ h d)) := by
  unfold V
  after_reads_at
  simp only [hl, dif_pos (show d.val < 64 from d.isLt)]
  after_reads_at

/-- The row under them is ones. -/
theorem v_one (b : Fin 4) (h : Fin 8) (j : Fin 13) (k : Fin 640) :
    V m c main_v21 (ix5 b h j 64 k) = (show EReal from 1) := by
  unfold V
  after_reads_at
  after_reads_at

end Cert.KernelIdeal.Mla

end
-- ==== Proof.KI.Blocks.lean ====
/-
  The blocks a grid point reads, at their places in the operands, and the result array from the blocks written.
-/
module

public import proofs.«01_k».proof.Proof.KI.Frame
public import proofs.«01_k».proof.Proof.KI.Point
public import proofs.«01_k».proof.Proof.KI.Host
public import Idealize.ShloMosaic.Lib.Pipeline.ValueKit

@[expose] public section

set_option maxRecDepth 16384

noncomputable section

namespace Cert.KernelIdeal.Mla

open Cert.KernelIdeal Cert.KernelIdeal.Gen
open Idealize.ShloMosaic Idealize.ShloMosaic.TcCoe Idealize.SL.Sem Idealize.ShloMosaic.Pipeline

/-- Where each window's block lies, by the point's coordinates. -/
theorem e0 : ∀ t : Fin cfg0.N, win0_0.index t = ![(grid0.coords t 0).val, (grid0.coords t 2).val, (grid0.coords t 1).val] :=
  (by decide +kernel : ∀ t : Fin grid0.N, _)
/-- The same of the keys. -/
theorem e1 : ∀ t : Fin cfg0.N, win0_1.index t = ![(grid0.coords t 0).val, (grid0.coords t 1).val, 0, 0] :=
  (by decide +kernel : ∀ t : Fin grid0.N, _)
/-- The same of the values. -/
theorem e2 : ∀ t : Fin cfg0.N, win0_2.index t = ![(grid0.coords t 0).val, (grid0.coords t 1).val, 0, 0, 0] :=
  (by decide +kernel : ∀ t : Fin grid0.N, _)
/-- The same of the result. -/
theorem e3 : ∀ t : Fin cfg0.N, win0_3.index t = ![(grid0.coords t 0).val * 13 + (grid0.coords t 2).val, (grid0.coords t 1).val] :=
  (by decide +kernel : ∀ t : Fin grid0.N, _)

/-- The bounds of a point's coordinates. -/
theorem bnd : ∀ t : Fin cfg0.N, (grid0.coords t 0).val < 4 ∧ (grid0.coords t 1).val < 2 ∧ (grid0.coords t 2).val < 13 :=
  (by decide +kernel : ∀ t : Fin grid0.N, _)

variable (m : (ℓ : Loc nD τ sig) → Buf (Elt Ideal) ℓ) (c : Dev nD) (t : Fin cfg0.N)

/-- A read through the queries' block, at an index. -/
theorem read0 (X : Buf (Elt Ideal) ((c : Thread nD τ).loc main_v9)) (y : S1x640x512.Idx) :
    (win0_0.blk t).view.read (Elt Ideal) X y = X ((win0_0.blk t).view.emb y) := by
  rfl

/-- The queries' block is read from the laid-out queries. -/
theorem iblk0 : iblk m c 0 t = (win0_0.blk t).view.read (Elt Ideal) (V m c main_v9) := by
  unfold iblk
  rfl

/-- Where an entry of the queries' block lies. -/
theorem emb0 (q : Fin 640) (l : Fin 512) (b : Fin 4) (s : Fin 8320) (l' : Fin 1024) (hb : b.val = (grid0.coords t 0).val)
    (hs : s.val = 640 * (grid0.coords t 2).val + q.val) (hl : l'.val = 512 * (grid0.coords t 1).val + l.val) :
    (win0_0.blk t).view.emb (ix3 0 q l : S1x640x512.Idx) = (ix3 b s l' : S4x8320x1024.Idx) := by
  funext a
  refine Fin.ext ((ValueKit.view_emb_slice_whole_unit_val main_v9 _ _ _ (ix3 0 q l) a).trans ?_)
  show win0_0.index t a * win0_0.size a + ↑((ix3 0 q l : S1x640x512.Idx) a) = ↑((ix3 b s l' : S4x8320x1024.Idx) a)
  rw [e0]
  match a with
  | 0 => show (grid0.coords t 0).val * 1 + 0 = b.val; omega
  | 1 => show (grid0.coords t 2).val * 640 + q.val = s.val; omega
  | 2 => show (grid0.coords t 1).val * 512 + l.val = l'.val; omega

/-- The queries of a point. -/
theorem q_blk (q : Fin 640) (l : Fin 512) (b : Fin 4) (s : Fin 8320) (l' : Fin 1024) (hb : b.val = (grid0.coords t 0).val)
    (hs : s.val = 640 * (grid0.coords t 2).val + q.val) (hl : l'.val = 512 * (grid0.coords t 1).val + l.val) :
    iblk m c 0 t (ix3 0 q l) = V m c main_v9 (ix3 b s l') := by
  rw [iblk0]
  exact (read0 c t _ _).trans (congrArg (V m c main_v9) (emb0 t q l b s l' hb hs hl))

/-- A read through the keys' block, at an index. -/
theorem read1 (X : Buf (Elt Ideal) ((c : Thread nD τ).loc main_v15)) (y : S1x4x8320x128.Idx) :
    (win0_1.blk t).view.read (Elt Ideal) X y = X ((win0_1.blk t).view.emb y) := by
  rfl

/-- The keys' block is read from the laid-out keys. -/
theorem iblk1 : iblk m c 1 t = (win0_1.blk t).view.read (Elt Ideal) (V m c main_v15) := by
  unfold iblk
  rfl

/-- Where an entry of the keys' block lies. -/
theorem emb1 (h : Fin 4) (s : Fin 8320) (d : Fin 128) (b : Fin 4) (h' : Fin 8) (hb : b.val = (grid0.coords t 0).val)
    (hh : h'.val = 4 * (grid0.coords t 1).val + h.val) :
    (win0_1.blk t).view.emb (ix4 0 h s d : S1x4x8320x128.Idx) = (ix4 b h' s d : S4x8x8320x128.Idx) := by
  funext a
  refine Fin.ext ((ValueKit.view_emb_slice_whole_unit_val main_v15 _ _ _ (ix4 0 h s d) a).trans ?_)
  show win0_1.index t a * win0_1.size a + ↑((ix4 0 h s d : S1x4x8320x128.Idx) a) = ↑((ix4 b h' s d : S4x8x8320x128.Idx) a)
  rw [e1]
  match a with
  | 0 => show (grid0.coords t 0).val * 1 + 0 = b.val; omega
  | 1 => show (grid0.coords t 1).val * 4 + h.val = h'.val; omega
  | 2 => show 0 * 8320 + s.val = s.val; omega
  | 3 => show 0 * 128 + d.val = d.val; omega

/-- Its keys. -/
theorem k_blk (h : Fin 4) (s : Fin 8320) (d : Fin 128) (b : Fin 4) (h' : Fin 8) (hb : b.val = (grid0.coords t 0).val)
    (hh : h'.val = 4 * (grid0.coords t 1).val + h.val) :
    iblk m c 1 t (ix4 0 h s d) = V m c main_v15 (ix4 b h' s d) := by
  rw [iblk1]
  exact (read1 c t _ _).trans (congrArg (V m c main_v15) (emb1 t h s d b h' hb hh))

/-- A read through the values' block, at an index. -/
theorem read2 (X : Buf (Elt Ideal) ((c : Thread nD τ).loc main_v21)) (y : S1x4x13x128x640.Idx) :
    (win0_2.blk t).view.read (Elt Ideal) X y = X ((win0_2.blk t).view.emb y) := by
  rfl

/-- The values' block is read from the laid-out values. -/
theorem iblk2 : iblk m c 2 t = (win0_2.blk t).view.read (Elt Ideal) (V m c main_v21) := by
  unfold iblk
  rfl

/-- Where an entry of the values' block lies. -/
theorem emb2 (h : Fin 4) (j : Fin 13) (d : Fin 128) (k : Fin 640) (b : Fin 4) (h' : Fin 8) (hb : b.val = (grid0.coords t 0).val)
    (hh : h'.val = 4 * (grid0.coords t 1).val + h.val) :
    (win0_2.blk t).view.emb (ix5 0 h j d k : S1x4x13x128x640.Idx) = (ix5 b h' j d k : S4x8x13x128x640.Idx) := by
  funext a
  refine Fin.ext ((ValueKit.view_emb_slice_whole_unit_val main_v21 _ _ _ (ix5 0 h j d k) a).trans ?_)
  show win0_2.index t a * win0_2.size a + ↑((ix5 0 h j d k : S1x4x13x128x640.Idx) a) = ↑((ix5 b h' j d k : S4x8x13x128x640.Idx) a)
  rw [e2]
  match a with
  | 0 => show (grid0.coords t 0).val * 1 + 0 = b.val; omega
  | 1 => show (grid0.coords t 1).val * 4 + h.val = h'.val; omega
  | 2 => show 0 * 13 + j.val = j.val; omega
  | 3 => show 0 * 128 + d.val = d.val; omega
  | 4 => show 0 * 640 + k.val = k.val; omega

/-- Its values. -/
theorem v_blk (h : Fin 4) (j : Fin 13) (d : Fin 128) (k : Fin 640) (b : Fin 4) (h' : Fin 8) (hb : b.val = (grid0.coords t 0).val)
    (hh : h'.val = 4 * (grid0.coords t 1).val + h.val) :
    iblk m c 2 t (ix5 0 h j d k) = V m c main_v21 (ix5 b h' j d k) := by
  rw [iblk2]
  exact (read2 c t _ _).trans (congrArg (V m c main_v21) (emb2 t h j d k b h' hb hh))

/-- Where an entry of the result's block lies. -/
theorem emb3 (q : Fin 640) (l : Fin 256) (r : Fin 33280) (l' : Fin 512)
    (hr : r.val = ((grid0.coords t 0).val * 13 + (grid0.coords t 2).val) * 640 + q.val) (hl : l'.val = (grid0.coords t 1).val * 256 + l.val) :
    (win0_3.blk t).view.emb (ix2 q l : S640x256.Idx) = (ix2 r l' : S33280x512.Idx) := by
  funext a
  refine Fin.ext ((ValueKit.view_emb_slice_whole_unit_val main_v22 _ _ _ (ix2 q l) a).trans ?_)
  show win0_3.index t a * win0_3.size a + ↑((ix2 q l : S640x256.Idx) a) = ↑((ix2 r l' : S33280x512.Idx) a)
  rw [e3]
  match a with
  | 0 => show ((grid0.coords t 0).val * 13 + (grid0.coords t 2).val) * 640 + q.val = r.val; omega
  | 1 => show (grid0.coords t 1).val * 256 + l.val = l'.val; omega

/-- The result array, from what each point's block holds at its entries. -/
theorem out_eq (G : Buf (Elt Ideal) ((c.tc : Thread nD τ).loc main_v22))
    (hG : ∀ (t : Fin cfg0.N) (h : Fin 4) (q : Fin 640) (d : Fin 64) (r : Fin 33280) (l : Fin 512),
      r.val = ((grid0.coords t 0).val * 13 + (grid0.coords t 2).val) * 640 + q.val → l.val = (grid0.coords t 1).val * 256 + (64 * h.val + d.val) →
      outVal (grid0.coords t) (iblk m c 0 t) (iblk m c 1 t) (iblk m c 2 t) (ix2 q ⟨64 * h.val + d.val, by omega⟩) = G (ix2 r l)) :
    (dats m 0 c).arrAt 3 cfg0.N = G := by
  refine (dats m 0 c).arrAt_eq_of_covers 3 G (by decide +kernel) fun t hf y => ?_
  blk_simp
  rw [after0_3]
  obtain ⟨h0, h1, h2⟩ := bnd t
  obtain ⟨q, l, rfl⟩ : ∃ (q : Fin 640) (l : Fin 256), y = (ix2 q l : S640x256.Idx) := ⟨y 0, y 1, by funext a; match a with | 0 => rfl | 1 => rfl⟩
  obtain ⟨h, d, rfl⟩ : ∃ (h : Fin 4) (d : Fin 64), l = ⟨64 * h.val + d.val, by omega⟩ :=
    ⟨⟨l.val / 64, by omega⟩, ⟨l.val % 64, by omega⟩, Fin.ext (by show l.val = 64 * (l.val / 64) + l.val % 64; omega)⟩
  exact (hG t h q d ⟨((grid0.coords t 0).val * 13 + (grid0.coords t 2).val) * 640 + q.val, by omega⟩ ⟨(grid0.coords t 1).val * 256 + (64 * h.val + d.val), by omega⟩ rfl rfl).trans
    (congrArg G (emb3 t q _ _ _ rfl rfl).symm)

end Cert.KernelIdeal.Mla

end
-- ==== Proof.Mean.lean ====
/-
  From blocks of keys to all keys: the running quotient over the blocks up to the query's own is the softmax over all
  keys, those past the query weighing nothing.
-/
module

public import proofs.«01_k».proof.Proof.Softmax
public import Idealize.ShloMosaic.Lib.Pointwise.Sums

@[expose] public section

noncomputable section

namespace Cert.Softmax

open Idealize.ShloMosaic

/-- Key `k` of block `j`. -/
def at13 (j : ℕ) (k : Fin 640) : Fin 8320 := ⟨640 * (j % 13) + k.val, by omega⟩

/-- A sum over all keys that vanishes past block `i` is the sum over the blocks up to `i`. -/
theorem sum_blocks (f : Fin 8320 → EReal) (i : ℕ) (hi : i < 13) (hf : ∀ k : Fin 8320, 640 * (i + 1) ≤ k.val → f k = 0) :
    ∑ k, f k = ∑ j ∈ Finset.range (i + 1), ∑ k, f (at13 j k) := by
  have e1 : ∑ k, f k = ∑ j ∈ Finset.range 13, ∑ k, f (at13 j k) := by
    rw [Finset.sum_range]
    refine (Fin.sum_univ_tiles 13 640 rfl f).trans (Finset.sum_congr rfl fun j _ => Finset.sum_congr rfl fun k _ => congrArg f (Fin.ext ?_))
    show j.val * 640 + k.val = 640 * (j.val % 13) + k.val
    omega
  rw [e1]
  refine (Finset.sum_subset (fun j hj => Finset.mem_range.2 (by have := Finset.mem_range.1 hj; omega)) fun j hj hn => ?_).symm
  have h1 := Finset.mem_range.1 hj
  have h2 : ¬ j < i + 1 := fun h => hn (Finset.mem_range.2 h)
  exact Finset.sum_eq_zero fun k _ => hf _ (by show _ ≤ 640 * (j % 13) + k.val; omega)

/-- An exponential is not negative. -/
theorem exp_nonneg (x : EReal) : 0 ≤ Ideal.exp x := by
  induction x with
  | bot => exact le_rfl
  | coe r => rw [exp_coe]; exact_mod_cast (Real.exp_pos r).le
  | top => exact le_top

/-- Softmax over all keys, from the blocks up to the query's own. -/
theorem mean (m0 : ℝ) (sc v : Fin 8320 → EReal) (S : ℝ) (i : ℕ) (hi : i < 13) (q : Fin 8320) (hq : 640 * i ≤ q.val ∧ q.val < 640 * (i + 1))
    (s x vv w : ℕ → Fin 640 → EReal) (h : ∀ j k, Same (s j k) (x j k)) (hs : ∀ j k, j ≤ i → s j k = sc (at13 j k))
    (hm : ∀ k : Fin 8320, q.val < k.val → sc k = ⊥) (hr : ∃ r : ℝ, sc q = (r : EReal)) (hv : ∀ j k, vv j k = v (at13 j k)) (hw : ∀ j k, w j k = 1) :
    Ideal.div (runAcc m0 x vv (i + 1)) (runAcc m0 x w (i + 1))
      = ∑ k, v k * Ideal.div (Ideal.exp (sc k - S)) (∑ k', Ideal.exp (sc k' - S)) := by
  obtain ⟨r, hr⟩ := hr
  have hz : ∀ k : Fin 8320, 640 * (i + 1) ≤ k.val → Ideal.exp (sc k - S) = 0 := fun k hk => by
    rw [hm k (by omega), bot_sub_coe]; rfl
  have hD : ∑ k', Ideal.exp (sc k' - S) ≠ 0 := by
    have h1 : Ideal.exp (sc q - S) ≤ ∑ k', Ideal.exp (sc k' - S) :=
      Finset.single_le_sum (f := fun k' => Ideal.exp (sc k' - S)) (fun k _ => exp_nonneg _) (Finset.mem_univ q)
    have h2 : (0 : EReal) < Ideal.exp (sc q - S) := by
      rw [hr, ← EReal.coe_sub, exp_coe]; exact_mod_cast Real.exp_pos _
    exact (lt_of_lt_of_le h2 h1).ne'
  have hne : ∃ j < i + 1, ∃ k, s j k ≠ ⊥ := by
    refine ⟨i, by omega, ⟨q.val - 640 * i, by omega⟩, ?_⟩
    rw [hs i _ le_rfl]
    have e : at13 i ⟨q.val - 640 * i, by omega⟩ = q := Fin.ext (by show 640 * (i % 13) + (q.val - 640 * i) = q.val; omega)
    rw [e, hr]; exact EReal.coe_ne_bot r
  rw [runAcc_div m0 s x vv w h hw (i + 1) hne S,
    sum_blocks (fun k => v k * Ideal.div (Ideal.exp (sc k - S)) (∑ k', Ideal.exp (sc k' - S))) i hi fun k hk => by
      show v k * Ideal.div (Ideal.exp (sc k - S)) _ = 0
      rw [hz k hk]; unfold Ideal.div; rw [if_neg hD, zero_mul, mul_zero]]
  have eD : ∑ j ∈ Finset.range (i + 1), ∑ k, Ideal.exp (s j k - S) = ∑ k', Ideal.exp (sc k' - S) := by
    rw [sum_blocks (fun k => Ideal.exp (sc k - S)) i hi hz]
    exact Finset.sum_congr rfl fun j hj => Finset.sum_congr rfl fun k _ => by rw [hs j k (by have := Finset.mem_range.1 hj; omega)]
  rw [eD]
  refine Finset.sum_congr rfl fun j hj => Finset.sum_congr rfl fun k _ => ?_
  rw [hs j k (by have := Finset.mem_range.1 hj; omega), hv j k, mul_comm]

/-- A sum over 128 entries, by its 64, 32 and 32. -/
theorem sum_128 (f : Fin 128 → EReal) : ∑ t, f t = (∑ d : Fin 64, f ⟨d.val, by omega⟩) + ((∑ d : Fin 32, f ⟨64 + d.val, by omega⟩) + ∑ d : Fin 32, f ⟨96 + d.val, by omega⟩) := by
  refine (Fin.sum_univ_add (a := 64) (b := 64) f).trans ?_
  congr 1
  refine (Fin.sum_univ_add (a := 32) (b := 32) fun d => f (Fin.natAdd 64 d)).trans ?_
  congr 1

/-- One query's score of one key: what the reference takes times 1/√w against what the kernel takes of the query times
    1/(√w · log 2). -/
theorem same_score (a0 a2 : Fin 64 → EReal) (a1 a3 : Fin 32 → EReal) (h0 : ∀ d, ∃ r : ℝ, a0 d = r) (h1 : ∀ d, ∃ r : ℝ, a1 d = r)
    (h2 : ∀ d, ∃ r : ℝ, a2 d = r) (h3 : ∀ d, ∃ r : ℝ, a3 d = r) (w : ℝ) (hw : 0 < w) :
    Same (((∑ d, a0 d * a2 d) + ∑ d, a3 d * a1 d) * Ideal.div 1 (Ideal.sqrt w))
      ((∑ d, a2 d * (a0 d * Ideal.div 1 (Ideal.sqrt w * Ideal.log (2 : ℝ)))) + ((∑ d, a3 d * (a1 d * Ideal.div 1 (Ideal.sqrt w * Ideal.log (2 : ℝ)))) + ∑ _d : Fin 32, 0 * 0))
    ∧ ∃ r : ℝ, ((∑ d, a0 d * a2 d) + ∑ d, a3 d * a1 d) * Ideal.div 1 (Ideal.sqrt w) = (r : EReal) := by
  choose A0 h0 using h0
  choose A1 h1 using h1
  choose A2 h2 using h2
  choose A3 h3 using h3
  have es : Ideal.sqrt (w : EReal) = ((Real.sqrt w : ℝ) : EReal) := by
    show (if w < 0 then (⊥ : EReal) else (Real.sqrt w : EReal)) = _
    rw [if_neg (not_lt.2 hw.le)]
  have el : Ideal.log ((2 : ℝ) : EReal) = ((Real.log 2 : ℝ) : EReal) := by
    show (if (2 : ℝ) ≤ 0 then (⊥ : EReal) else (Real.log 2 : EReal)) = _
    rw [if_neg (by norm_num)]
  have hl : 0 < Real.log 2 := Real.log_pos (by norm_num)
  have hsq : 0 < Real.sqrt w := Real.sqrt_pos.2 hw
  have e0 : ((∑ d, a0 d * a2 d) + ∑ d, a3 d * a1 d) * Ideal.div 1 (Ideal.sqrt w)
      = ((((∑ d, A0 d * A2 d) + ∑ d, A3 d * A1 d) * (Real.sqrt w)⁻¹ : ℝ) : EReal) := by
    rw [es, div_coe _ _ hsq, one_mul]
    simp only [h0, h1, h2, h3, ← EReal.coe_mul, coe_sum, ← EReal.coe_add]
  refine ⟨Or.inr ⟨_, e0, ?_⟩, _, e0⟩
  rw [es, el, ← EReal.coe_mul, div_coe _ _ (mul_pos hsq hl), one_mul]
  simp only [h0, h1, h2, h3, ← EReal.coe_mul, coe_sum, ← EReal.coe_add, mul_zero, Finset.sum_const_zero, add_zero]
  congr 1
  rw [add_mul, add_div, Finset.sum_mul, Finset.sum_mul, Finset.sum_div, Finset.sum_div]
  congr 1 <;>
  · refine Finset.sum_congr rfl fun d _ => ?_
    field_simp

end Cert.Softmax

end
-- ==== Proof.Ref.lean ====
/-
  The reference over the reals, read at an index: the masked scores, their maximum, the weights' sum and the weighted mean.
-/
module

public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Mla

open Cert.ReferenceIdeal Cert.ReferenceIdeal.Gen Cert.ReferenceIdeal.Value
open Idealize.ShloMosaic Idealize.ShloMosaic.TcCoe Idealize.SL.Sem
open Idealize.ShloMosaic.WordCmp

/-- Which keys a query sees: none past its own place. -/
def MK : IVec S8320x8320 1 :=
  cmpi .sle (broadcastInDim S8320x8320 ![0, 1] bcast_S1x8320_S8320x8320_0_1 (broadcastInDim S1x8320 ![1] bcast_S8320_S1x8320_1 (iotaInDim S8320 32 0))) (broadcastInDim S8320x8320 ![0, 1] bcast_S8320x1_S8320x8320_0_1 (broadcastInDim S8320x1 ![0] bcast_S8320_S8320x1_0 (iotaInDim S8320 32 0)))

/-- The products of the parts without positions. -/
def D1 (a0 a2 : FVec Ideal S4x8320x8x64 .f32) : FVec Ideal S4x8x8320x8320 .f32 :=
  Host.dotGeneral dot_S4x8320x8x64_S4x8320x8x64_S4x8x8320x8320_3_3_1_1_02_02 none a0 a2

/-- The products of the parts with positions, in the order they are taken. -/
def D2 (a1 : FVec Ideal S4x8320x8x32 .f32) (a3 : FVec Ideal S4x8320x32 .f32) : FVec Ideal S4x8320x8320x8 .f32 :=
  Host.dotGeneral dot_S4x8320x32_S4x8320x8x32_S4x8320x8320x8_2_3_1_12_0_0 none a3 a1

/-- The scores before the mask. -/
def SR (d1 : FVec Ideal S4x8x8320x8320 .f32) (d2 : FVec Ideal S4x8320x8320x8 .f32) : FVec Ideal S4x8x8320x8320 .f32 :=
  mulf (addf d1 (transpose S4x8x8320x8320 [0, 3, 2, 1] d2 transposes_S4x8320x8320x8_S4x8x8320x8320_0_3_2_1))
      (broadcastInDim S4x8x8320x8320 ![] bcast_S_S4x8x8320x8320 (Host.divf (constant S_ .f32 0x3F800000#32) (Host.sqrt (constant S_ .f32 0x42C00000#32))))

/-- The masked scores, given the mask and the scores. -/
def SM0 (mk : IVec S8320x8320 1) (r : FVec Ideal S4x8x8320x8320 .f32) : FVec Ideal S4x8x8320x8320 .f32 :=
  select (broadcastInDim S4x8x8320x8320 ![0, 1, 2, 3] bcast_S1x1x8320x8320_S4x8x8320x8320_0_1_2_3 (broadcastInDim S1x1x8320x8320 ![2, 3] bcast_S8320x8320_S1x1x8320x8320_2_3 mk)) r
    (broadcastInDim S4x8x8320x8320 ![] bcast_S_S4x8x8320x8320 (id (constant S_ .f32 0xFF800000#32)))

/-- The masked scores. -/
def SC (a0 : FVec Ideal S4x8320x8x64 .f32) (a1 : FVec Ideal S4x8320x8x32 .f32) (a2 : FVec Ideal S4x8320x8x64 .f32) (a3 : FVec Ideal S4x8320x32 .f32) :
    FVec Ideal S4x8x8320x8320 .f32 :=
  SM0 MK (SR (D1 a0 a2) (D2 a1 a3))

/-- Each query's greatest score. -/
def MX (x : FVec Ideal S4x8x8320x8320 .f32) : FVec Ideal S4x8x8320 .f32 :=
  maximumf (broadcastInDim S4x8x8320 ![] bcast_S_S4x8x8320 (constant S_ .f32 0xFF800000#32)) (Host.reduce FloatOps.maximumf x (constant S_ .f32 0xFF800000#32) reducesTo_S4x8x8320x8320_S4x8x8320_d3 h_S_)

/-- The weights before their division. -/
def EX (x : FVec Ideal S4x8x8320x8320 .f32) (mx : FVec Ideal S4x8x8320 .f32) : FVec Ideal S4x8x8320x8320 .f32 :=
  Host.exp (subf x (broadcastInDim S4x8x8320x8320 ![0, 1, 2, 3] bcast_S4x8x8320x1_S4x8x8320x8320_0_1_2_3 (broadcastInDim S4x8x8320x1 ![0, 1, 2] bcast_S4x8x8320_S4x8x8320x1_0_1_2 mx)))

/-- Each query's sum of weights. -/
def SM (e : FVec Ideal S4x8x8320x8320 .f32) : FVec Ideal S4x8x8320 .f32 :=
  Host.reduceAdd e (constant S_ .f32 0x00000000#32) reducesTo_S4x8x8320x8320_S4x8x8320_d3 h_S_

/-- The weights. -/
def PR (e : FVec Ideal S4x8x8320x8320 .f32) (sm : FVec Ideal S4x8x8320 .f32) : FVec Ideal S4x8x8320x8320 .f32 :=
  Host.divf e (broadcastInDim S4x8x8320x8320 ![0, 1, 2, 3] bcast_S4x8x8320x1_S4x8x8320x8320_0_1_2_3 (broadcastInDim S4x8x8320x1 ![0, 1, 2] bcast_S4x8x8320_S4x8x8320x1_0_1_2 sm))

/-- The weighted means of the values, heads side by side. -/
def OUT (a4 : FVec Ideal S4x8320x8x64 .f32) (p : FVec Ideal S4x8x8320x8320 .f32) : FVec Ideal S33280x512 .bf16 :=
  truncf .bf16 (shapeCast _ (transpose S4x8320x8x64 [0, 3, 1, 2] (Host.dotGeneral dot_S4x8320x8x64_S4x8x8320x8320_S4x8x64x8320_1_3_3_2_02_01 none a4 p) transposes_S4x8x64x8320_S4x8320x8x64_0_3_1_2) shapeCasts_S4x8320x8x64_S33280x512) bitsLt_bf16_f32

variable (a0 : FVec Ideal S4x8320x8x64 .f32) (a1 : FVec Ideal S4x8320x8x32 .f32) (a2 : FVec Ideal S4x8320x8x64 .f32) (a3 : FVec Ideal S4x8320x32 .f32)
  (a4 : FVec Ideal S4x8320x8x64 .f32) (x : FVec Ideal S4x8x8320x8320 .f32) (mx : FVec Ideal S4x8x8320 .f32)
  (b : Fin 4) (h : Fin 8) (q k : Fin 8320)

/-- The mask at a query and a key. -/
theorem MK_at : MK (ix2 q k) = if k.val ≤ q.val then 1#1 else 0#1 := by
  pointwise [MK]
  split
  · next hk => exact (cmpi_sle_ofNat_eq_one_iff (w := 32) (a := k.val) (b := q.val) (by omega) (by omega)).2 hk
  · next hk => exact (cmpi_sle_ofNat_eq_zero_iff (w := 32) (a := k.val) (b := q.val) (by omega) (by omega)).2 hk

/-- The first product at an index. -/
theorem D1_at : D1 a0 a2 (ix4 b h q k) = ∑ d : Fin 64, (show EReal from a0 (ix4 b q h d)) * a2 (ix4 b k h d) := by
  pointwise [D1]

/-- The second product at an index. -/
theorem D2_at : D2 a1 a3 (ix4 b k q h) = ∑ d : Fin 32, (show EReal from a3 (ix3 b k d)) * a1 (ix4 b q h d) := by
  pointwise [D2]

/-- An unmasked score at an index. -/
theorem SR_at (d2 : FVec Ideal S4x8320x8320x8 .f32) : SR x d2 (ix4 b h q k) = (x (ix4 b h q k) + d2 (ix4 b k q h)) * Ideal.div 1 (Ideal.sqrt (Ideal.ofBits .f32 0x42C00000#32)) := by
  pointwise [SR]

/-- A masked score at an index. -/
theorem SM0_at (mk : IVec S8320x8320 1) : SM0 mk x (ix4 b h q k) = if mk (ix2 q k) = 1#1 then (x (ix4 b h q k) : EReal) else ⊥ := by
  pointwise [SM0]
  rfl

/-- A score: both products times 1/√96, or minus infinity past the query. -/
theorem SC_at : SC a0 a1 a2 a3 (ix4 b h q k)
    = if k.val ≤ q.val then ((∑ d : Fin 64, (show EReal from a0 (ix4 b q h d)) * a2 (ix4 b k h d)) + ∑ d : Fin 32, (show EReal from a3 (ix3 b k d)) * a1 (ix4 b q h d))
        * Ideal.div 1 (Ideal.sqrt (Ideal.ofBits .f32 0x42C00000#32)) else (⊥ : EReal) := by
  unfold SC
  rw [SM0_at, MK_at, SR_at, D1_at, D2_at]
  by_cases hk : k.val ≤ q.val
  · rw [if_pos hk, if_pos hk, if_pos rfl]
  · rw [if_neg hk, if_neg hk, if_neg (by decide)]

/-- A maximum taken from minus infinity is a real when some element it runs over is and none is plus infinity. -/
theorem reduce_max_real {s t u : Shape} {axes : List (Fin s.rank)} (x : s.Idx → EReal) (init : u.Idx → EReal) (h : s.ReducesTo axes t)
    (hu : 0 < u.numel) (j : t.Idx) (hi : ∀ e, init e = ⊥) (i : s.Idx) (hj : h.drop i = j) (hx : x i ≠ ⊥) (hT : ∀ i, x i ≠ ⊤) :
    Host.reduce (max : EReal → EReal → EReal) x init h hu j ≠ ⊥ ∧ Host.reduce (max : EReal → EReal → EReal) x init h hu j ≠ ⊤ := by
  rw [Host.reduce_eq_fold]
  refine ⟨bot_lt_iff_ne_bot.1 ?_, lt_top_iff_ne_top.1 ?_⟩
  · rw [Finset.lt_fold_max]
    exact Or.inr ⟨i, Finset.mem_filter.2 ⟨Finset.mem_univ _, hj⟩, bot_lt_iff_ne_bot.2 hx⟩
  · rw [Finset.fold_max_lt]
    exact ⟨by rw [hi]; exact bot_lt_top, fun y _ => lt_top_iff_ne_top.2 (hT y)⟩

/-- The scores of query (b, h, q) are those over which its maximum runs. -/
theorem drop_at : reducesTo_S4x8x8320x8320_S4x8x8320_d3.drop (ix4 b h q k) = (ix3 b h q : S4x8x8320.Idx) := by
  funext a
  apply Fin.ext
  match a with
  | 0 => exact Shape.ReducesTo.drop_apply_val_of_eq reducesTo_S4x8x8320x8320_S4x8x8320_d3 (ix4 b h q k : S4x8x8320x8320.Idx) 0 0
  | 1 => exact Shape.ReducesTo.drop_apply_val_of_eq reducesTo_S4x8x8320x8320_S4x8x8320_d3 (ix4 b h q k : S4x8x8320x8320.Idx) 1 1
  | 2 => exact Shape.ReducesTo.drop_apply_val_of_eq reducesTo_S4x8x8320x8320_S4x8x8320_d3 (ix4 b h q k : S4x8x8320x8320.Idx) 2 2

/-- The maximum that starts from minus infinity a second time. -/
theorem MX_max (r : FVec Ideal S4x8x8320 .f32) (j : S4x8x8320.Idx) :
    (maximumf (broadcastInDim S4x8x8320 ![] bcast_S_S4x8x8320 (constant S_ .f32 0xFF800000#32)) r : FVec Ideal S4x8x8320 .f32) j = r j :=
  max_eq_right bot_le

/-- The greatest score is a real when one of them is and none is plus infinity. -/
theorem MX_real (hx : (x (ix4 b h q k) : EReal) ≠ ⊥) (hT : ∀ i, (x i : EReal) ≠ ⊤) :
    (MX x (ix3 b h q) : EReal) ≠ ⊥ ∧ (MX x (ix3 b h q) : EReal) ≠ ⊤ := by
  unfold MX
  rw [MX_max]
  exact reduce_max_real (s := S4x8x8320x8320) (t := S4x8x8320) x (constant (F := Ideal) S_ .f32 0xFF800000#32) reducesTo_S4x8x8320x8320_S4x8x8320_d3 h_S_ (ix3 b h q) (fun _ => rfl) (ix4 b h q k) (drop_at b h q k) hx hT

/-- A weight before its division, at an index. -/
theorem EX_at : EX x mx (ix4 b h q k) = Ideal.exp (x (ix4 b h q k) - mx (ix3 b h q)) := by
  pointwise [EX]

/-- The sum of a query's weights. -/
theorem SM_at : SM x (ix3 b h q) = ∑ k : Fin 8320, x (ix4 b h q k) := by
  pointwise [SM]

/-- A weight. -/
theorem PR_at : PR x mx (ix4 b h q k) = Ideal.div (x (ix4 b h q k)) (mx (ix3 b h q)) := by
  pointwise [PR]

/-- A result: the sum over all keys of value times weight. -/
theorem OUT_at (d : Fin 64) : OUT a4 x (ix2 ⟨8320 * b.val + q.val, by omega⟩ ⟨64 * h.val + d.val, by omega⟩)
    = ∑ k : Fin 8320, a4 (ix4 b k h d) * x (ix4 b h q k) := by
  pointwise [OUT]

variable (m : (ℓ : Loc nD τ sig) → Buf (Elt Ideal) ℓ) (c : Dev nD)

/-- The scores of the reference's own arguments. -/
def sc : FVec Ideal S4x8x8320x8320 .f32 :=
  SC (m ((c.tc : Thread nD τ).loc main_arg0)) (m ((c.tc : Thread nD τ).loc main_arg1)) (m ((c.tc : Thread nD τ).loc main_arg2)) (m ((c.tc : Thread nD τ).loc main_arg3))

/-- The reference's result, by its stages. -/
theorem res_eq : res_main_v30 m c = OUT (m ((c.tc : Thread nD τ).loc main_arg4)) (PR (EX (sc m c) (MX (sc m c))) (SM (EX (sc m c) (MX (sc m c))))) := rfl

/-- The reference's result at an index: the softmax of the scores times the values. -/
theorem res_at (d : Fin 64) : (show EReal from res_main_v30 m c (ix2 ⟨8320 * b.val + q.val, by omega⟩ ⟨64 * h.val + d.val, by omega⟩))
    = ∑ k : Fin 8320, (show EReal from m ((c.tc : Thread nD τ).loc main_arg4) (ix4 b k h d))
        * Ideal.div (Ideal.exp (sc m c (ix4 b h q k) - MX (sc m c) (ix3 b h q)))
            (∑ k' : Fin 8320, Ideal.exp (sc m c (ix4 b h q k') - MX (sc m c) (ix3 b h q))) := by
  refine (congrFun (res_eq m c) _).trans ((OUT_at _ _ b h q d).trans (Finset.sum_congr rfl fun k _ => ?_))
  refine congrArg₂ (fun a b : EReal => a * b) rfl ?_
  rw [PR_at, SM_at]
  simp only [EX_at]

end Cert.ReferenceIdeal.Mla

end
-- ==== Proof.Finite.lean ====
/-
  The precondition read back, every query and key a real number; and the constants of both programs as real numbers.
-/
module

public import proofs.«01_k».proof.Proof.Gen.Pre_finite
public import Idealize.ShloMosaic.Lib.ReduceAll
public import Idealize.ShloMosaic.Lib.Pointwise

@[expose] public section

noncomputable section

namespace Cert.Pre_finite.Mla

open Cert.Pre_finite Cert.Pre_finite.Gen
open Idealize.ShloMosaic

/-- An array whose every magnitude is below infinity holds real numbers. -/
theorem all_real {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32))) (constantI S_ 1 1#1) hr hu ix0 = 1#1)
    (i : s.Idx) : ∃ r : ℝ, (x i : EReal) = (r : EReal) := by
  have h1 : Ideal.cmp .olt (max (x i : EReal) (-(x i : EReal))) ⊤ = 1#1 := Host.reduce_andi_all _ _ _ _ _ h i
  have h2 : max (x i : EReal) (-(x i : EReal)) < ⊤ := by
    by_contra hn
    have : Ideal.cmp .olt (max (x i : EReal) (-(x i : EReal))) ⊤ = 0#1 := by
      show BitVec.ofBool (decide _) = _
      rw [decide_eq_false hn]; rfl
    rw [this] at h1
    exact absurd h1 (by decide)
  have h3 := max_lt_iff.1 h2
  refine ⟨(x i : EReal).toReal, (EReal.coe_toReal h3.1.ne ?_).symm⟩
  intro hb
  rw [hb] at h3
  exact absurd h3.2 (by simp)

/-- The precondition: all queries and keys are real. -/
theorem real_of_fn (a0 : FVec Ideal S4x8320x8x64 .f32) (a1 : FVec Ideal S4x8320x8x32 .f32) (a2 : FVec Ideal S4x8320x8x64 .f32)
    (a3 : FVec Ideal S4x8320x32 .f32) (a4 : FVec Ideal S4x8320x8x64 .f32) (h : fn (F := Ideal) a0 a1 a2 a3 a4 = fun _ => 1#1) :
    (∀ i, ∃ r : ℝ, (a0 i : EReal) = (r : EReal)) ∧ (∀ i, ∃ r : ℝ, (a1 i : EReal) = (r : EReal))
      ∧ (∀ i, ∃ r : ℝ, (a2 i : EReal) = (r : EReal)) ∧ (∀ i, ∃ r : ℝ, (a3 i : EReal) = (r : EReal)) := by
  have h := congrFun h ix0
  dsimp only [fn, fn_part1] at h
  have ⟨h012, h3⟩ := IntOp.andi_eq_one.1 h
  have ⟨h01, h2⟩ := IntOp.andi_eq_one.1 h012
  have ⟨h0, h1⟩ := IntOp.andi_eq_one.1 h01
  exact ⟨all_real a0 _ _ _ h0, all_real a1 _ _ _ h1, all_real a2 _ _ _ h2, all_real a3 _ _ _ h3⟩

/-- The constant under the root. -/
theorem c96 : Ideal.ofBits .f32 0x42C00000#32 = ((96 : ℝ) : EReal) := by
  simp [Ideal.ofBits, Ideal.ieee, -EReal.coe_mul]; norm_num

/-- The constant under the logarithm. -/
theorem c2 : Ideal.ofBits .f32 0x40000000#32 = ((2 : ℝ) : EReal) := by
  simp [Ideal.ofBits, Ideal.ieee, -EReal.coe_mul]; norm_num

/-- The constant that the running maximum starts from is some real number. -/
theorem cm : ∃ r : ℝ, Ideal.ofBits .f32 0xF149F2CA#32 = (r : EReal) := by
  refine ⟨(Ideal.ofBits .f32 0xF149F2CA#32).toReal, (EReal.coe_toReal ?_ ?_).symm⟩ <;>
  simp [Ideal.ofBits, Ideal.ieee, -EReal.coe_mul, -EReal.coe_neg]

end Cert.Pre_finite.Mla

end
-- ==== Proof.Value.lean ====
/-
  The kernel's result is the reference's: at each grid point the block written holds, entry by entry, the softmax of the
  query's scores times the values.
-/
module

public import proofs.«01_k».proof.Defs
public import proofs.«01_k».proof.Proof.KI.Blocks
public import proofs.«01_k».proof.Proof.Mean
public import proofs.«01_k».proof.Proof.Ref
public import proofs.«01_k».proof.Proof.Finite

@[expose] public section

set_option maxRecDepth 16384

noncomputable section

namespace Cert.KernelIdeal.Mla

open Cert.KernelIdeal Cert.KernelIdeal.Gen
open Idealize.ShloMosaic Idealize.ShloMosaic.TcCoe Idealize.SL.Sem
open Cert.Softmax (at13 Same)

/-- The score of a query and a key before the mask, as the reference takes it. -/
def raw (a0 : FVec Ideal S4x8320x8x64 .f32) (a1 : FVec Ideal S4x8320x8x32 .f32) (a2 : FVec Ideal S4x8320x8x64 .f32) (a3 : FVec Ideal S4x8320x32 .f32)
    (b : Fin 4) (h : Fin 8) (q k : Fin 8320) : EReal :=
  ((∑ d : Fin 64, (show EReal from a0 (ix4 b q h d)) * a2 (ix4 b k h d)) + ∑ d : Fin 32, (show EReal from a3 (ix3 b k d)) * a1 (ix4 b q h d))
    * Ideal.div 1 (Ideal.sqrt (Ideal.ofBits .f32 0x42C00000#32))

section
variable (m : (ℓ : Loc nD τ sig) → Buf (Elt Ideal) ℓ) (c : Dev nD) (t : Fin cfg0.N)

/-- The kernel's arguments hold real numbers, but for the values. -/
def Real4 : Prop :=
  (∀ i, ∃ r : ℝ, (show EReal from m ((c : Thread nD τ).loc main_arg0) i) = (r : EReal)) ∧ (∀ i, ∃ r : ℝ, (show EReal from m ((c : Thread nD τ).loc main_arg1) i) = (r : EReal))
  ∧ (∀ i, ∃ r : ℝ, (show EReal from m ((c : Thread nD τ).loc main_arg2) i) = (r : EReal)) ∧ (∀ i, ∃ r : ℝ, (show EReal from m ((c : Thread nD τ).loc main_arg3) i) = (r : EReal))

/-- The kernel's own products of a query and a key, before its mask. -/
def kraw (h : Fin 4) (q : Fin 640) (j : ℕ) (k : Fin 640) : EReal :=
  ∑ e : Fin 128, (show EReal from iblk m c 1 t (ix4 0 h ⟨640 * (j % 13) + k.val, by omega⟩ e)) * iblk m c 0 t (ix3 0 q ⟨128 * h.val + e.val, by omega⟩)

/-- They are the reference's in units of log 2. -/
theorem kraw_same (hf : Real4 m c) (h : Fin 4) (q : Fin 640) (j : ℕ) (k : Fin 640) (b : Fin 4) (h' : Fin 8) (Q : Fin 8320)
    (hb : b.val = (grid0.coords t 0).val) (hh : h'.val = 4 * (grid0.coords t 1).val + h.val) (hQ : Q.val = 640 * (grid0.coords t 2).val + q.val) :
    Same (raw (m ((c : Thread nD τ).loc main_arg0)) (m ((c : Thread nD τ).loc main_arg1)) (m ((c : Thread nD τ).loc main_arg2)) (m ((c : Thread nD τ).loc main_arg3)) b h' Q (at13 j k))
      (kraw m c t h q j k)
    ∧ ∃ r : ℝ, raw (m ((c : Thread nD τ).loc main_arg0)) (m ((c : Thread nD τ).loc main_arg1)) (m ((c : Thread nD τ).loc main_arg2)) (m ((c : Thread nD τ).loc main_arg3)) b h' Q (at13 j k) = (r : EReal) := by
  obtain ⟨f0, f1, f2, f3⟩ := hf
  have hp : (grid0.coords t 1).val < 2 := (bnd t).2.1
  have key := Softmax.same_score (fun d => (show EReal from m ((c : Thread nD τ).loc main_arg0) (ix4 b Q h' d))) (fun d => (show EReal from m ((c : Thread nD τ).loc main_arg2) (ix4 b (at13 j k) h' d)))
    (fun d => (show EReal from m ((c : Thread nD τ).loc main_arg1) (ix4 b Q h' d))) (fun d => (show EReal from m ((c : Thread nD τ).loc main_arg3) (ix3 b (at13 j k) d)))
    (fun d => f0 _) (fun d => f1 _) (fun d => f2 _) (fun d => f3 _) 96 (by norm_num)
  rw [← Pre_finite.Mla.c96, ← Pre_finite.Mla.c2] at key
  have e : kraw m c t h q j k = (∑ d : Fin 64, (show EReal from m ((c : Thread nD τ).loc main_arg2) (ix4 b (at13 j k) h' d)) * ((show EReal from m ((c : Thread nD τ).loc main_arg0) (ix4 b Q h' d)) * kap))
      + ((∑ d : Fin 32, (show EReal from m ((c : Thread nD τ).loc main_arg3) (ix3 b (at13 j k) d)) * ((show EReal from m ((c : Thread nD τ).loc main_arg1) (ix4 b Q h' d)) * kap)) + ∑ _d : Fin 32, (0 : EReal) * 0) := by
    unfold kraw
    rw [Softmax.sum_128]
    refine congrArg₂ (fun a b : EReal => a + b) ?_ (congrArg₂ (fun a b : EReal => a + b) ?_ ?_)
    · exact Finset.sum_congr rfl fun d _ => congrArg₂ (fun a b : EReal => a * b)
        ((k_blk m c t h _ _ b h' hb hh).trans (k_nope m c b h' _ d _ rfl))
        ((q_blk m c t q _ b Q ⟨128 * h'.val + d.val, by omega⟩ hb hQ (by show 128 * h'.val + d.val = 512 * (grid0.coords t 1).val + (128 * h.val + d.val); omega)).trans
          (q_nope m c b Q h' d _ rfl))
    · exact Finset.sum_congr rfl fun d _ => congrArg₂ (fun a b : EReal => a * b)
        ((k_blk m c t h _ _ b h' hb hh).trans (k_rope m c b h' _ d _ rfl))
        ((q_blk m c t q _ b Q ⟨128 * h'.val + 64 + d.val, by omega⟩ hb hQ (by show 128 * h'.val + 64 + d.val = 512 * (grid0.coords t 1).val + (128 * h.val + (64 + d.val)); omega)).trans
          (q_rope m c b Q h' d _ rfl))
    · exact Finset.sum_congr rfl fun d _ => congrArg₂ (fun a b : EReal => a * b)
        ((k_blk m c t h _ _ b h' hb hh).trans (k_zero m c b h' _ d _ rfl))
        ((q_blk m c t q _ b Q ⟨128 * h'.val + 96 + d.val, by omega⟩ hb hQ (by show 128 * h'.val + 96 + d.val = 512 * (grid0.coords t 1).val + (128 * h.val + (96 + d.val)); omega)).trans
          (q_zero m c b Q h' d _ rfl))
  rw [e]
  exact key

/-- A row of the result is below 33280. -/
theorem lt_r (b : Fin 4) (Q : Fin 8320) : 8320 * b.val + Q.val < 33280 := by omega
/-- A column of the result is below 512. -/
theorem lt_l (h : Fin 8) (d : Fin 64) : 64 * h.val + d.val < 512 := by omega

/-- No score of the reference is plus infinity. -/
theorem sc_ne_top (hf : Real4 m c) (m' : (ℓ : Loc ReferenceIdeal.nD ReferenceIdeal.τ ReferenceIdeal.sig) → Buf (Elt Ideal) ℓ)
    (g0 : m' ((c.tc : Thread ReferenceIdeal.nD ReferenceIdeal.τ).loc ReferenceIdeal.main_arg0) = m ((c : Thread nD τ).loc main_arg0))
    (g1 : m' ((c.tc : Thread ReferenceIdeal.nD ReferenceIdeal.τ).loc ReferenceIdeal.main_arg1) = m ((c : Thread nD τ).loc main_arg1))
    (g2 : m' ((c.tc : Thread ReferenceIdeal.nD ReferenceIdeal.τ).loc ReferenceIdeal.main_arg2) = m ((c : Thread nD τ).loc main_arg2))
    (g3 : m' ((c.tc : Thread ReferenceIdeal.nD ReferenceIdeal.τ).loc ReferenceIdeal.main_arg3) = m ((c : Thread nD τ).loc main_arg3))
    (b : Fin 4) (h : Fin 8) (Q K : Fin 8320) : (ReferenceIdeal.Mla.sc m' c (ix4 b h Q K) : EReal) ≠ ⊤ := by
  obtain ⟨f0, f1, f2, f3⟩ := hf
  obtain ⟨r, e⟩ := (Softmax.same_score (fun d => (show EReal from m ((c : Thread nD τ).loc main_arg0) (ix4 b Q h d))) (fun d => (show EReal from m ((c : Thread nD τ).loc main_arg2) (ix4 b K h d)))
    (fun d => (show EReal from m ((c : Thread nD τ).loc main_arg1) (ix4 b Q h d))) (fun d => (show EReal from m ((c : Thread nD τ).loc main_arg3) (ix3 b K d)))
    (fun d => f0 _) (fun d => f1 _) (fun d => f2 _) (fun d => f3 _) 96 (by norm_num)).2
  rw [← Pre_finite.Mla.c96] at e
  unfold ReferenceIdeal.Mla.sc
  rw [g0, g1, g2, g3, ReferenceIdeal.Mla.SC_at]
  split
  · exact e.trans_ne (EReal.coe_ne_top r)
  · exact bot_ne_top

/-- A block's entry is the reference's result at its place. -/
theorem out_val (hf : Real4 m c) (m' : (ℓ : Loc ReferenceIdeal.nD ReferenceIdeal.τ ReferenceIdeal.sig) → Buf (Elt Ideal) ℓ)
    (g0 : m' ((c.tc : Thread ReferenceIdeal.nD ReferenceIdeal.τ).loc ReferenceIdeal.main_arg0) = m ((c : Thread nD τ).loc main_arg0))
    (g1 : m' ((c.tc : Thread ReferenceIdeal.nD ReferenceIdeal.τ).loc ReferenceIdeal.main_arg1) = m ((c : Thread nD τ).loc main_arg1))
    (g2 : m' ((c.tc : Thread ReferenceIdeal.nD ReferenceIdeal.τ).loc ReferenceIdeal.main_arg2) = m ((c : Thread nD τ).loc main_arg2))
    (g3 : m' ((c.tc : Thread ReferenceIdeal.nD ReferenceIdeal.τ).loc ReferenceIdeal.main_arg3) = m ((c : Thread nD τ).loc main_arg3))
    (g4 : m' ((c.tc : Thread ReferenceIdeal.nD ReferenceIdeal.τ).loc ReferenceIdeal.main_arg4) = m ((c : Thread nD τ).loc main_arg4))
    (h : Fin 4) (q : Fin 640) (d : Fin 64) (r : Fin 33280) (l : Fin 512)
    (hr : r.val = ((grid0.coords t 0).val * 13 + (grid0.coords t 2).val) * 640 + q.val) (hl : l.val = (grid0.coords t 1).val * 256 + (64 * h.val + d.val)) :
    (show EReal from outVal (grid0.coords t) (iblk m c 0 t) (iblk m c 1 t) (iblk m c 2 t) (ix2 q ⟨64 * h.val + d.val, by omega⟩))
      = ReferenceIdeal.Value.res_main_v30 m' c (ix2 r l) := by
  obtain ⟨hb, hp, hi⟩ := bnd t
  obtain ⟨b, eb⟩ : ∃ b : Fin 4, b.val = (grid0.coords t 0).val := ⟨⟨_, hb⟩, rfl⟩
  obtain ⟨h', eh⟩ : ∃ h' : Fin 8, h'.val = 4 * (grid0.coords t 1).val + h.val := ⟨⟨_, by omega⟩, rfl⟩
  obtain ⟨Q, eQ⟩ : ∃ Q : Fin 8320, Q.val = 640 * (grid0.coords t 2).val + q.val := ⟨⟨_, by omega⟩, rfl⟩
  have er : r = ⟨8320 * b.val + Q.val, lt_r b Q⟩ := Fin.ext (by rw [hr]; show _ = 8320 * b.val + Q.val; omega)
  have el : l = ⟨64 * h'.val + d.val, lt_l h' d⟩ := Fin.ext (by rw [hl]; show _ = 64 * h'.val + d.val; omega)
  rw [er, el]
  -- no score is plus infinity
  have hT : ∀ i, (ReferenceIdeal.Mla.sc m' c i : EReal) ≠ ⊤ := by
    intro i
    obtain ⟨b, h, Q, K, rfl⟩ : ∃ (b : Fin 4) (h : Fin 8) (Q K : Fin 8320), i = ix4 b h Q K :=
      ⟨i 0, i 1, i 2, i 3, by funext a; match a with | 0 => rfl | 1 => rfl | 2 => rfl | 3 => rfl⟩
    exact sc_ne_top m c hf m' g0 g1 g2 g3 b h Q K
  -- the scores
  have hks := fun j k => kraw_same m c t hf h q j k b h' Q eb eh eQ
  have hsc : ∀ k : Fin 8320, (ReferenceIdeal.Mla.sc m' c (ix4 b h' Q k) : EReal) = if k.val ≤ Q.val then
      raw (m ((c : Thread nD τ).loc main_arg0)) (m ((c : Thread nD τ).loc main_arg1)) (m ((c : Thread nD τ).loc main_arg2)) (m ((c : Thread nD τ).loc main_arg3)) b h' Q k else ⊥ := by
    intro k
    unfold ReferenceIdeal.Mla.sc
    rw [g0, g1, g2, g3]
    exact ReferenceIdeal.Mla.SC_at _ _ _ _ b h' Q k
  generalize raw (m ((c : Thread nD τ).loc main_arg0)) (m ((c : Thread nD τ).loc main_arg1)) (m ((c : Thread nD τ).loc main_arg2)) (m ((c : Thread nD τ).loc main_arg3)) b h' Q = R at hks hsc
  have hR : ∀ K : Fin 8320, ∃ r : ℝ, R K = (r : EReal) := fun K => by
    have e : at13 (K.val / 640) ⟨K.val % 640, by omega⟩ = K := Fin.ext (by show 640 * (K.val / 640 % 13) + K.val % 640 = K.val; omega)
    rw [← e]; exact (hks _ _).2
  -- the greatest is real
  have hMX := ReferenceIdeal.Mla.MX_real (ReferenceIdeal.Mla.sc m' c) b h' Q Q
    (by obtain ⟨r, e⟩ := hR Q; rw [hsc, if_pos le_rfl, e]; exact EReal.coe_ne_bot r) hT
  obtain ⟨S, hS⟩ : ∃ S : ℝ, (ReferenceIdeal.Mla.MX (ReferenceIdeal.Mla.sc m' c) (ix3 b h' Q) : EReal) = (S : EReal) :=
    ⟨_, (EReal.coe_toReal hMX.2 hMX.1).symm⟩
  obtain ⟨M, hM⟩ := Pre_finite.Mla.cm
  refine Eq.trans ?_ (ReferenceIdeal.Mla.res_at b h' Q m' c d).symm
  rw [hS, g4]
  refine (out_at (grid0.coords t) (iblk m c 0 t) (iblk m c 1 t) (iblk m c 2 t) h q d).trans ?_
  have em : m0 = (M : EReal) := hM
  rw [em]
  refine Softmax.mean M (fun k => ReferenceIdeal.Mla.sc m' c (ix4 b h' Q k)) (fun k => (show EReal from m ((c : Thread nD τ).loc main_arg4) (ix4 b k h' d))) S
    (grid0.coords t 2).val hi Q (by omega) (fun j k => if j = (grid0.coords t 2).val ∧ ¬k.val ≤ q.val then ⊥ else R (at13 j k)) _ _ _ ?_ ?_ ?_ ?_ ?_ ?_
  · intro j k
    rw [key_at]
    show Same _ (kraw m c t h q j k + _)
    split
    · exact Or.inl ⟨rfl, EReal.add_bot _⟩
    · rw [add_zero]; exact (hks j k).1
  · intro j k hj
    show (if _ then _ else _) = (ReferenceIdeal.Mla.sc m' c (ix4 b h' Q (at13 j k)) : EReal)
    rw [hsc]
    have ev : (at13 j k).val = 640 * (j % 13) + k.val := rfl
    have hk := k.isLt
    by_cases hc : j = (grid0.coords t 2).val ∧ ¬k.val ≤ q.val
    · rw [if_pos hc, if_neg (by omega)]
    · rw [if_neg hc, if_pos (by omega)]
  · intro k hk
    show (ReferenceIdeal.Mla.sc m' c (ix4 b h' Q k) : EReal) = ⊥
    rw [hsc, if_neg (by omega)]
  · obtain ⟨r, e⟩ := hR Q
    exact ⟨r, by show (ReferenceIdeal.Mla.sc m' c (ix4 b h' Q Q) : EReal) = r; rw [hsc, if_pos le_rfl, e]⟩
  · intro j k
    rw [val_at]
    refine ((v_blk m c t h _ _ k b h' eb eh).trans (v_val m c b h' _ d k _ rfl)).trans ?_
    exact congrArg (fun K => (show EReal from m ((c : Thread nD τ).loc main_arg4) (ix4 b K h' d))) (Fin.ext (by show j % 13 * 640 + k.val = 640 * (j % 13) + k.val; omega))
  · intro j k
    rw [val_at]
    exact (v_blk m c t h _ _ k b h' eb eh).trans (v_one m c b h' _ k)

end

end Cert.KernelIdeal.Mla

namespace Cert.Proof

open Idealize.ShloMosaic Idealize.ShloMosaic.TcCoe Idealize.SL.Sem

/-- From equal arguments, queries and keys finite, the idealized kernel's result is the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => (KernelIdeal.Mla.dats m 0 c).arrAt 3 KernelIdeal.cfg0.N, KernelIdeal.Mla.run_blocks m g, ?_⟩
  refine (θ_run ReferenceIdeal.defs _ _).mono ?_ (ReferenceIdeal.Value.run m' g')
  intro r hr c
  refine ⟨(hr c).1.trans ?_, (hr c).2⟩
  refine (KernelIdeal.Mla.out_eq m c (ReferenceIdeal.Value.res_main_v30 m' c) ?_).symm
  intro t h q d r l hr hl
  exact KernelIdeal.Mla.out_val m c t (Pre_finite.Mla.real_of_fn _ _ _ _ _ (hpre c)) m' (hagree c).1 (hagree c).2.1 (hagree c).2.2.1 (hagree c).2.2.2.1 (hagree c).2.2.2.2
    h q d r l hr hl

end Cert.Proof

end
-- ==== Proof.Ffn.Row.lean ====
/-
  One row of the feed-forward block and of the gated merge over the reals: the gates, the residual sums and the layer norm.
-/
module

public import Idealize.ShloMosaic.Lib.Pointwise
public import Idealize.ShloMosaic.Lib.Pointwise.Sums

@[expose] public section

noncomputable section

namespace Cert.Row

open Idealize.ShloMosaic

/-- A gate's entry times its sigmoid times the entry that it gates. -/
def act (a u : EReal) : EReal := a * Ideal.div 1 (1 + Ideal.exp (-a)) * u

/-- An entry of the residual sum: the input and the block's output, each scaled. -/
def res (x s : EReal) : EReal := Ideal.ofBits .f32 0x3FB504F3#32 * x + Ideal.ofBits .f32 0x3F000000#32 * s

/-- A row's mean. -/
def avg (y : Fin 1024 → EReal) : EReal := Ideal.div (∑ k, y k) (Ideal.ofBits .f32 0x44800000#32)

/-- An entry of a row's layer norm. -/
def norm (y : Fin 1024 → EReal) (g b : EReal) (j : Fin 1024) : EReal :=
  (y j - avg y) * Ideal.rsqrt (Ideal.div (∑ k, (y k - avg y) * (y k - avg y)) (Ideal.ofBits .f32 0x44800000#32) + Ideal.ofBits .f32 0x3727C5AC#32) * g + b

/-- A sum over the hidden entries, in two halves. -/
theorem halves (f : Fin 2816 → EReal) :
    ∑ k, f k = (∑ k : Fin 1408, f ⟨k.val, by omega⟩) + ∑ k : Fin 1408, f ⟨1408 + k.val, by omega⟩ :=
  Fin.sum_univ_add (a := 1408) (b := 1408) f

/-- A sigmoid. -/
def sig (a : EReal) : EReal := Ideal.div 1 (1 + Ideal.exp (-a))

/-- An entry of the merge's residual sum: the scaled input `x`, and the output projection `w` of the branches `p` and `q`,
    each projected (by `a`, by `b`) and gated (by `s`, by `u`). -/
def merged (x : EReal) (s u : Fin 1024 → EReal) (p q : Fin 512 → EReal) (a b : Fin 512 → Fin 1024 → EReal) (w : Fin 1024 → EReal) : EReal :=
  Ideal.ofBits .f32 0x3FB504F3#32 * x + ∑ k : Fin 1024, (s k * ∑ l : Fin 512, p l * a l k + u k * ∑ l : Fin 512, q l * b l k) * w k

/-- It depends on the entries alone. -/
theorem merged_congr {x x' : EReal} {s s' u u' : Fin 1024 → EReal} {p p' q q' : Fin 512 → EReal} {a a' b b' : Fin 512 → Fin 1024 → EReal}
    {w w' : Fin 1024 → EReal} (hx : x = x') (hs : ∀ k, s k = s' k) (hu : ∀ k, u k = u' k) (hp : ∀ l, p l = p' l) (hq : ∀ l, q l = q' l)
    (ha : ∀ l k, a l k = a' l k) (hb : ∀ l k, b l k = b' l k) (hw : ∀ k, w k = w' k) : merged x s u p q a b w = merged x' s' u' p' q' a' b' w' := by
  obtain rfl := hx
  obtain rfl : s = s' := funext hs
  obtain rfl : u = u' := funext hu
  obtain rfl : p = p' := funext hp
  obtain rfl : q = q' := funext hq
  obtain rfl : a = a' := funext fun l => funext (ha l)
  obtain rfl : b = b' := funext fun l => funext (hb l)
  obtain rfl : w = w' := funext hw
  rfl

end Cert.Row

end
-- ==== Proof.Ffn.Point.lean ====
/-
  One grid point of the feed-forward kernel over the reals, read at an entry of its block.
-/
module

public import proofs.«01_k».proof.Proof.Gen.FfnIdeal.Value
public import proofs.«01_k».proof.Proof.Ffn.Row
public import Idealize.ShloMosaic.Lib.Pipeline.ValueKit

@[expose] public section

set_option maxRecDepth 16384

noncomputable section

namespace Cert.FfnIdeal.Pt

open Cert.FfnIdeal Cert.FfnIdeal.Gen
open Idealize.ShloMosaic Idealize.ShloMosaic.TcCoe Idealize.SL.Sem

/-- The residual sum at an entry. -/
theorem y_at (x : Vec Ideal S512x1024 .f32) (p1 p2 : Vec Ideal S1024x1408 .bf16) (q1 : Vec Ideal S1408x1024 .bf16)
    (p3 p4 : Vec Ideal S1024x1408 .bf16) (q2 : Vec Ideal S1408x1024 .bf16) (r : Fin 512) (j : Fin 1024) :
    (show EReal from k0_pay2 x p1 p2 q1 p3 p4 q2 (ix2 r j))
      = Row.res (x (ix2 r j))
          ((∑ k : Fin 1408, Row.act (∑ l : Fin 1024, (show EReal from x (ix2 r l)) * (show EReal from p1 (ix2 l k))) (∑ l : Fin 1024, (show EReal from x (ix2 r l)) * (show EReal from p2 (ix2 l k))) * (show EReal from q1 (ix2 k j)))
            + ∑ k : Fin 1408, Row.act (∑ l : Fin 1024, (show EReal from x (ix2 r l)) * (show EReal from p3 (ix2 l k))) (∑ l : Fin 1024, (show EReal from x (ix2 r l)) * (show EReal from p4 (ix2 l k))) * (show EReal from q2 (ix2 k j))) := by
  unfold Row.res Row.act
  pointwise [k0_pay2]
  rfl

/-- The layer norm of a block at an entry. -/
theorem norm_at (y : FVec Ideal S512x1024 .f32) (g b : Vec Ideal S1x1024 .f32) (r : Fin 512) (j : Fin 1024) :
    (show EReal from k0_pay1 y g b (ix2 r j)) = Row.norm (fun k => y (ix2 r k)) (g (ix2 0 j)) (b (ix2 0 j)) j := by
  unfold Row.norm Row.avg
  pointwise [k0_pay1]

/-- An entry of the residual sum from a point's blocks. -/
def yb (x0 : Vec Ideal S512x1024 .f32) (x1 : Vec Ideal S1024x5632 .bf16) (x2 : Vec Ideal S2816x1024 .bf16) (r : Fin 512) (n : Fin 1024) : EReal :=
  Row.res (x0 (ix2 r n)) (∑ k : Fin 2816, Row.act (∑ l : Fin 1024, (show EReal from x0 (ix2 r l)) * (show EReal from x1 (ix2 l ⟨k.val, by omega⟩)))
    (∑ l : Fin 1024, (show EReal from x0 (ix2 r l)) * (show EReal from x1 (ix2 l ⟨2816 + k.val, by omega⟩))) * (show EReal from x2 (ix2 k n)))

section
variable (x0 : Vec Ideal S512x1024 .f32) (x1 : Vec Ideal S1024x5632 .bf16) (x2 : Vec Ideal S2816x1024 .bf16)

/-- The input block is loaded whole. -/
theorem ld0 : View.ld x0 r0_0 = x0 := View.ld_unit_zero (by funext a; match a with | 0 => rfl | 1 => rfl) _ _
/-- A scale or shift is loaded whole. -/
theorem ld7 (x3 : Vec Ideal S1x1024 .f32) : View.ld x3 r0_7 = x3 := View.ld_unit_zero (by funext a; match a with | 0 => rfl | 1 => rfl) _ _
/-- The first half of the gates' weights. -/
theorem ld1 (l : Fin 1024) (k : Fin 1408) : View.ld x1 r0_1 (ix2 l k) = x1 (ix2 l ⟨k.val, by omega⟩) :=
  View.ld_unit_apply_of x1 _ _ _ _ _ fun a => match a with | 0 => (Nat.zero_add _).symm | 1 => (Nat.zero_add _).symm
/-- The first half of the gated entries' weights. -/
theorem ld2 (l : Fin 1024) (k : Fin 1408) : View.ld x1 r0_2 (ix2 l k) = x1 (ix2 l ⟨2816 + k.val, by omega⟩) :=
  View.ld_unit_apply_of x1 _ _ _ _ _ fun a => match a with | 0 => (Nat.zero_add _).symm | 1 => rfl
/-- The first half of the second product's weights. -/
theorem ld3 (k : Fin 1408) (n : Fin 1024) : View.ld x2 r0_3 (ix2 k n) = x2 (ix2 ⟨k.val, by omega⟩ n) :=
  View.ld_unit_apply_of x2 _ _ _ _ _ fun a => match a with | 0 => (Nat.zero_add _).symm | 1 => (Nat.zero_add _).symm
/-- The second half of the gates' weights. -/
theorem ld4 (l : Fin 1024) (k : Fin 1408) : View.ld x1 r0_4 (ix2 l k) = x1 (ix2 l ⟨1408 + k.val, by omega⟩) :=
  View.ld_unit_apply_of x1 _ _ _ _ _ fun a => match a with | 0 => (Nat.zero_add _).symm | 1 => rfl
/-- The second half of the gated entries' weights. -/
theorem ld5 (l : Fin 1024) (k : Fin 1408) : View.ld x1 r0_5 (ix2 l k) = x1 (ix2 l ⟨2816 + (1408 + k.val), by omega⟩) :=
  View.ld_unit_apply_of x1 _ _ _ _ _ fun a => match a with
    | 0 => (Nat.zero_add _).symm | 1 => by show 2816 + (1408 + k.val) = 4224 + k.val; omega
/-- The second half of the second product's weights. -/
theorem ld6 (k : Fin 1408) (n : Fin 1024) : View.ld x2 r0_6 (ix2 k n) = x2 (ix2 ⟨1408 + k.val, by omega⟩ n) :=
  View.ld_unit_apply_of x2 _ _ _ _ _ fun a => match a with | 0 => rfl | 1 => (Nat.zero_add _).symm

/-- The residual sum of a point, both halves of the hidden entries together. -/
theorem y_blk (r : Fin 512) (n : Fin 1024) :
    (show EReal from k0_pay2 (View.ld x0 r0_0) (View.ld x1 r0_1) (View.ld x1 r0_2) (View.ld x2 r0_3) (View.ld x1 r0_4) (View.ld x1 r0_5) (View.ld x2 r0_6) (ix2 r n))
      = yb x0 x1 x2 r n := by
  refine (y_at _ _ _ _ _ _ _ r n).trans ?_
  rw [ld0]
  refine congrArg (Row.res _) (Eq.trans ?_ (Row.halves _).symm)
  refine congrArg₂ (fun a b : EReal => a + b) (Finset.sum_congr rfl fun k _ => ?_) (Finset.sum_congr rfl fun k _ => ?_)
  · refine congrArg₂ (fun a b : EReal => a * b) (congrArg₂ Row.act ?_ ?_) (ld3 x2 k n)
    · exact Finset.sum_congr rfl fun l _ => congrArg₂ (fun a b : EReal => a * b) rfl (ld1 x1 l k)
    · exact Finset.sum_congr rfl fun l _ => congrArg₂ (fun a b : EReal => a * b) rfl (ld2 x1 l k)
  · refine congrArg₂ (fun a b : EReal => a * b) (congrArg₂ Row.act ?_ ?_) (ld6 x2 k n)
    · exact Finset.sum_congr rfl fun l _ => congrArg₂ (fun a b : EReal => a * b) rfl (ld4 x1 l k)
    · exact Finset.sum_congr rfl fun l _ => congrArg₂ (fun a b : EReal => a * b) rfl (ld5 x1 l k)

/-- What a point stores at an entry of its block. -/
theorem out_at (x3 x4 : Vec Ideal S1x1024 .f32) (r : Fin 512) (j : Fin 1024) :
    (show EReal from out0_5 x0 x1 x2 x3 x4 (ix2 r j)) = Row.norm (yb x0 x1 x2 r) (x3 (ix2 0 j)) (x4 (ix2 0 j)) j := by
  unfold out0_5
  rw [ld7, ld7]
  have hz : ∀ a : Fin S512x1024.rank, (![0, 0] : Fin 2 → Nat) a = 0 := fun a => match a with | 0 => rfl | 1 => rfl
  refine (congrFun (View.canon_cons_unit_lit inb_S512x1024_S512x1024_0_0 _ [] hz) _).trans ?_
  refine (norm_at _ x3 x4 r j).trans ?_
  exact congrArg (fun f => Row.norm f (x3 (ix2 0 j)) (x4 (ix2 0 j)) j) (funext fun n => y_blk x0 x1 x2 r n)

end

end Cert.FfnIdeal.Pt

end
-- ==== Proof.Ffn.Ref.lean ====
/-
  The feed-forward block's reference over the reals, read at an index: the hidden entries, the residual sum, the layer norm.
-/
module

public import proofs.«01_k».proof.Proof.Gen.FfnReferenceIdeal.Run
public import proofs.«01_k».proof.Proof.Ffn.Row

@[expose] public section

set_option maxRecDepth 16384

noncomputable section

namespace Cert.FfnReferenceIdeal.Rf

open Cert.FfnReferenceIdeal Cert.FfnReferenceIdeal.Gen Cert.FfnReferenceIdeal.Value
open Idealize.ShloMosaic Idealize.ShloMosaic.TcCoe Idealize.SL.Sem

/-- The first product: gates and the entries they gate, side by side. -/
def H (x : FVec Ideal S33280x1024 .f32) (w : FVec Ideal S1024x5632 .f32) : FVec Ideal S33280x5632 .f32 :=
  Host.dotGeneral dot_S33280x1024_S1024x5632_S33280x5632_1_0_0_1_n_n none x w

/-- The gated hidden entries. -/
def A (h : FVec Ideal S33280x5632 .f32) : FVec Ideal S33280x2816 .f32 :=
  mulf (mulf (extractStridedSlice S33280x2816 ![0, 0] h slices_S33280x5632_S33280x2816_0_0) (Host.divf (broadcastInDim S33280x2816 ![] bcast_S_S33280x2816 (constant S_ .f32 0x3F800000#32)) (addf (broadcastInDim S33280x2816 ![] bcast_S_S33280x2816 (constant S_ .f32 0x3F800000#32)) (Host.exp (Host.negf (extractStridedSlice S33280x2816 ![0, 0] h slices_S33280x5632_S33280x2816_0_0)))))) (extractStridedSlice S33280x2816 ![0, 2816] h slices_S33280x5632_S33280x2816_0_2816)

/-- The second product. -/
def D (a : FVec Ideal S33280x2816 .f32) (w : FVec Ideal S2816x1024 .f32) : FVec Ideal S33280x1024 .f32 :=
  Host.dotGeneral dot_S33280x2816_S2816x1024_S33280x1024_1_0_0_1_n_n none a w

/-- The residual sum. -/
def Y (x d : FVec Ideal S33280x1024 .f32) : FVec Ideal S33280x1024 .f32 :=
  addf (mulf (broadcastInDim S33280x1024 ![] bcast_S_S33280x1024 (constant S_ .f32 0x3FB504F3#32)) x) (mulf (broadcastInDim S33280x1024 ![] bcast_S_S33280x1024 (constant S_ .f32 0x3F000000#32)) d)

/-- Each row less its mean. -/
def Z (y : FVec Ideal S33280x1024 .f32) : FVec Ideal S33280x1024 .f32 :=
  subf y (broadcastInDim S33280x1024 ![0, 1] bcast_S33280x1_S33280x1024_0_1 (Host.divf (broadcastInDim S33280x1 ![0] bcast_S33280_S33280x1_0 (Host.reduceAdd y (constant S_ .f32 0x00000000#32) reducesTo_S33280x1024_S33280_d1 h_S_)) (broadcastInDim S33280x1 ![] bcast_S_S33280x1 (constant S_ .f32 0x44800000#32))))

/-- Each row's layer norm, from the rows less their means. -/
def N (z : FVec Ideal S33280x1024 .f32) (g b : FVec Ideal S1024 .f32) : FVec Ideal S33280x1024 .f32 :=
  addf (mulf (mulf z (broadcastInDim S33280x1024 ![0, 1] bcast_S33280x1_S33280x1024_0_1 (Host.rsqrt (addf (Host.divf (broadcastInDim S33280x1 ![0] bcast_S33280_S33280x1_0 (Host.reduceAdd (mulf z z) (constant S_ .f32 0x00000000#32) reducesTo_S33280x1024_S33280_d1 h_S_)) (broadcastInDim S33280x1 ![] bcast_S_S33280x1 (constant S_ .f32 0x44800000#32))) (broadcastInDim S33280x1 ![] bcast_S_S33280x1 (constant S_ .f32 0x3727C5AC#32)))))) (broadcastInDim S33280x1024 ![0, 1] bcast_S1x1024_S33280x1024_0_1 (broadcastInDim S1x1024 ![1] bcast_S1024_S1x1024_1 g))) (broadcastInDim S33280x1024 ![0, 1] bcast_S1x1024_S33280x1024_0_1 (broadcastInDim S1x1024 ![1] bcast_S1024_S1x1024_1 b))

/-- The first product at an entry. -/
theorem H_at (x : FVec Ideal S33280x1024 .f32) (w : FVec Ideal S1024x5632 .f32) (r : Fin 33280) (k : Fin 5632) :
    (H x w (ix2 r k) : EReal) = ∑ l : Fin 1024, (show EReal from x (ix2 r l)) * (show EReal from w (ix2 l k)) := by
  pointwise [H]

/-- A gated hidden entry. -/
theorem A_at (h : FVec Ideal S33280x5632 .f32) (r : Fin 33280) (k : Fin 2816) :
    (A h (ix2 r k) : EReal) = Row.act (h (ix2 r ⟨k.val, by omega⟩)) (h (ix2 r ⟨2816 + k.val, by omega⟩)) := by
  unfold Row.act
  pointwise [A]

/-- The second product at an entry. -/
theorem D_at (a : FVec Ideal S33280x2816 .f32) (w : FVec Ideal S2816x1024 .f32) (r : Fin 33280) (j : Fin 1024) :
    (D a w (ix2 r j) : EReal) = ∑ k : Fin 2816, (show EReal from a (ix2 r k)) * (show EReal from w (ix2 k j)) := by
  pointwise [D]

/-- The residual sum at an entry. -/
theorem Y_at (x d : FVec Ideal S33280x1024 .f32) (r : Fin 33280) (j : Fin 1024) :
    (Y x d (ix2 r j) : EReal) = Row.res (x (ix2 r j)) (d (ix2 r j)) := by
  unfold Row.res
  pointwise [Y]

/-- An entry less its row's mean. -/
theorem Z_at (y : FVec Ideal S33280x1024 .f32) (r : Fin 33280) (j : Fin 1024) :
    (Z y (ix2 r j) : EReal) = (show EReal from y (ix2 r j)) - Row.avg (fun k => y (ix2 r k)) := by
  unfold Row.avg
  pointwise [Z]

/-- The layer norm at an entry. -/
theorem N_at (z : FVec Ideal S33280x1024 .f32) (g b : FVec Ideal S1024 .f32) (r : Fin 33280) (j : Fin 1024) :
    (N z g b (ix2 r j) : EReal) = (show EReal from z (ix2 r j)) * Ideal.rsqrt (Ideal.div (∑ k : Fin 1024, (show EReal from z (ix2 r k)) * (show EReal from z (ix2 r k))) (Ideal.ofBits .f32 0x44800000#32) + Ideal.ofBits .f32 0x3727C5AC#32)
      * (show EReal from g (ix1 j)) + (show EReal from b (ix1 j)) := by
  pointwise [N]

/-- The reference's result, by its stages. -/
theorem res_eq (m : (ℓ : Loc nD τ sig) → Buf (Elt Ideal) ℓ) (c : Dev nD) : res_main_v34 m c
    = N (Z (Y (m ((c.tc : Thread nD τ).loc main_arg0)) (D (A (H (m ((c.tc : Thread nD τ).loc main_arg0)) (m ((c.tc : Thread nD τ).loc main_arg1)))) (m ((c.tc : Thread nD τ).loc main_arg2)))))
      (m ((c.tc : Thread nD τ).loc main_arg3)) (m ((c.tc : Thread nD τ).loc main_arg4)) := rfl

/-- The residual sum's entries, from the input and the weights. -/
def y (x : FVec Ideal S33280x1024 .f32) (w : FVec Ideal S1024x5632 .f32) (v : FVec Ideal S2816x1024 .f32) (r : Fin 33280) (j : Fin 1024) : EReal :=
  Row.res (x (ix2 r j)) (∑ k : Fin 2816, Row.act (∑ l : Fin 1024, (show EReal from x (ix2 r l)) * (show EReal from w (ix2 l ⟨k.val, by omega⟩)))
    (∑ l : Fin 1024, (show EReal from x (ix2 r l)) * (show EReal from w (ix2 l ⟨2816 + k.val, by omega⟩))) * (show EReal from v (ix2 k j)))

/-- The residual sum of the reference. -/
theorem y_at (x : FVec Ideal S33280x1024 .f32) (w : FVec Ideal S1024x5632 .f32) (v : FVec Ideal S2816x1024 .f32) (r : Fin 33280) (j : Fin 1024) :
    (Y x (D (A (H x w)) v) (ix2 r j) : EReal) = y x w v r j := by
  rw [Y_at, D_at]
  refine congrArg (Row.res _) (Finset.sum_congr rfl fun k _ => congrArg₂ (fun a b : EReal => a * b) ?_ rfl)
  rw [A_at, H_at, H_at]

/-- The reference's result at an entry: the layer norm of its row. -/
theorem res_at (m : (ℓ : Loc nD τ sig) → Buf (Elt Ideal) ℓ) (c : Dev nD) (r : Fin 33280) (j : Fin 1024) :
    (show EReal from res_main_v34 m c (ix2 r j)) = Row.norm (y (m ((c.tc : Thread nD τ).loc main_arg0)) (m ((c.tc : Thread nD τ).loc main_arg1)) (m ((c.tc : Thread nD τ).loc main_arg2)) r)
      (m ((c.tc : Thread nD τ).loc main_arg3) (ix1 j)) (m ((c.tc : Thread nD τ).loc main_arg4) (ix1 j)) j := by
  refine (congrFun (res_eq m c) _).trans ((N_at _ _ _ r j).trans ?_)
  unfold Row.norm
  simp only [Z_at, y_at]

end Cert.FfnReferenceIdeal.Rf

end
-- ==== Proof.Ffn.Value.lean ====
/-
  The feed-forward kernel's result array over the reals is the reference's: each row block is read from the input, the
  weights are read whole, and the row's layer norm is the same.
-/
module

public import proofs.«01_k».proof.Defs
public import proofs.«01_k».proof.Proof.Ffn.Point
public import proofs.«01_k».proof.Proof.Ffn.Ref
public import Idealize.ShloMosaic.Lib.StableHlo.ReadAt

@[expose] public section

set_option maxRecDepth 16384

noncomputable section

namespace Cert.FfnIdeal.Pt

open Cert.FfnIdeal Cert.FfnIdeal.Gen
open Idealize.ShloMosaic Idealize.ShloMosaic.TcCoe Idealize.SL.Sem Idealize.ShloMosaic.Pipeline

/-- Where each window's block lies, by the point. -/
theorem e0 : ∀ t : Fin cfg0.N, win0_0.index t = ![t.val, 0] := (by decide +kernel : ∀ t : Fin grid0.N, _)
/-- The same of the first weights. -/
theorem e1 : ∀ t : Fin cfg0.N, win0_1.index t = ![0, 0] := (by decide +kernel : ∀ t : Fin grid0.N, _)
/-- The same of the second weights. -/
theorem e2 : ∀ t : Fin cfg0.N, win0_2.index t = ![0, 0] := (by decide +kernel : ∀ t : Fin grid0.N, _)
/-- The same of the scales. -/
theorem e3 : ∀ t : Fin cfg0.N, win0_3.index t = ![0, 0] := (by decide +kernel : ∀ t : Fin grid0.N, _)
/-- The same of the shifts. -/
theorem e4 : ∀ t : Fin cfg0.N, win0_4.index t = ![0, 0] := (by decide +kernel : ∀ t : Fin grid0.N, _)
/-- The same of the result. -/
theorem e5 : ∀ t : Fin cfg0.N, win0_5.index t = ![t.val, 0] := (by decide +kernel : ∀ t : Fin grid0.N, _)
/-- There are 65 points. -/
theorem bnd (t : Fin cfg0.N) : t.val < 65 := lt_of_lt_of_eq t.isLt (by decide +kernel)

variable (m : (ℓ : Loc nD τ sig) → Buf (Elt Ideal) ℓ) (c : Dev nD) (t : Fin cfg0.N)

/-- A read through the input's block, at an index. -/
theorem read0 (X : Buf (Elt Ideal) ((c : Thread nD τ).loc main_arg0)) (y : S512x1024.Idx) :
    (win0_0.blk t).view.read (Elt Ideal) X y = X ((win0_0.blk t).view.emb y) := by rfl
/-- A read through the first weights' block. -/
theorem read1 (X : Buf (Elt Ideal) ((c : Thread nD τ).loc main_v0)) (y : S1024x5632.Idx) :
    (win0_1.blk t).view.read (Elt Ideal) X y = X ((win0_1.blk t).view.emb y) := by rfl
/-- A read through the second weights' block. -/
theorem read2 (X : Buf (Elt Ideal) ((c : Thread nD τ).loc main_v1)) (y : S2816x1024.Idx) :
    (win0_2.blk t).view.read (Elt Ideal) X y = X ((win0_2.blk t).view.emb y) := by rfl
/-- A read through the scales' block. -/
theorem read3 (X : Buf (Elt Ideal) ((c : Thread nD τ).loc main_v2)) (y : S1x1024.Idx) :
    (win0_3.blk t).view.read (Elt Ideal) X y = X ((win0_3.blk t).view.emb y) := by rfl
/-- A read through the shifts' block. -/
theorem read4 (X : Buf (Elt Ideal) ((c : Thread nD τ).loc main_v3)) (y : S1x1024.Idx) :
    (win0_4.blk t).view.read (Elt Ideal) X y = X ((win0_4.blk t).view.emb y) := by rfl

/-- The input's block is read from the input. -/
theorem iblk0 : iblk m c 0 t = (win0_0.blk t).view.read (Elt Ideal) (V m c main_arg0) := by unfold iblk; rfl
/-- The first weights' block. -/
theorem iblk1 : iblk m c 1 t = (win0_1.blk t).view.read (Elt Ideal) (V m c main_v0) := by unfold iblk; rfl
/-- The second weights' block. -/
theorem iblk2 : iblk m c 2 t = (win0_2.blk t).view.read (Elt Ideal) (V m c main_v1) := by unfold iblk; rfl
/-- The scales' block. -/
theorem iblk3 : iblk m c 3 t = (win0_3.blk t).view.read (Elt Ideal) (V m c main_v2) := by unfold iblk; rfl
/-- The shifts' block. -/
theorem iblk4 : iblk m c 4 t = (win0_4.blk t).view.read (Elt Ideal) (V m c main_v3) := by unfold iblk; rfl

/-- Where an entry of the input's block lies. -/
theorem emb0 (r : Fin 512) (l : Fin 1024) (R : Fin 33280) (hR : R.val = 512 * t.val + r.val) :
    (win0_0.blk t).view.emb (ix2 r l : S512x1024.Idx) = (ix2 R l : S33280x1024.Idx) := by
  funext a
  refine Fin.ext ((ValueKit.view_emb_slice_whole_unit_val main_arg0 _ _ _ (ix2 r l) a).trans ?_)
  show win0_0.index t a * win0_0.size a + ↑((ix2 r l : S512x1024.Idx) a) = ↑((ix2 R l : S33280x1024.Idx) a)
  rw [e0]
  match a with
  | 0 => show t.val * 512 + r.val = R.val; omega
  | 1 => show 0 * 1024 + l.val = l.val; omega
/-- Where an entry of the result's block lies. -/
theorem emb5 (r : Fin 512) (l : Fin 1024) (R : Fin 33280) (hR : R.val = 512 * t.val + r.val) :
    (win0_5.blk t).view.emb (ix2 r l : S512x1024.Idx) = (ix2 R l : S33280x1024.Idx) := by
  funext a
  refine Fin.ext ((ValueKit.view_emb_slice_whole_unit_val main_v4 _ _ _ (ix2 r l) a).trans ?_)
  show win0_5.index t a * win0_5.size a + ↑((ix2 r l : S512x1024.Idx) a) = ↑((ix2 R l : S33280x1024.Idx) a)
  rw [e5]
  match a with
  | 0 => show t.val * 512 + r.val = R.val; omega
  | 1 => show 0 * 1024 + l.val = l.val; omega
/-- The first weights are staged whole. -/
theorem emb1 (l : Fin 1024) (k : Fin 5632) : (win0_1.blk t).view.emb (ix2 l k : S1024x5632.Idx) = (ix2 l k : S1024x5632.Idx) := by
  funext a
  refine Fin.ext ((ValueKit.view_emb_slice_whole_unit_val main_v0 _ _ _ (ix2 l k) a).trans ?_)
  show win0_1.index t a * win0_1.size a + ↑((ix2 l k : S1024x5632.Idx) a) = ↑((ix2 l k : S1024x5632.Idx) a)
  rw [e1]
  match a with
  | 0 => show 0 * 1024 + l.val = l.val; omega
  | 1 => show 0 * 5632 + k.val = k.val; omega
/-- So are the second weights. -/
theorem emb2 (k : Fin 2816) (n : Fin 1024) : (win0_2.blk t).view.emb (ix2 k n : S2816x1024.Idx) = (ix2 k n : S2816x1024.Idx) := by
  funext a
  refine Fin.ext ((ValueKit.view_emb_slice_whole_unit_val main_v1 _ _ _ (ix2 k n) a).trans ?_)
  show win0_2.index t a * win0_2.size a + ↑((ix2 k n : S2816x1024.Idx) a) = ↑((ix2 k n : S2816x1024.Idx) a)
  rw [e2]
  match a with
  | 0 => show 0 * 2816 + k.val = k.val; omega
  | 1 => show 0 * 1024 + n.val = n.val; omega
/-- So are the scales. -/
theorem emb3 (j : Fin 1024) : (win0_3.blk t).view.emb (ix2 0 j : S1x1024.Idx) = (ix2 0 j : S1x1024.Idx) := by
  funext a
  refine Fin.ext ((ValueKit.view_emb_slice_whole_unit_val main_v2 _ _ _ (ix2 0 j) a).trans ?_)
  show win0_3.index t a * win0_3.size a + ↑((ix2 0 j : S1x1024.Idx) a) = ↑((ix2 0 j : S1x1024.Idx) a)
  rw [e3]
  match a with
  | 0 => show 0 * 1 + 0 = 0; omega
  | 1 => show 0 * 1024 + j.val = j.val; omega
/-- So are the shifts. -/
theorem emb4 (j : Fin 1024) : (win0_4.blk t).view.emb (ix2 0 j : S1x1024.Idx) = (ix2 0 j : S1x1024.Idx) := by
  funext a
  refine Fin.ext ((ValueKit.view_emb_slice_whole_unit_val main_v3 _ _ _ (ix2 0 j) a).trans ?_)
  show win0_4.index t a * win0_4.size a + ↑((ix2 0 j : S1x1024.Idx) a) = ↑((ix2 0 j : S1x1024.Idx) a)
  rw [e4]
  match a with
  | 0 => show 0 * 1 + 0 = 0; omega
  | 1 => show 0 * 1024 + j.val = j.val; omega

/-- The first weights as the region finds them. -/
theorem v0_at (l : Fin 1024) (k : Fin 5632) : V m c main_v0 (ix2 l k) = (show EReal from m ((c : Thread nD τ).loc main_arg1) (ix2 l k)) := by
  unfold V
  after_reads_at
/-- The second weights as the region finds them. -/
theorem v1_at (k : Fin 2816) (n : Fin 1024) : V m c main_v1 (ix2 k n) = (show EReal from m ((c : Thread nD τ).loc main_arg2) (ix2 k n)) := by
  unfold V
  after_reads_at
/-- The scales as the region finds them. -/
theorem v2_at (j : Fin 1024) : V m c main_v2 (ix2 0 j) = (show EReal from m ((c : Thread nD τ).loc main_arg3) (ix1 j)) := by
  unfold V
  after_reads_at
/-- The shifts as the region finds them. -/
theorem v3_at (j : Fin 1024) : V m c main_v3 (ix2 0 j) = (show EReal from m ((c : Thread nD τ).loc main_arg4) (ix1 j)) := by
  unfold V
  after_reads_at

/-- The input's block at an entry. -/
theorem b0 (r : Fin 512) (l : Fin 1024) (R : Fin 33280) (hR : R.val = 512 * t.val + r.val) :
    (show EReal from iblk m c 0 t (ix2 r l)) = (show EReal from m ((c : Thread nD τ).loc main_arg0) (ix2 R l)) := by
  rw [iblk0]
  exact ((read0 c t _ _).trans (congrArg (V m c main_arg0) (emb0 t r l R hR))).trans (congrFun (V_main_arg0 m c) _)
/-- The first weights' block at an entry. -/
theorem b1 (l : Fin 1024) (k : Fin 5632) : (show EReal from iblk m c 1 t (ix2 l k)) = (show EReal from m ((c : Thread nD τ).loc main_arg1) (ix2 l k)) := by
  rw [iblk1]
  exact ((read1 c t _ _).trans (congrArg (V m c main_v0) (emb1 t l k))).trans (v0_at m c l k)
/-- The second weights' block at an entry. -/
theorem b2 (k : Fin 2816) (n : Fin 1024) : (show EReal from iblk m c 2 t (ix2 k n)) = (show EReal from m ((c : Thread nD τ).loc main_arg2) (ix2 k n)) := by
  rw [iblk2]
  exact ((read2 c t _ _).trans (congrArg (V m c main_v1) (emb2 t k n))).trans (v1_at m c k n)
/-- The scales' block at an entry. -/
theorem b3 (j : Fin 1024) : (show EReal from iblk m c 3 t (ix2 0 j)) = (show EReal from m ((c : Thread nD τ).loc main_arg3) (ix1 j)) := by
  rw [iblk3]
  exact ((read3 c t _ _).trans (congrArg (V m c main_v2) (emb3 t j))).trans (v2_at m c j)
/-- The shifts' block at an entry. -/
theorem b4 (j : Fin 1024) : (show EReal from iblk m c 4 t (ix2 0 j)) = (show EReal from m ((c : Thread nD τ).loc main_arg4) (ix1 j)) := by
  rw [iblk4]
  exact ((read4 c t _ _).trans (congrArg (V m c main_v3) (emb4 t j))).trans (v3_at m c j)

/-- A residual sum's entry of a point is the reference's at its row. -/
theorem yb_eq (r : Fin 512) (n : Fin 1024) (R : Fin 33280) (hR : R.val = 512 * t.val + r.val) :
    yb (iblk m c 0 t) (iblk m c 1 t) (iblk m c 2 t) r n
      = FfnReferenceIdeal.Rf.y (m ((c : Thread nD τ).loc main_arg0)) (m ((c : Thread nD τ).loc main_arg1)) (m ((c : Thread nD τ).loc main_arg2)) R n := by
  unfold yb FfnReferenceIdeal.Rf.y
  refine congrArg₂ Row.res (b0 m c t r n R hR) (Finset.sum_congr rfl fun k _ => congrArg₂ (fun a b : EReal => a * b) (congrArg₂ Row.act ?_ ?_) (b2 m c t k n))
  · exact Finset.sum_congr rfl fun l _ => congrArg₂ (fun a b : EReal => a * b) (b0 m c t r l R hR) (b1 m c t l _)
  · exact Finset.sum_congr rfl fun l _ => congrArg₂ (fun a b : EReal => a * b) (b0 m c t r l R hR) (b1 m c t l _)

/-- What a point stores, from the arguments. -/
theorem point_at (r : Fin 512) (j : Fin 1024) (R : Fin 33280) (hR : R.val = 512 * t.val + r.val) :
    (show EReal from out0_5 (iblk m c 0 t) (iblk m c 1 t) (iblk m c 2 t) (iblk m c 3 t) (iblk m c 4 t) (ix2 r j))
      = Row.norm (FfnReferenceIdeal.Rf.y (m ((c : Thread nD τ).loc main_arg0)) (m ((c : Thread nD τ).loc main_arg1)) (m ((c : Thread nD τ).loc main_arg2)) R)
          (m ((c : Thread nD τ).loc main_arg3) (ix1 j)) (m ((c : Thread nD τ).loc main_arg4) (ix1 j)) j := by
  refine (out_at _ _ _ _ _ r j).trans ?_
  rw [show yb (iblk m c 0 t) (iblk m c 1 t) (iblk m c 2 t) r = _ from funext fun n => yb_eq m c t r n R hR]
  exact congrArg₂ (fun g b : EReal => Row.norm _ g b j) (b3 m c t j) (b4 m c t j)

/-- The result array, from what each point's block holds at its entries. -/
theorem out_eq (G : Buf (Elt Ideal) ((c.tc : Thread nD τ).loc main_v4))
    (hG : ∀ (t : Fin cfg0.N) (r : Fin 512) (j : Fin 1024) (R : Fin 33280), R.val = 512 * t.val + r.val →
      out0_5 (iblk m c 0 t) (iblk m c 1 t) (iblk m c 2 t) (iblk m c 3 t) (iblk m c 4 t) (ix2 r j) = G (ix2 R j)) :
    (dats m 0 c).arrAt 5 cfg0.N = G := by
  refine (dats m 0 c).arrAt_eq_of_covers 5 G (by decide +kernel) fun t hf y => ?_
  blk_simp
  rw [after0_5]
  have ht := bnd t
  obtain ⟨r, j, rfl⟩ : ∃ (r : Fin 512) (j : Fin 1024), y = (ix2 r j : S512x1024.Idx) := ⟨y 0, y 1, by funext a; match a with | 0 => rfl | 1 => rfl⟩
  exact (hG t r j ⟨512 * t.val + r.val, by omega⟩ rfl).trans (congrArg G (emb5 t r j _ rfl).symm)

end Cert.FfnIdeal.Pt

namespace Cert.Proof

open Idealize.ShloMosaic Idealize.ShloMosaic.TcCoe Idealize.SL.Sem

/-- From equal arguments, the idealized feed-forward kernel's result is the reference's. -/
theorem algebraic_ffn : Cert.algebraic_FfnIdeal_FfnReferenceIdeal (hFfnIdeal := Cert.FfnIdeal.Gen.facts)
    (hFfnReferenceIdeal := Cert.FfnReferenceIdeal.Gen.facts) := by
  intro m g m' g' _ hagree
  refine ⟨fun c => (FfnIdeal.Gen.dats m 0 c).arrAt 5 FfnIdeal.cfg0.N, FfnIdeal.Value.run_blocks m g, ?_⟩
  refine (θ_run FfnReferenceIdeal.defs _ _).mono ?_ (FfnReferenceIdeal.Value.run m' g')
  intro r hr c
  refine ⟨(hr c).1.trans ?_, (hr c).2⟩
  refine (FfnIdeal.Pt.out_eq m c (FfnReferenceIdeal.Value.res_main_v34 m' c) ?_).symm
  intro t q j R hR
  refine (FfnIdeal.Pt.point_at m c t q j R hR).trans ((FfnReferenceIdeal.Rf.res_at m' c R j).trans ?_).symm
  rw [(hagree c).1, (hagree c).2.1, (hagree c).2.2.1, (hagree c).2.2.2.1, (hagree c).2.2.2.2]

end Cert.Proof

end
-- ==== Proof.Merge.Point.lean ====
/-
  One grid point of the merge kernel over the reals, read at an entry of its block.
-/
module

public import proofs.«01_k».proof.Proof.Gen.MergeIdeal.Value
public import proofs.«01_k».proof.Proof.Ffn.Row
public import Idealize.ShloMosaic.Lib.Pipeline.ValueKit

@[expose] public section

set_option maxRecDepth 16384

noncomputable section

namespace Cert.MergeIdeal.Pt

open Cert.MergeIdeal Cert.MergeIdeal.Gen
open Idealize.ShloMosaic Idealize.ShloMosaic.TcCoe Idealize.SL.Sem

section
variable (x0 : Vec Ideal S512x1024 .f32) (x1 x2 : Vec Ideal S512x512 .bf16) (x3 x4 x5 x6 : Vec Ideal S512x1024 .bf16) (x7 : Vec Ideal S1024x1024 .bf16)

/-- An entry of the residual sum from a point's blocks. -/
def yb (r : Fin 512) (n : Fin 1024) : EReal :=
  Row.merged (x0 (ix2 r n)) (fun k => x3 (ix2 r k)) (fun k => x4 (ix2 r k)) (fun l => x1 (ix2 r l)) (fun l => x2 (ix2 r l))
    (fun l k => x5 (ix2 l k)) (fun l k => x6 (ix2 l k)) (fun k => x7 (ix2 k n))

/-- The residual sum at an entry. -/
theorem y_at (r : Fin 512) (n : Fin 1024) :
    (show EReal from k0_pay2 x1 x5 x2 x6 x3 x4 x0 x7 (ix2 r n)) = yb x0 x1 x2 x3 x4 x5 x6 x7 r n := by
  unfold yb Row.merged
  pointwise [k0_pay2]

/-- A row's sum. -/
theorem sum_at (r : Fin 512) :
    (show EReal from k0_pay5 x1 x5 x2 x6 x3 x4 x0 x7 (ix2 r 0)) = ∑ n, yb x0 x1 x2 x3 x4 x5 x6 x7 r n := by
  have h : ∀ y : FVec Ideal S512x1024 .f32, (show EReal from shapeCast S512x1 (multiReduction .add [1] S512 y 0x00000000#32 reduces_S512x1024_S512 (.inl rfl) rfl) shapeCasts_S512_S512x1 (ix2 r 0))
      = ∑ n : Fin 1024, (show EReal from y (ix2 r n)) := by
    intro y
    pointwise
  exact (h _).trans (Finset.sum_congr rfl fun n _ => y_at x0 x1 x2 x3 x4 x5 x6 x7 r n)

/-- The layer norm of a block at an entry, given its rows' sums. -/
theorem norm_at (y : FVec Ideal S512x1024 .f32) (g b : FVec Ideal S1x1024 .f32) (u : FVec Ideal S512x1 .f32) (r : Fin 512) (j : Fin 1024)
    (f : Fin 1024 → EReal) (hf : ∀ n, (show EReal from y (ix2 r n)) = f n) (hu : (show EReal from u (ix2 r 0)) = ∑ n, f n) :
    (show EReal from k0_pay1 y g b u (Scalar.ofBits .f32 0x44800000#32) (ix2 r j)) = Row.norm f (g (ix2 0 j)) (b (ix2 0 j)) j := by
  obtain rfl : (fun n => (show EReal from y (ix2 r n))) = f := funext hf
  unfold Row.norm Row.avg
  rw [← hu]
  pointwise [k0_pay1]

/-- A block is loaded whole. -/
theorem ld0 (x : Vec Ideal S512x512 .bf16) : View.ld x r0_0 = x := View.ld_unit_zero (by funext a; match a with | 0 => rfl | 1 => rfl) _ _
/-- So are the gates' and the branches' weights. -/
theorem ld1 {e : EltTy} (x : Vec Ideal S512x1024 e) : View.ld x r0_1 = x := View.ld_unit_zero (by funext a; match a with | 0 => rfl | 1 => rfl) _ _
/-- So are the output projection's weights. -/
theorem ld2 (x : Vec Ideal S1024x1024 .bf16) : View.ld x r0_2 = x := View.ld_unit_zero (by funext a; match a with | 0 => rfl | 1 => rfl) _ _
/-- So are the scales and the shifts. -/
theorem ld3 (x : Vec Ideal S1x1024 .f32) : View.ld x r0_3 = x := View.ld_unit_zero (by funext a; match a with | 0 => rfl | 1 => rfl) _ _

/-- What a point stores at an entry of its block. -/
theorem out_at (x8 x9 : Vec Ideal S1x1024 .f32) (r : Fin 512) (j : Fin 1024) :
    (show EReal from out0_10 x0 x1 x2 x3 x4 x5 x6 x7 x8 x9 (ix2 r j)) = Row.norm (yb x0 x1 x2 x3 x4 x5 x6 x7 r) (x8 (ix2 0 j)) (x9 (ix2 0 j)) j := by
  unfold out0_10
  rw [ld0, ld0, ld1, ld1, ld1, ld1, ld1, ld2, ld3, ld3]
  have hz : ∀ a : Fin S512x1024.rank, (![0, 0] : Fin 2 → Nat) a = 0 := fun a => match a with | 0 => rfl | 1 => rfl
  have h3 : ∀ x : Vec Ideal S1x1024 .f32, (show EReal from k0_pay3 x (ix2 0 j)) = (show EReal from x (ix2 0 j)) := fun x => by pointwise [k0_pay3]
  have h4 : ∀ x : Vec Ideal S1x1024 .f32, (show EReal from k0_pay4 x (ix2 0 j)) = (show EReal from x (ix2 0 j)) := fun x => by pointwise [k0_pay4]
  refine (congrFun (View.canon_cons_unit_lit inb_S512x1024_S512x1024_0_0 _ [] hz) _).trans ?_
  refine (norm_at _ _ _ _ r j (yb x0 x1 x2 x3 x4 x5 x6 x7 r) (y_at x0 x1 x2 x3 x4 x5 x6 x7 r) (sum_at x0 x1 x2 x3 x4 x5 x6 x7 r)).trans ?_
  exact congrArg₂ (fun g b : EReal => Row.norm _ g b j) (h3 x8) (h4 x9)

end

end Cert.MergeIdeal.Pt

end
-- ==== Proof.Merge.Ref.lean ====
/-
  The merge's reference over the reals, read at an index: the gated branches, the residual sum, the layer norm.
-/
module

public import proofs.«01_k».proof.Proof.Gen.MergeReferenceIdeal.Run
public import proofs.«01_k».proof.Proof.Ffn.Row

@[expose] public section

set_option maxRecDepth 16384

noncomputable section

namespace Cert.MergeReferenceIdeal.Rf

open Cert.MergeReferenceIdeal Cert.MergeReferenceIdeal.Gen Cert.MergeReferenceIdeal.Value
open Idealize.ShloMosaic Idealize.ShloMosaic.TcCoe Idealize.SL.Sem

/-- A branch, projected and gated. -/
def B (s : FVec Ideal S33280x1024 .f32) (o : FVec Ideal S33280x512 .f32) (w : FVec Ideal S512x1024 .f32) : FVec Ideal S33280x1024 .f32 :=
  mulf (Host.divf (broadcastInDim S33280x1024 ![] bcast_S_S33280x1024 (constant S_ .f32 0x3F800000#32)) (addf (broadcastInDim S33280x1024 ![] bcast_S_S33280x1024 (constant S_ .f32 0x3F800000#32)) (Host.exp (Host.negf s)))) (Host.dotGeneral dot_S33280x512_S512x1024_S33280x1024_1_0_0_1_n_n none o w)

/-- The residual sum, from the two branches. -/
def Y (x p q : FVec Ideal S33280x1024 .f32) (w : FVec Ideal S1024x1024 .f32) : FVec Ideal S33280x1024 .f32 :=
  addf (mulf (broadcastInDim S33280x1024 ![] bcast_S_S33280x1024 (constant S_ .f32 0x3FB504F3#32)) x) (Host.dotGeneral dot_S33280x1024_S1024x1024_S33280x1024_1_0_0_1_n_n none (addf p q) w)

/-- Each row less its mean. -/
def Z (y : FVec Ideal S33280x1024 .f32) : FVec Ideal S33280x1024 .f32 :=
  subf y (broadcastInDim S33280x1024 ![0, 1] bcast_S33280x1_S33280x1024_0_1 (Host.divf (broadcastInDim S33280x1 ![0] bcast_S33280_S33280x1_0 (Host.reduceAdd y (constant S_ .f32 0x00000000#32) reducesTo_S33280x1024_S33280_d1 h_S_)) (broadcastInDim S33280x1 ![] bcast_S_S33280x1 (constant S_ .f32 0x44800000#32))))

/-- Each row's layer norm, from the rows less their means. -/
def N (z : FVec Ideal S33280x1024 .f32) (g b : FVec Ideal S1024 .f32) : FVec Ideal S33280x1024 .f32 :=
  addf (mulf (mulf z (broadcastInDim S33280x1024 ![0, 1] bcast_S33280x1_S33280x1024_0_1 (Host.rsqrt (addf (Host.divf (broadcastInDim S33280x1 ![0] bcast_S33280_S33280x1_0 (Host.reduceAdd (mulf z z) (constant S_ .f32 0x00000000#32) reducesTo_S33280x1024_S33280_d1 h_S_)) (broadcastInDim S33280x1 ![] bcast_S_S33280x1 (constant S_ .f32 0x44800000#32))) (broadcastInDim S33280x1 ![] bcast_S_S33280x1 (constant S_ .f32 0x3727C5AC#32)))))) (broadcastInDim S33280x1024 ![0, 1] bcast_S1x1024_S33280x1024_0_1 (broadcastInDim S1x1024 ![1] bcast_S1024_S1x1024_1 g))) (broadcastInDim S33280x1024 ![0, 1] bcast_S1x1024_S33280x1024_0_1 (broadcastInDim S1x1024 ![1] bcast_S1024_S1x1024_1 b))

/-- A gated branch at an entry. -/
theorem B_at (s : FVec Ideal S33280x1024 .f32) (o : FVec Ideal S33280x512 .f32) (w : FVec Ideal S512x1024 .f32) (r : Fin 33280) (k : Fin 1024) :
    (B s o w (ix2 r k) : EReal) = Row.sig (s (ix2 r k)) * ∑ l : Fin 512, (show EReal from o (ix2 r l)) * (show EReal from w (ix2 l k)) := by
  unfold Row.sig
  pointwise [B]

/-- The residual sum at an entry. -/
theorem Y_at (x p q : FVec Ideal S33280x1024 .f32) (w : FVec Ideal S1024x1024 .f32) (r : Fin 33280) (n : Fin 1024) :
    (Y x p q w (ix2 r n) : EReal) = Ideal.ofBits .f32 0x3FB504F3#32 * (show EReal from x (ix2 r n))
      + ∑ k : Fin 1024, ((show EReal from p (ix2 r k)) + (show EReal from q (ix2 r k))) * (show EReal from w (ix2 k n)) := by
  pointwise [Y]

/-- An entry less its row's mean. -/
theorem Z_at (y : FVec Ideal S33280x1024 .f32) (r : Fin 33280) (j : Fin 1024) :
    (Z y (ix2 r j) : EReal) = (show EReal from y (ix2 r j)) - Row.avg (fun k => y (ix2 r k)) := by
  unfold Row.avg
  pointwise [Z]

/-- The layer norm at an entry. -/
theorem N_at (z : FVec Ideal S33280x1024 .f32) (g b : FVec Ideal S1024 .f32) (r : Fin 33280) (j : Fin 1024) :
    (N z g b (ix2 r j) : EReal) = (show EReal from z (ix2 r j)) * Ideal.rsqrt (Ideal.div (∑ k : Fin 1024, (show EReal from z (ix2 r k)) * (show EReal from z (ix2 r k))) (Ideal.ofBits .f32 0x44800000#32) + Ideal.ofBits .f32 0x3727C5AC#32)
      * (show EReal from g (ix1 j)) + (show EReal from b (ix1 j)) := by
  pointwise [N]

/-- The residual sum's entries, from the arguments. -/
def y (x : FVec Ideal S33280x1024 .f32) (oa ob : FVec Ideal S33280x512 .f32) (ga gb : FVec Ideal S33280x1024 .f32) (wa wb : FVec Ideal S512x1024 .f32)
    (wo : FVec Ideal S1024x1024 .f32) (r : Fin 33280) (n : Fin 1024) : EReal :=
  Row.merged (x (ix2 r n)) (fun k => Row.sig (ga (ix2 r k))) (fun k => Row.sig (gb (ix2 r k))) (fun l => oa (ix2 r l)) (fun l => ob (ix2 r l))
    (fun l k => wa (ix2 l k)) (fun l k => wb (ix2 l k)) (fun k => wo (ix2 k n))

/-- The residual sum of the reference. -/
theorem y_at (x : FVec Ideal S33280x1024 .f32) (oa ob : FVec Ideal S33280x512 .f32) (ga gb : FVec Ideal S33280x1024 .f32) (wa wb : FVec Ideal S512x1024 .f32)
    (wo : FVec Ideal S1024x1024 .f32) (r : Fin 33280) (n : Fin 1024) :
    (Y x (B ga oa wa) (B gb ob wb) wo (ix2 r n) : EReal) = y x oa ob ga gb wa wb wo r n := by
  refine (Y_at x _ _ wo r n).trans (congrArg₂ (fun a b : EReal => a + b) rfl (Finset.sum_congr rfl fun k _ => congrArg₂ (fun a b : EReal => a * b) ?_ rfl))
  exact congrArg₂ (fun a b : EReal => a + b) (B_at ga oa wa r k) (B_at gb ob wb r k)

/-- The reference's result, by its stages. -/
theorem res_eq (m : (ℓ : Loc nD τ sig) → Buf (Elt Ideal) ℓ) (c : Dev nD) : res_main_v44 m c
    = N (Z (Y (m ((c.tc : Thread nD τ).loc main_arg0)) (B (m ((c.tc : Thread nD τ).loc main_arg3)) (m ((c.tc : Thread nD τ).loc main_arg1)) (m ((c.tc : Thread nD τ).loc main_arg5)))
      (B (m ((c.tc : Thread nD τ).loc main_arg4)) (m ((c.tc : Thread nD τ).loc main_arg2)) (m ((c.tc : Thread nD τ).loc main_arg6))) (m ((c.tc : Thread nD τ).loc main_arg7))))
      (m ((c.tc : Thread nD τ).loc main_arg8)) (m ((c.tc : Thread nD τ).loc main_arg9)) := rfl

/-- The reference's result at an entry: the layer norm of its row. -/
theorem res_at (m : (ℓ : Loc nD τ sig) → Buf (Elt Ideal) ℓ) (c : Dev nD) (r : Fin 33280) (j : Fin 1024) :
    (show EReal from res_main_v44 m c (ix2 r j)) = Row.norm (y (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) r)
      (m ((c.tc : Thread nD τ).loc main_arg8) (ix1 j)) (m ((c.tc : Thread nD τ).loc main_arg9) (ix1 j)) j := by
  refine (congrFun (res_eq m c) _).trans ((N_at _ _ _ r j).trans ?_)
  unfold Row.norm
  simp only [Z_at, y_at]

end Cert.MergeReferenceIdeal.Rf

end
-- ==== Proof.Merge.Value.lean ====
/-
  The merge kernel's result array over the reals is the reference's: each row block is read from the input, the branches
  and the gates, the weights are read whole, and the row's layer norm is the same.
-/
module

public import proofs.«01_k».proof.Defs
public import proofs.«01_k».proof.Proof.Merge.Point
public import proofs.«01_k».proof.Proof.Merge.Ref
public import Idealize.ShloMosaic.Lib.StableHlo.ReadAt

@[expose] public section

set_option maxRecDepth 16384

noncomputable section

namespace Cert.MergeIdeal.Pt

open Cert.MergeIdeal Cert.MergeIdeal.Gen
open Idealize.ShloMosaic Idealize.ShloMosaic.TcCoe Idealize.SL.Sem Idealize.ShloMosaic.Pipeline

/-- Where the block of the input lies, by the point. -/
theorem e0 : ∀ t : Fin cfg0.N, win0_0.index t = ![t.val, 0] := (by decide +kernel : ∀ t : Fin grid0.N, _)
/-- Where the block of the first branch lies, by the point. -/
theorem e1 : ∀ t : Fin cfg0.N, win0_1.index t = ![t.val, 0] := (by decide +kernel : ∀ t : Fin grid0.N, _)
/-- Where the block of the second branch lies, by the point. -/
theorem e2 : ∀ t : Fin cfg0.N, win0_2.index t = ![t.val, 0] := (by decide +kernel : ∀ t : Fin grid0.N, _)
/-- Where the block of the first gate lies, by the point. -/
theorem e3 : ∀ t : Fin cfg0.N, win0_3.index t = ![t.val, 0] := (by decide +kernel : ∀ t : Fin grid0.N, _)
/-- Where the block of the second gate lies, by the point. -/
theorem e4 : ∀ t : Fin cfg0.N, win0_4.index t = ![t.val, 0] := (by decide +kernel : ∀ t : Fin grid0.N, _)
/-- Where the block of the first branch's weights lies, by the point. -/
theorem e5 : ∀ t : Fin cfg0.N, win0_5.index t = ![0, 0] := (by decide +kernel : ∀ t : Fin grid0.N, _)
/-- Where the block of the second branch's weights lies, by the point. -/
theorem e6 : ∀ t : Fin cfg0.N, win0_6.index t = ![0, 0] := (by decide +kernel : ∀ t : Fin grid0.N, _)
/-- Where the block of the output projection's weights lies, by the point. -/
theorem e7 : ∀ t : Fin cfg0.N, win0_7.index t = ![0, 0] := (by decide +kernel : ∀ t : Fin grid0.N, _)
/-- Where the block of the scales lies, by the point. -/
theorem e8 : ∀ t : Fin cfg0.N, win0_8.index t = ![0, 0] := (by decide +kernel : ∀ t : Fin grid0.N, _)
/-- Where the block of the shifts lies, by the point. -/
theorem e9 : ∀ t : Fin cfg0.N, win0_9.index t = ![0, 0] := (by decide +kernel : ∀ t : Fin grid0.N, _)
/-- Where the block of the result lies, by the point. -/
theorem e10 : ∀ t : Fin cfg0.N, win0_10.index t = ![t.val, 0] := (by decide +kernel : ∀ t : Fin grid0.N, _)
/-- There are 65 points. -/
theorem bnd (t : Fin cfg0.N) : t.val < 65 := lt_of_lt_of_eq t.isLt (by decide +kernel)

variable (m : (ℓ : Loc nD τ sig) → Buf (Elt Ideal) ℓ) (c : Dev nD) (t : Fin cfg0.N)

/-- The block of the input at an entry. -/
theorem b0 (r : Fin 512) (l : Fin 1024) (R : Fin 33280) (hR : R.val = 512 * t.val + r.val) :
    (show EReal from iblk m c 0 t (ix2 r l)) = (show EReal from m ((c : Thread nD τ).loc main_arg0) (ix2 R l)) := by
  have he : (win0_0.blk t).view.emb (ix2 r l : S512x1024.Idx) = (ix2 R l : S33280x1024.Idx) := by
    funext a
    refine Fin.ext ((ValueKit.view_emb_slice_whole_unit_val main_arg0 _ _ _ (ix2 r l) a).trans ?_)
    show win0_0.index t a * win0_0.size a + ↑((ix2 r l : S512x1024.Idx) a) = ↑((ix2 R l : S33280x1024.Idx) a)
    rw [e0]
    match a with
    | 0 => show t.val * 512 + r.val = R.val; omega
    | 1 => show 0 * 1024 + l.val = l.val; omega
  have hv : (show EReal from V m c main_arg0 (ix2 R l)) = (show EReal from m ((c : Thread nD τ).loc main_arg0) (ix2 R l)) := congrFun (V_main_arg0 m c) _
  have hr : ∀ X : Buf (Elt Ideal) ((c : Thread nD τ).loc main_arg0), (win0_0.blk t).view.read (Elt Ideal) X (ix2 r l : S512x1024.Idx) = X ((win0_0.blk t).view.emb (ix2 r l : S512x1024.Idx)) := fun _ => rfl
  rw [show iblk m c 0 t = (win0_0.blk t).view.read (Elt Ideal) (V m c main_arg0) by unfold iblk; rfl]
  exact ((hr _).trans (congrArg (V m c main_arg0) he)).trans hv

/-- The block of the first branch at an entry. -/
theorem b1 (r : Fin 512) (l : Fin 512) (R : Fin 33280) (hR : R.val = 512 * t.val + r.val) :
    (show EReal from iblk m c 1 t (ix2 r l)) = (show EReal from m ((c : Thread nD τ).loc main_arg1) (ix2 R l)) := by
  have he : (win0_1.blk t).view.emb (ix2 r l : S512x512.Idx) = (ix2 R l : S33280x512.Idx) := by
    funext a
    refine Fin.ext ((ValueKit.view_emb_slice_whole_unit_val main_v0 _ _ _ (ix2 r l) a).trans ?_)
    show win0_1.index t a * win0_1.size a + ↑((ix2 r l : S512x512.Idx) a) = ↑((ix2 R l : S33280x512.Idx) a)
    rw [e1]
    match a with
    | 0 => show t.val * 512 + r.val = R.val; omega
    | 1 => show 0 * 512 + l.val = l.val; omega
  have hv : (show EReal from V m c main_v0 (ix2 R l)) = (show EReal from m ((c : Thread nD τ).loc main_arg1) (ix2 R l)) := by
    unfold V
    after_reads_at
  have hr : ∀ X : Buf (Elt Ideal) ((c : Thread nD τ).loc main_v0), (win0_1.blk t).view.read (Elt Ideal) X (ix2 r l : S512x512.Idx) = X ((win0_1.blk t).view.emb (ix2 r l : S512x512.Idx)) := fun _ => rfl
  rw [show iblk m c 1 t = (win0_1.blk t).view.read (Elt Ideal) (V m c main_v0) by unfold iblk; rfl]
  exact ((hr _).trans (congrArg (V m c main_v0) he)).trans hv

/-- The block of the second branch at an entry. -/
theorem b2 (r : Fin 512) (l : Fin 512) (R : Fin 33280) (hR : R.val = 512 * t.val + r.val) :
    (show EReal from iblk m c 2 t (ix2 r l)) = (show EReal from m ((c : Thread nD τ).loc main_arg2) (ix2 R l)) := by
  have he : (win0_2.blk t).view.emb (ix2 r l : S512x512.Idx) = (ix2 R l : S33280x512.Idx) := by
    funext a
    refine Fin.ext ((ValueKit.view_emb_slice_whole_unit_val main_v1 _ _ _ (ix2 r l) a).trans ?_)
    show win0_2.index t a * win0_2.size a + ↑((ix2 r l : S512x512.Idx) a) = ↑((ix2 R l : S33280x512.Idx) a)
    rw [e2]
    match a with
    | 0 => show t.val * 512 + r.val = R.val; omega
    | 1 => show 0 * 512 + l.val = l.val; omega
  have hv : (show EReal from V m c main_v1 (ix2 R l)) = (show EReal from m ((c : Thread nD τ).loc main_arg2) (ix2 R l)) := by
    unfold V
    after_reads_at
  have hr : ∀ X : Buf (Elt Ideal) ((c : Thread nD τ).loc main_v1), (win0_2.blk t).view.read (Elt Ideal) X (ix2 r l : S512x512.Idx) = X ((win0_2.blk t).view.emb (ix2 r l : S512x512.Idx)) := fun _ => rfl
  rw [show iblk m c 2 t = (win0_2.blk t).view.read (Elt Ideal) (V m c main_v1) by unfold iblk; rfl]
  exact ((hr _).trans (congrArg (V m c main_v1) he)).trans hv

/-- The block of the first gate at an entry, the sigmoid taken. -/
theorem b3 (r : Fin 512) (l : Fin 1024) (R : Fin 33280) (hR : R.val = 512 * t.val + r.val) :
    (show EReal from iblk m c 3 t (ix2 r l)) = Row.sig (m ((c : Thread nD τ).loc main_arg3) (ix2 R l)) := by
  have he : (win0_3.blk t).view.emb (ix2 r l : S512x1024.Idx) = (ix2 R l : S33280x1024.Idx) := by
    funext a
    refine Fin.ext ((ValueKit.view_emb_slice_whole_unit_val main_v8 _ _ _ (ix2 r l) a).trans ?_)
    show win0_3.index t a * win0_3.size a + ↑((ix2 r l : S512x1024.Idx) a) = ↑((ix2 R l : S33280x1024.Idx) a)
    rw [e3]
    match a with
    | 0 => show t.val * 512 + r.val = R.val; omega
    | 1 => show 0 * 1024 + l.val = l.val; omega
  have hv : (show EReal from V m c main_v8 (ix2 R l)) = Row.sig (m ((c : Thread nD τ).loc main_arg3) (ix2 R l)) := by
    unfold V Row.sig
    after_reads_at
  have hr : ∀ X : Buf (Elt Ideal) ((c : Thread nD τ).loc main_v8), (win0_3.blk t).view.read (Elt Ideal) X (ix2 r l : S512x1024.Idx) = X ((win0_3.blk t).view.emb (ix2 r l : S512x1024.Idx)) := fun _ => rfl
  rw [show iblk m c 3 t = (win0_3.blk t).view.read (Elt Ideal) (V m c main_v8) by unfold iblk; rfl]
  exact ((hr _).trans (congrArg (V m c main_v8) he)).trans hv

/-- The block of the second gate at an entry, the sigmoid taken. -/
theorem b4 (r : Fin 512) (l : Fin 1024) (R : Fin 33280) (hR : R.val = 512 * t.val + r.val) :
    (show EReal from iblk m c 4 t (ix2 r l)) = Row.sig (m ((c : Thread nD τ).loc main_arg4) (ix2 R l)) := by
  have he : (win0_4.blk t).view.emb (ix2 r l : S512x1024.Idx) = (ix2 R l : S33280x1024.Idx) := by
    funext a
    refine Fin.ext ((ValueKit.view_emb_slice_whole_unit_val main_v15 _ _ _ (ix2 r l) a).trans ?_)
    show win0_4.index t a * win0_4.size a + ↑((ix2 r l : S512x1024.Idx) a) = ↑((ix2 R l : S33280x1024.Idx) a)
    rw [e4]
    match a with
    | 0 => show t.val * 512 + r.val = R.val; omega
    | 1 => show 0 * 1024 + l.val = l.val; omega
  have hv : (show EReal from V m c main_v15 (ix2 R l)) = Row.sig (m ((c : Thread nD τ).loc main_arg4) (ix2 R l)) := by
    unfold V Row.sig
    after_reads_at
  have hr : ∀ X : Buf (Elt Ideal) ((c : Thread nD τ).loc main_v15), (win0_4.blk t).view.read (Elt Ideal) X (ix2 r l : S512x1024.Idx) = X ((win0_4.blk t).view.emb (ix2 r l : S512x1024.Idx)) := fun _ => rfl
  rw [show iblk m c 4 t = (win0_4.blk t).view.read (Elt Ideal) (V m c main_v15) by unfold iblk; rfl]
  exact ((hr _).trans (congrArg (V m c main_v15) he)).trans hv

/-- The block of the first branch's weights at an entry. -/
theorem b5 (r : Fin 512) (l : Fin 1024) :
    (show EReal from iblk m c 5 t (ix2 r l)) = (show EReal from m ((c : Thread nD τ).loc main_arg5) (ix2 r l)) := by
  have he : (win0_5.blk t).view.emb (ix2 r l : S512x1024.Idx) = (ix2 r l : S512x1024.Idx) := by
    funext a
    refine Fin.ext ((ValueKit.view_emb_slice_whole_unit_val main_v16 _ _ _ (ix2 r l) a).trans ?_)
    show win0_5.index t a * win0_5.size a + ↑((ix2 r l : S512x1024.Idx) a) = ↑((ix2 r l : S512x1024.Idx) a)
    rw [e5]
    match a with
    | 0 => show 0 * 512 + r.val = r.val; omega
    | 1 => show 0 * 1024 + l.val = l.val; omega
  have hv : (show EReal from V m c main_v16 (ix2 r l)) = (show EReal from m ((c : Thread nD τ).loc main_arg5) (ix2 r l)) := by
    unfold V
    after_reads_at
  have hr : ∀ X : Buf (Elt Ideal) ((c : Thread nD τ).loc main_v16), (win0_5.blk t).view.read (Elt Ideal) X (ix2 r l : S512x1024.Idx) = X ((win0_5.blk t).view.emb (ix2 r l : S512x1024.Idx)) := fun _ => rfl
  rw [show iblk m c 5 t = (win0_5.blk t).view.read (Elt Ideal) (V m c main_v16) by unfold iblk; rfl]
  exact ((hr _).trans (congrArg (V m c main_v16) he)).trans hv

/-- The block of the second branch's weights at an entry. -/
theorem b6 (r : Fin 512) (l : Fin 1024) :
    (show EReal from iblk m c 6 t (ix2 r l)) = (show EReal from m ((c : Thread nD τ).loc main_arg6) (ix2 r l)) := by
  have he : (win0_6.blk t).view.emb (ix2 r l : S512x1024.Idx) = (ix2 r l : S512x1024.Idx) := by
    funext a
    refine Fin.ext ((ValueKit.view_emb_slice_whole_unit_val main_v17 _ _ _ (ix2 r l) a).trans ?_)
    show win0_6.index t a * win0_6.size a + ↑((ix2 r l : S512x1024.Idx) a) = ↑((ix2 r l : S512x1024.Idx) a)
    rw [e6]
    match a with
    | 0 => show 0 * 512 + r.val = r.val; omega
    | 1 => show 0 * 1024 + l.val = l.val; omega
  have hv : (show EReal from V m c main_v17 (ix2 r l)) = (show EReal from m ((c : Thread nD τ).loc main_arg6) (ix2 r l)) := by
    unfold V
    after_reads_at
  have hr : ∀ X : Buf (Elt Ideal) ((c : Thread nD τ).loc main_v17), (win0_6.blk t).view.read (Elt Ideal) X (ix2 r l : S512x1024.Idx) = X ((win0_6.blk t).view.emb (ix2 r l : S512x1024.Idx)) := fun _ => rfl
  rw [show iblk m c 6 t = (win0_6.blk t).view.read (Elt Ideal) (V m c main_v17) by unfold iblk; rfl]
  exact ((hr _).trans (congrArg (V m c main_v17) he)).trans hv

/-- The block of the output projection's weights at an entry. -/
theorem b7 (r : Fin 1024) (l : Fin 1024) :
    (show EReal from iblk m c 7 t (ix2 r l)) = (show EReal from m ((c : Thread nD τ).loc main_arg7) (ix2 r l)) := by
  have he : (win0_7.blk t).view.emb (ix2 r l : S1024x1024.Idx) = (ix2 r l : S1024x1024.Idx) := by
    funext a
    refine Fin.ext ((ValueKit.view_emb_slice_whole_unit_val main_v18 _ _ _ (ix2 r l) a).trans ?_)
    show win0_7.index t a * win0_7.size a + ↑((ix2 r l : S1024x1024.Idx) a) = ↑((ix2 r l : S1024x1024.Idx) a)
    rw [e7]
    match a with
    | 0 => show 0 * 1024 + r.val = r.val; omega
    | 1 => show 0 * 1024 + l.val = l.val; omega
  have hv : (show EReal from V m c main_v18 (ix2 r l)) = (show EReal from m ((c : Thread nD τ).loc main_arg7) (ix2 r l)) := by
    unfold V
    after_reads_at
  have hr : ∀ X : Buf (Elt Ideal) ((c : Thread nD τ).loc main_v18), (win0_7.blk t).view.read (Elt Ideal) X (ix2 r l : S1024x1024.Idx) = X ((win0_7.blk t).view.emb (ix2 r l : S1024x1024.Idx)) := fun _ => rfl
  rw [show iblk m c 7 t = (win0_7.blk t).view.read (Elt Ideal) (V m c main_v18) by unfold iblk; rfl]
  exact ((hr _).trans (congrArg (V m c main_v18) he)).trans hv

/-- The block of the scales at an entry. -/
theorem b8 (l : Fin 1024) :
    (show EReal from iblk m c 8 t (ix2 0 l)) = (show EReal from m ((c : Thread nD τ).loc main_arg8) (ix1 l)) := by
  have he : (win0_8.blk t).view.emb (ix2 0 l : S1x1024.Idx) = (ix2 0 l : S1x1024.Idx) := by
    funext a
    refine Fin.ext ((ValueKit.view_emb_slice_whole_unit_val main_v19 _ _ _ (ix2 0 l) a).trans ?_)
    show win0_8.index t a * win0_8.size a + ↑((ix2 0 l : S1x1024.Idx) a) = ↑((ix2 0 l : S1x1024.Idx) a)
    rw [e8]
    match a with
    | 0 => show 0 * 1 + 0 = 0; omega
    | 1 => show 0 * 1024 + l.val = l.val; omega
  have hv : (show EReal from V m c main_v19 (ix2 0 l)) = (show EReal from m ((c : Thread nD τ).loc main_arg8) (ix1 l)) := by
    unfold V
    after_reads_at
  have hr : ∀ X : Buf (Elt Ideal) ((c : Thread nD τ).loc main_v19), (win0_8.blk t).view.read (Elt Ideal) X (ix2 0 l : S1x1024.Idx) = X ((win0_8.blk t).view.emb (ix2 0 l : S1x1024.Idx)) := fun _ => rfl
  rw [show iblk m c 8 t = (win0_8.blk t).view.read (Elt Ideal) (V m c main_v19) by unfold iblk; rfl]
  exact ((hr _).trans (congrArg (V m c main_v19) he)).trans hv

/-- The block of the shifts at an entry. -/
theorem b9 (l : Fin 1024) :
    (show EReal from iblk m c 9 t (ix2 0 l)) = (show EReal from m ((c : Thread nD τ).loc main_arg9) (ix1 l)) := by
  have he : (win0_9.blk t).view.emb (ix2 0 l : S1x1024.Idx) = (ix2 0 l : S1x1024.Idx) := by
    funext a
    refine Fin.ext ((ValueKit.view_emb_slice_whole_unit_val main_v20 _ _ _ (ix2 0 l) a).trans ?_)
    show win0_9.index t a * win0_9.size a + ↑((ix2 0 l : S1x1024.Idx) a) = ↑((ix2 0 l : S1x1024.Idx) a)
    rw [e9]
    match a with
    | 0 => show 0 * 1 + 0 = 0; omega
    | 1 => show 0 * 1024 + l.val = l.val; omega
  have hv : (show EReal from V m c main_v20 (ix2 0 l)) = (show EReal from m ((c : Thread nD τ).loc main_arg9) (ix1 l)) := by
    unfold V
    after_reads_at
  have hr : ∀ X : Buf (Elt Ideal) ((c : Thread nD τ).loc main_v20), (win0_9.blk t).view.read (Elt Ideal) X (ix2 0 l : S1x1024.Idx) = X ((win0_9.blk t).view.emb (ix2 0 l : S1x1024.Idx)) := fun _ => rfl
  rw [show iblk m c 9 t = (win0_9.blk t).view.read (Elt Ideal) (V m c main_v20) by unfold iblk; rfl]
  exact ((hr _).trans (congrArg (V m c main_v20) he)).trans hv

/-- Where an entry of the result's block lies. -/
theorem emb10 (r : Fin 512) (l : Fin 1024) (R : Fin 33280) (hR : R.val = 512 * t.val + r.val) :
    (win0_10.blk t).view.emb (ix2 r l : S512x1024.Idx) = (ix2 R l : S33280x1024.Idx) := by
  funext a
  refine Fin.ext ((ValueKit.view_emb_slice_whole_unit_val main_v21 _ _ _ (ix2 r l) a).trans ?_)
  show win0_10.index t a * win0_10.size a + ↑((ix2 r l : S512x1024.Idx) a) = ↑((ix2 R l : S33280x1024.Idx) a)
  rw [e10]
  match a with
  | 0 => show t.val * 512 + r.val = R.val; omega
  | 1 => show 0 * 1024 + l.val = l.val; omega

/-- A residual sum's entry of a point is the reference's at its row. -/
theorem yb_eq (r : Fin 512) (n : Fin 1024) (R : Fin 33280) (hR : R.val = 512 * t.val + r.val) :
    yb (iblk m c 0 t) (iblk m c 1 t) (iblk m c 2 t) (iblk m c 3 t) (iblk m c 4 t) (iblk m c 5 t) (iblk m c 6 t) (iblk m c 7 t) r n
      = MergeReferenceIdeal.Rf.y (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) R n :=
  Row.merged_congr (b0 m c t r n R hR) (fun k => b3 m c t r k R hR) (fun k => b4 m c t r k R hR) (fun l => b1 m c t r l R hR) (fun l => b2 m c t r l R hR)
    (fun l k => b5 m c t l k) (fun l k => b6 m c t l k) (fun k => b7 m c t k n)

/-- What a point stores, from the arguments. -/
theorem point_at (r : Fin 512) (j : Fin 1024) (R : Fin 33280) (hR : R.val = 512 * t.val + r.val) :
    (show EReal from out0_10 (iblk m c 0 t) (iblk m c 1 t) (iblk m c 2 t) (iblk m c 3 t) (iblk m c 4 t) (iblk m c 5 t) (iblk m c 6 t) (iblk m c 7 t) (iblk m c 8 t) (iblk m c 9 t) (ix2 r j))
      = Row.norm (MergeReferenceIdeal.Rf.y (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) R)
          (m ((c : Thread nD τ).loc main_arg8) (ix1 j)) (m ((c : Thread nD τ).loc main_arg9) (ix1 j)) j := by
  refine (out_at _ _ _ _ _ _ _ _ _ _ r j).trans ?_
  rw [show yb (iblk m c 0 t) (iblk m c 1 t) (iblk m c 2 t) (iblk m c 3 t) (iblk m c 4 t) (iblk m c 5 t) (iblk m c 6 t) (iblk m c 7 t) r = _ from
    funext fun n => yb_eq m c t r n R hR]
  exact congrArg₂ (fun g b : EReal => Row.norm _ g b j) (b8 m c t j) (b9 m c t j)

/-- The result array, from what each point's block holds at its entries. -/
theorem out_eq (G : Buf (Elt Ideal) ((c.tc : Thread nD τ).loc main_v21))
    (hG : ∀ (t : Fin cfg0.N) (r : Fin 512) (j : Fin 1024) (R : Fin 33280), R.val = 512 * t.val + r.val →
      out0_10 (iblk m c 0 t) (iblk m c 1 t) (iblk m c 2 t) (iblk m c 3 t) (iblk m c 4 t) (iblk m c 5 t) (iblk m c 6 t) (iblk m c 7 t) (iblk m c 8 t) (iblk m c 9 t) (ix2 r j) = G (ix2 R j)) :
    (dats m 0 c).arrAt 10 cfg0.N = G := by
  refine (dats m 0 c).arrAt_eq_of_covers 10 G (by decide +kernel) fun t hf y => ?_
  blk_simp
  rw [after0_10]
  have ht := bnd t
  obtain ⟨r, j, rfl⟩ : ∃ (r : Fin 512) (j : Fin 1024), y = (ix2 r j : S512x1024.Idx) := ⟨y 0, y 1, by funext a; match a with | 0 => rfl | 1 => rfl⟩
  exact (hG t r j ⟨512 * t.val + r.val, by omega⟩ rfl).trans (congrArg G (emb10 t r j _ rfl).symm)

end Cert.MergeIdeal.Pt

namespace Cert.Proof

open Idealize.ShloMosaic Idealize.ShloMosaic.TcCoe Idealize.SL.Sem

/-- From equal arguments, the idealized merge kernel's result is the reference's. -/
theorem algebraic_merge : Cert.algebraic_MergeIdeal_MergeReferenceIdeal (hMergeIdeal := Cert.MergeIdeal.Gen.facts)
    (hMergeReferenceIdeal := Cert.MergeReferenceIdeal.Gen.facts) := by
  intro m g m' g' _ hagree
  refine ⟨fun c => (MergeIdeal.Gen.dats m 0 c).arrAt 10 MergeIdeal.cfg0.N, MergeIdeal.Value.run_blocks m g, ?_⟩
  refine (θ_run MergeReferenceIdeal.defs _ _).mono ?_ (MergeReferenceIdeal.Value.run m' g')
  intro r hr c
  refine ⟨(hr c).1.trans ?_, (hr c).2⟩
  refine (MergeIdeal.Pt.out_eq m c (MergeReferenceIdeal.Value.res_main_v44 m' c) ?_).symm
  intro t q j R hR
  refine (MergeIdeal.Pt.point_at m c t q j R hR).trans ((MergeReferenceIdeal.Rf.res_at m' c R j).trans ?_).symm
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

end Cert.Proof

end
-- ==== Proof.Gates.Ref.lean ====
/-
  The gates' reference over the reals, read at an index: the sigmoid of a column of the input projection.
-/
module

public import proofs.«01_k».proof.Proof.Gen.GatesReferenceIdeal.Run
public import proofs.«01_k».proof.Proof.Ffn.Row

@[expose] public section

set_option maxRecDepth 16384

noncomputable section

namespace Cert.GatesReferenceIdeal.Rf

open Cert.GatesReferenceIdeal Cert.GatesReferenceIdeal.Gen Cert.GatesReferenceIdeal.Value
open Idealize.ShloMosaic Idealize.ShloMosaic.TcCoe Idealize.SL.Sem

/-- A gate at an entry: the sigmoid of a row of `h` times the column `k` of the weights. -/
def gate (h : FVec Ideal S33280x1024 .f32) (w : FVec Ideal S1024x3816 .f32) (r : Fin 33280) (k : Fin 3816) : EReal :=
  Row.sig (∑ l : Fin 1024, (show EReal from h (ix2 r l)) * (show EReal from w (ix2 l k)))

/-- The sigmoid of some of the columns. -/
def G (z : FVec Ideal S33280x1024 .f32) : FVec Ideal S33280x1024 .bf16 :=
  truncf .bf16 (Host.divf (broadcastInDim S33280x1024 ![] bcast_S_S33280x1024 (constant S_ .f32 0x3F800000#32)) (addf (broadcastInDim S33280x1024 ![] bcast_S_S33280x1024 (constant S_ .f32 0x3F800000#32)) (Host.exp (Host.negf z)))) bitsLt_bf16_f32

/-- The first gate. -/
def A (h : FVec Ideal S33280x1024 .f32) (w : FVec Ideal S1024x3816 .f32) : FVec Ideal S33280x1024 .bf16 :=
  G (extractStridedSlice S33280x1024 ![0, 1768] (Host.dotGeneral dot_S33280x1024_S1024x3816_S33280x3816_1_0_0_1_n_n none h w) slices_S33280x3816_S33280x1024_0_1768)

/-- The second gate. -/
def B (h : FVec Ideal S33280x1024 .f32) (w : FVec Ideal S1024x3816 .f32) : FVec Ideal S33280x1024 .bf16 :=
  G (extractStridedSlice S33280x1024 ![0, 2792] (Host.dotGeneral dot_S33280x1024_S1024x3816_S33280x3816_1_0_0_1_n_n none h w) slices_S33280x3816_S33280x1024_0_2792)

/-- The first gate at an entry. -/
theorem A_at (h : FVec Ideal S33280x1024 .f32) (w : FVec Ideal S1024x3816 .f32) (r : Fin 33280) (k : Fin 1024) :
    (A h w (ix2 r k) : EReal) = gate h w r ⟨1768 + k.val, by omega⟩ := by
  unfold gate Row.sig
  pointwise [A, G]

/-- The second gate at an entry. -/
theorem B_at (h : FVec Ideal S33280x1024 .f32) (w : FVec Ideal S1024x3816 .f32) (r : Fin 33280) (k : Fin 1024) :
    (B h w (ix2 r k) : EReal) = gate h w r ⟨2792 + k.val, by omega⟩ := by
  unfold gate Row.sig
  pointwise [B, G]

end Cert.GatesReferenceIdeal.Rf

end
-- ==== Proof.Gates.Value.lean ====
/-
  The gates of the projection's kernel over the reals are the reference's: each row block is read from the input, the laid-out
  weights hold the gates' columns of the input projection, and the sigmoid of the product is the same.
-/
module

public import proofs.«01_k».proof.Defs
public import proofs.«01_k».proof.Proof.Gen.GatesIdeal.Value
public import proofs.«01_k».proof.Proof.Gates.Ref
public import Idealize.ShloMosaic.Lib.Pipeline.ValueKit
public import Idealize.ShloMosaic.Lib.StableHlo.ReadAt

@[expose] public section

set_option maxRecDepth 16384

noncomputable section

namespace Cert.GatesIdeal.Pt

open Cert.GatesIdeal Cert.GatesIdeal.Gen
open Idealize.ShloMosaic Idealize.ShloMosaic.TcCoe Idealize.SL.Sem Idealize.ShloMosaic.Pipeline

section
variable (x0 : Vec Ideal S640x1024 .f32) (x1 : Vec Ideal S1024x4352 .bf16) (x2 x3 x4 x5 : Vec Ideal S640x128 .f32) (x6 : Vec Ideal S1x256 .f32)
  (x7 : Vec Ideal S1x128 .f32) (x8 : Vec Ideal S256x2048 .bf16) (x9 : Vec Ideal S128x1536 .bf16)

/-- The sigmoid of a row of a block times a column of the laid-out weights. -/
def gate (r : Fin 640) (k : Fin 4352) : EReal :=
  Row.sig (∑ l : Fin 1024, (show EReal from x0 (ix2 r l)) * (show EReal from x1 (ix2 l k)))

/-- The first gate from its columns. -/
theorem a_at (v : Vec Ideal S640x1024 .f32) (w : Vec Ideal S1024x1024 .bf16) (r : Fin 640) (k : Fin 1024) :
    (show EReal from k0_pay23 (k0_pay22 (k0_pay4 v) w) (ix2 r k)) = Row.sig (∑ l : Fin 1024, (show EReal from v (ix2 r l)) * (show EReal from w (ix2 l k))) := by
  unfold Row.sig
  pointwise [k0_pay23, k0_pay22, k0_pay4]
  rfl

/-- The second gate from its columns. -/
theorem b_at (v : Vec Ideal S640x1024 .f32) (w : Vec Ideal S1024x1024 .bf16) (r : Fin 640) (k : Fin 1024) :
    (show EReal from k0_pay24 (k0_pay4 v) w (ix2 r k)) = Row.sig (∑ l : Fin 1024, (show EReal from v (ix2 r l)) * (show EReal from w (ix2 l k))) := by
  unfold Row.sig
  pointwise [k0_pay24, k0_pay4]
  rfl

/-- The input's block is loaded whole. -/
theorem ld0 : View.ld x0 r0_0 = x0 := View.ld_unit_zero (by funext a; match a with | 0 => rfl | 1 => rfl) _ _
/-- The first gate's columns. -/
theorem ld15 (l : Fin 1024) (k : Fin 1024) : View.ld x1 r0_15 (ix2 l k) = x1 (ix2 l ⟨2304 + k.val, by omega⟩) :=
  View.ld_unit_apply_of x1 _ _ _ _ _ fun a => match a with | 0 => (Nat.zero_add _).symm | 1 => rfl
/-- The second gate's columns. -/
theorem ld16 (l : Fin 1024) (k : Fin 1024) : View.ld x1 r0_16 (ix2 l k) = x1 (ix2 l ⟨3328 + k.val, by omega⟩) :=
  View.ld_unit_apply_of x1 _ _ _ _ _ fun a => match a with | 0 => (Nat.zero_add _).symm | 1 => rfl

/-- A block is stored whole. -/
theorem hz : ∀ a : Fin S640x1024.rank, (![0, 0] : Fin 2 → Nat) a = 0 := fun a => match a with | 0 => rfl | 1 => rfl

/-- What a point stores of the first gate. -/
theorem out19_at (r : Fin 640) (k : Fin 1024) :
    (show EReal from out0_19 x0 x1 x2 x3 x4 x5 x6 x7 x8 x9 (ix2 r k)) = gate x0 x1 r ⟨2304 + k.val, by omega⟩ := by
  unfold out0_19 k0_pay63
  rw [ld0]
  refine (congrFun (View.canon_cons_unit_lit inb_S640x1024_S640x1024_0_0 _ [] hz) _).trans ((a_at x0 _ r k).trans (congrArg Row.sig ?_))
  exact Finset.sum_congr rfl fun l _ => congrArg₂ (fun a b : EReal => a * b) rfl (ld15 x1 l k)

/-- What a point stores of the second gate. -/
theorem out20_at (r : Fin 640) (k : Fin 1024) :
    (show EReal from out0_20 x0 x1 x2 x3 x4 x5 x6 x7 x8 x9 (ix2 r k)) = gate x0 x1 r ⟨3328 + k.val, by omega⟩ := by
  unfold out0_20 k0_pay63
  rw [ld0]
  refine (congrFun (View.canon_cons_unit_lit inb_S640x1024_S640x1024_0_0 _ [] hz) _).trans ((b_at x0 _ r k).trans (congrArg Row.sig ?_))
  exact Finset.sum_congr rfl fun l _ => congrArg₂ (fun a b : EReal => a * b) rfl (ld16 x1 l k)

end

/-- Where the input's block lies, by the point. -/
theorem e0 : ∀ t : Fin cfg0.N, win0_0.index t = ![t.val, 0] := (by decide +kernel : ∀ t : Fin grid0.N, _)
/-- Where the weights' block lies. -/
theorem e1 : ∀ t : Fin cfg0.N, win0_1.index t = ![0, 0] := (by decide +kernel : ∀ t : Fin grid0.N, _)
/-- Where the first gate's block lies. -/
theorem e19 : ∀ t : Fin cfg0.N, win0_19.index t = ![t.val, 0] := (by decide +kernel : ∀ t : Fin grid0.N, _)
/-- Where the second gate's block lies. -/
theorem e20 : ∀ t : Fin cfg0.N, win0_20.index t = ![t.val, 0] := (by decide +kernel : ∀ t : Fin grid0.N, _)
/-- There are 52 points. -/
theorem bnd (t : Fin cfg0.N) : t.val < 52 := lt_of_lt_of_eq t.isLt (by decide +kernel)

variable (m : (ℓ : Loc nD τ sig) → Buf (Elt Ideal) ℓ) (c : Dev nD) (t : Fin cfg0.N)

/-- The input's block at an entry. -/
theorem b0 (r : Fin 640) (l : Fin 1024) (R : Fin 33280) (hR : R.val = 640 * t.val + r.val) :
    (show EReal from iblk m c 0 t (ix2 r l)) = (show EReal from m ((c : Thread nD τ).loc main_arg0) (ix2 R l)) := by
  have he : (win0_0.blk t).view.emb (ix2 r l : S640x1024.Idx) = (ix2 R l : S33280x1024.Idx) := by
    funext a
    refine Fin.ext ((ValueKit.view_emb_slice_whole_unit_val main_arg0 _ _ _ (ix2 r l) a).trans ?_)
    show win0_0.index t a * win0_0.size a + ↑((ix2 r l : S640x1024.Idx) a) = ↑((ix2 R l : S33280x1024.Idx) a)
    rw [e0]
    match a with
    | 0 => show t.val * 640 + r.val = R.val; omega
    | 1 => show 0 * 1024 + l.val = l.val; omega
  have hr : ∀ X : Buf (Elt Ideal) ((c : Thread nD τ).loc main_arg0), (win0_0.blk t).view.read (Elt Ideal) X (ix2 r l : S640x1024.Idx) = X ((win0_0.blk t).view.emb (ix2 r l : S640x1024.Idx)) := fun _ => rfl
  rw [show iblk m c 0 t = (win0_0.blk t).view.read (Elt Ideal) (V m c main_arg0) by unfold iblk; rfl]
  exact ((hr _).trans (congrArg (V m c main_arg0) he)).trans (congrFun (V_main_arg0 m c) _)

/-- The weights' block holds the laid-out weights. -/
theorem b1 (l : Fin 1024) (k : Fin 4352) : (show EReal from iblk m c 1 t (ix2 l k)) = (show EReal from V m c main_v30 (ix2 l k)) := by
  have he : (win0_1.blk t).view.emb (ix2 l k : S1024x4352.Idx) = (ix2 l k : S1024x4352.Idx) := by
    funext a
    refine Fin.ext ((ValueKit.view_emb_slice_whole_unit_val main_v30 _ _ _ (ix2 l k) a).trans ?_)
    show win0_1.index t a * win0_1.size a + ↑((ix2 l k : S1024x4352.Idx) a) = ↑((ix2 l k : S1024x4352.Idx) a)
    rw [e1]
    match a with
    | 0 => show 0 * 1024 + l.val = l.val; omega
    | 1 => show 0 * 4352 + k.val = k.val; omega
  have hr : ∀ X : Buf (Elt Ideal) ((c : Thread nD τ).loc main_v30), (win0_1.blk t).view.read (Elt Ideal) X (ix2 l k : S1024x4352.Idx) = X ((win0_1.blk t).view.emb (ix2 l k : S1024x4352.Idx)) := fun _ => rfl
  rw [show iblk m c 1 t = (win0_1.blk t).view.read (Elt Ideal) (V m c main_v30) by unfold iblk; rfl]
  exact (hr _).trans (congrArg (V m c main_v30) he)

/-- The laid-out weights' columns of the first gate. -/
theorem wa (l : Fin 1024) (k : Fin 1024) :
    (show EReal from V m c main_v30 (ix2 l ⟨2304 + k.val, by omega⟩)) = (show EReal from m ((c : Thread nD τ).loc main_arg1) (ix2 l ⟨1768 + k.val, by omega⟩)) := by
  unfold V
  after_reads_at
  rw [dif_neg (by omega)]
  after_reads_at
  rw [dif_neg (by omega), dif_pos (by omega)]
  after_reads_at
  exact congrArg (fun K : Fin 3816 => m ((c : Thread nD τ).loc main_arg1) (ix2 l K)) (Fin.ext (by dsimp only; omega))

/-- The laid-out weights' columns of the second gate. -/
theorem wb (l : Fin 1024) (k : Fin 1024) :
    (show EReal from V m c main_v30 (ix2 l ⟨3328 + k.val, by omega⟩)) = (show EReal from m ((c : Thread nD τ).loc main_arg1) (ix2 l ⟨2792 + k.val, by omega⟩)) := by
  unfold V
  after_reads_at
  rw [dif_neg (by omega)]
  after_reads_at
  rw [dif_neg (by omega), dif_neg (by omega)]
  after_reads_at
  exact congrArg (fun K : Fin 3816 => m ((c : Thread nD τ).loc main_arg1) (ix2 l K)) (Fin.ext (by dsimp only; omega))

/-- A gate of a point is the reference's, where the laid-out column `k` is the column `K`. -/
theorem gate_eq (r : Fin 640) (k : Fin 4352) (K : Fin 3816)
    (hk : ∀ l : Fin 1024, (show EReal from V m c main_v30 (ix2 l k)) = (show EReal from m ((c : Thread nD τ).loc main_arg1) (ix2 l K)))
    (R : Fin 33280) (hR : R.val = 640 * t.val + r.val) :
    gate (iblk m c 0 t) (iblk m c 1 t) r k = GatesReferenceIdeal.Rf.gate (m ((c : Thread nD τ).loc main_arg0)) (m ((c : Thread nD τ).loc main_arg1)) R K :=
  congrArg Row.sig (Finset.sum_congr rfl fun l _ => congrArg₂ (fun a b : EReal => a * b) (b0 m c t r l R hR) ((b1 m c t l k).trans (hk l)))

/-- The first gate's array, from its entries. -/
theorem out19_eq (G : Buf (Elt Ideal) ((c.tc : Thread nD τ).loc main_v100_9))
    (hG : ∀ (R : Fin 33280) (k : Fin 1024), (show EReal from G (ix2 R k))
      = GatesReferenceIdeal.Rf.gate (m ((c : Thread nD τ).loc main_arg0)) (m ((c : Thread nD τ).loc main_arg1)) R ⟨1768 + k.val, by omega⟩) :
    (dats m 0 c).arrAt 19 cfg0.N = G := by
  refine (dats m 0 c).arrAt_eq_of_covers 19 G (by decide +kernel) fun t hf y => ?_
  blk_simp
  rw [after0_19]
  have ht := bnd t
  obtain ⟨r, j, rfl⟩ : ∃ (r : Fin 640) (j : Fin 1024), y = (ix2 r j : S640x1024.Idx) := ⟨y 0, y 1, by funext a; match a with | 0 => rfl | 1 => rfl⟩
  have he : (win0_19.blk t).view.emb (ix2 r j : S640x1024.Idx) = (ix2 ⟨640 * t.val + r.val, by omega⟩ j : S33280x1024.Idx) := by
    funext a
    refine Fin.ext ((ValueKit.view_emb_slice_whole_unit_val main_v100_9 _ _ _ (ix2 r j) a).trans ?_)
    show win0_19.index t a * win0_19.size a + ↑((ix2 r j : S640x1024.Idx) a) = ↑((ix2 ⟨640 * t.val + r.val, by omega⟩ j : S33280x1024.Idx) a)
    rw [e19]
    match a with
    | 0 => show t.val * 640 + r.val = 640 * t.val + r.val; omega
    | 1 => show 0 * 1024 + j.val = j.val; omega
  exact (out19_at _ _ _ _ _ _ _ _ _ _ r j).trans ((gate_eq m c t r _ _ (fun l => wa m c l j) _ rfl).trans ((hG _ j).symm.trans (congrArg G he.symm)))

/-- The second gate's array, from its entries. -/
theorem out20_eq (G : Buf (Elt Ideal) ((c.tc : Thread nD τ).loc main_v100_10))
    (hG : ∀ (R : Fin 33280) (k : Fin 1024), (show EReal from G (ix2 R k))
      = GatesReferenceIdeal.Rf.gate (m ((c : Thread nD τ).loc main_arg0)) (m ((c : Thread nD τ).loc main_arg1)) R ⟨2792 + k.val, by omega⟩) :
    (dats m 0 c).arrAt 20 cfg0.N = G := by
  refine (dats m 0 c).arrAt_eq_of_covers 20 G (by decide +kernel) fun t hf y => ?_
  blk_simp
  rw [after0_20]
  have ht := bnd t
  obtain ⟨r, j, rfl⟩ : ∃ (r : Fin 640) (j : Fin 1024), y = (ix2 r j : S640x1024.Idx) := ⟨y 0, y 1, by funext a; match a with | 0 => rfl | 1 => rfl⟩
  have he : (win0_20.blk t).view.emb (ix2 r j : S640x1024.Idx) = (ix2 ⟨640 * t.val + r.val, by omega⟩ j : S33280x1024.Idx) := by
    funext a
    refine Fin.ext ((ValueKit.view_emb_slice_whole_unit_val main_v100_10 _ _ _ (ix2 r j) a).trans ?_)
    show win0_20.index t a * win0_20.size a + ↑((ix2 r j : S640x1024.Idx) a) = ↑((ix2 ⟨640 * t.val + r.val, by omega⟩ j : S33280x1024.Idx) a)
    rw [e20]
    match a with
    | 0 => show t.val * 640 + r.val = 640 * t.val + r.val; omega
    | 1 => show 0 * 1024 + j.val = j.val; omega
  exact (out20_at _ _ _ _ _ _ _ _ _ _ r j).trans ((gate_eq m c t r _ _ (fun l => wb m c l j) _ rfl).trans ((hG _ j).symm.trans (congrArg G he.symm)))

end Cert.GatesIdeal.Pt

namespace Cert.Proof

open Idealize.ShloMosaic Idealize.ShloMosaic.TcCoe Idealize.SL.Sem

/-- From equal arguments, the gates of the idealized projection's kernel are the reference's. -/
theorem algebraic_gates : Cert.algebraic_GatesIdeal_GatesReferenceIdeal (hGatesIdeal := Cert.GatesIdeal.Gen.facts)
    (hGatesReferenceIdeal := Cert.GatesReferenceIdeal.Gen.facts) := by
  intro m g m' g' _ hagree
  refine ⟨fun c => (GatesIdeal.Gen.dats m 0 c).arrAt 19 GatesIdeal.cfg0.N, fun c => (GatesIdeal.Gen.dats m 0 c).arrAt 20 GatesIdeal.cfg0.N, ?_, ?_⟩
  · exact (θ_run GatesIdeal.defs _ _).mono (fun r h c => (h c).2.2.2.2.2.2.2.2.2) (GatesIdeal.Value.run_blocks m g)
  refine (θ_run GatesReferenceIdeal.defs _ _).mono ?_ (GatesReferenceIdeal.Value.run m' g')
  intro r hr c
  refine ⟨(hr c).1.trans ?_, (hr c).2.1.trans ?_, (hr c).2.2⟩
  · refine (GatesIdeal.Pt.out19_eq m c (GatesReferenceIdeal.Rf.A (m' ((c.tc : Thread _ _).loc GatesReferenceIdeal.main_arg0)) (m' ((c.tc : Thread _ _).loc GatesReferenceIdeal.main_arg1))) fun R k => ?_).symm
    refine (GatesReferenceIdeal.Rf.A_at _ _ R k).trans ?_
    rw [(hagree c).1, (hagree c).2.1]
  · refine (GatesIdeal.Pt.out20_eq m c (GatesReferenceIdeal.Rf.B (m' ((c.tc : Thread _ _).loc GatesReferenceIdeal.main_arg0)) (m' ((c.tc : Thread _ _).loc GatesReferenceIdeal.main_arg1))) fun R k => ?_).symm
    refine (GatesReferenceIdeal.Rf.B_at _ _ R k).trans ?_
    rw [(hagree c).1, (hagree c).2.1]

end Cert.Proof

end
-- ==== Proof.lean ====
/- The claims of the attention, the feed-forward, the merge and the projection kernel, each with its proof: every program runs and leaves
   its arguments as they were and its semaphores at zero; each idealized kernel is its kernel, and its result is its
   reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KI.Frame
public import proofs.«01_k».proof.Proof.Gen.Pre_finite
public import proofs.«01_k».proof.Proof.Value
public import proofs.«01_k».proof.Proof.Gen.Ffn
public import proofs.«01_k».proof.Proof.Gen.FfnReferenceIdeal
public import proofs.«01_k».proof.Proof.Gen.FfnIdeal
public import proofs.«01_k».proof.Proof.Gen.FfnIdeal.Value
public import proofs.«01_k».proof.Proof.Gen.FfnReferenceIdeal.Run
public import proofs.«01_k».proof.Proof.Ffn.Value
public import proofs.«01_k».proof.Proof.Gen.Merge
public import proofs.«01_k».proof.Proof.Gen.MergeIdeal
public import proofs.«01_k».proof.Proof.Gen.MergeReferenceIdeal
public import proofs.«01_k».proof.Proof.Gen.MergeIdeal.Value
public import proofs.«01_k».proof.Proof.Gen.MergeReferenceIdeal.Run
public import proofs.«01_k».proof.Proof.Merge.Value
public import proofs.«01_k».proof.Proof.Gen.Gates
public import proofs.«01_k».proof.Proof.Gen.GatesIdeal
public import proofs.«01_k».proof.Proof.Gen.GatesReferenceIdeal
public import proofs.«01_k».proof.Proof.Gen.GatesIdeal.Value
public import proofs.«01_k».proof.Proof.Gen.GatesReferenceIdeal.Run
public import proofs.«01_k».proof.Proof.Gates.Value

@[expose] public section

noncomputable section

namespace Cert.Proof

open Idealize.ShloMosaic Idealize.SL.Sem

/-- The kernel runs: its text is the idealized kernel's, so this is that run over machine floats. -/
theorem frame_p : Cert.quiescent_Kernel (hKernel := Cert.Kernel.Gen.facts) := by
  have e : Cert.KernelIdeal.Mla.Quiet Bits = Cert.quiescent_Kernel (hKernel := Cert.Kernel.Gen.facts) := by sl_kernel_rfl
  exact e.mp Cert.KernelIdeal.Mla.quiet

/-- The idealized kernel runs. -/
theorem frame_pi : Cert.quiescent_KernelIdeal (hKernelIdeal := Cert.KernelIdeal.Gen.facts) := fun m ρ _ =>
  Cert.KernelIdeal.Mla.frame (F := Ideal) m ρ

/-- The reference runs: it has no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the idealized feed-forward kernel's run leaves, over any floats. -/
def QuietFfn (F : FTy → Type) [FloatOps F] : Prop :=
  ∀ (m : (ℓ : Loc FfnIdeal.nD FfnIdeal.τ FfnIdeal.sig) → Buf (Elt F) ℓ) (g : Dev FfnIdeal.nD → PrngReg), True →
    θ_run (FfnIdeal.defs (F := F)) (onTc (τ := FfnIdeal.τ) (FfnIdeal.main (F := F))) ⟨m, fun _ => 0, g⟩ (fun r => (∀ c : Dev FfnIdeal.nD,
      r.2.mem ((c.tc : Thread FfnIdeal.nD FfnIdeal.τ).loc FfnIdeal.main_arg0) = m ((c.tc : Thread FfnIdeal.nD FfnIdeal.τ).loc FfnIdeal.main_arg0)
      ∧ r.2.mem ((c.tc : Thread FfnIdeal.nD FfnIdeal.τ).loc FfnIdeal.main_arg1) = m ((c.tc : Thread FfnIdeal.nD FfnIdeal.τ).loc FfnIdeal.main_arg1)
      ∧ r.2.mem ((c.tc : Thread FfnIdeal.nD FfnIdeal.τ).loc FfnIdeal.main_arg2) = m ((c.tc : Thread FfnIdeal.nD FfnIdeal.τ).loc FfnIdeal.main_arg2)
      ∧ r.2.mem ((c.tc : Thread FfnIdeal.nD FfnIdeal.τ).loc FfnIdeal.main_arg3) = m ((c.tc : Thread FfnIdeal.nD FfnIdeal.τ).loc FfnIdeal.main_arg3)
      ∧ r.2.mem ((c.tc : Thread FfnIdeal.nD FfnIdeal.τ).loc FfnIdeal.main_arg4) = m ((c.tc : Thread FfnIdeal.nD FfnIdeal.τ).loc FfnIdeal.main_arg4))
      ∧ r.2.sem = fun _ => 0)

/-- That run, whatever the floats are. -/
theorem quiet_ffn {F : FTy → Type} [FloatOps F] : QuietFfn F := fun m ρ _ => Cert.FfnIdeal.Gen.frame m ρ

/-- The feed-forward kernel runs: its text is the idealized kernel's, so this is that run over machine floats. -/
theorem frame_p2 : Cert.quiescent_Ffn (hFfn := Cert.Ffn.Gen.facts) := by
  have e : QuietFfn Bits = Cert.quiescent_Ffn (hFfn := Cert.Ffn.Gen.facts) := by sl_kernel_rfl
  exact e.mp quiet_ffn

/-- The idealized feed-forward kernel runs. -/
theorem frame_pi2 : Cert.quiescent_FfnIdeal (hFfnIdeal := Cert.FfnIdeal.Gen.facts) := fun m ρ _ =>
  Cert.FfnIdeal.Gen.frame (F := Ideal) m ρ

/-- The feed-forward reference runs: it has no semaphore. -/
theorem frame_ri2 : Cert.quiescent_FfnReferenceIdeal (hFfnReferenceIdeal := Cert.FfnReferenceIdeal.Gen.facts) := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- What the idealized merge kernel's run leaves, over any floats. -/
def QuietMerge (F : FTy → Type) [FloatOps F] : Prop :=
  ∀ (m : (ℓ : Loc MergeIdeal.nD MergeIdeal.τ MergeIdeal.sig) → Buf (Elt F) ℓ) (g : Dev MergeIdeal.nD → PrngReg), True →
    θ_run (MergeIdeal.defs (F := F)) (onTc (τ := MergeIdeal.τ) (MergeIdeal.main (F := F))) ⟨m, fun _ => 0, g⟩ (fun r => (∀ c : Dev MergeIdeal.nD,
      r.2.mem ((c.tc : Thread MergeIdeal.nD MergeIdeal.τ).loc MergeIdeal.main_arg0) = m ((c.tc : Thread MergeIdeal.nD MergeIdeal.τ).loc MergeIdeal.main_arg0)
      ∧ r.2.mem ((c.tc : Thread MergeIdeal.nD MergeIdeal.τ).loc MergeIdeal.main_arg1) = m ((c.tc : Thread MergeIdeal.nD MergeIdeal.τ).loc MergeIdeal.main_arg1)
      ∧ r.2.mem ((c.tc : Thread MergeIdeal.nD MergeIdeal.τ).loc MergeIdeal.main_arg2) = m ((c.tc : Thread MergeIdeal.nD MergeIdeal.τ).loc MergeIdeal.main_arg2)
      ∧ r.2.mem ((c.tc : Thread MergeIdeal.nD MergeIdeal.τ).loc MergeIdeal.main_arg3) = m ((c.tc : Thread MergeIdeal.nD MergeIdeal.τ).loc MergeIdeal.main_arg3)
      ∧ r.2.mem ((c.tc : Thread MergeIdeal.nD MergeIdeal.τ).loc MergeIdeal.main_arg4) = m ((c.tc : Thread MergeIdeal.nD MergeIdeal.τ).loc MergeIdeal.main_arg4)
      ∧ r.2.mem ((c.tc : Thread MergeIdeal.nD MergeIdeal.τ).loc MergeIdeal.main_arg5) = m ((c.tc : Thread MergeIdeal.nD MergeIdeal.τ).loc MergeIdeal.main_arg5)
      ∧ r.2.mem ((c.tc : Thread MergeIdeal.nD MergeIdeal.τ).loc MergeIdeal.main_arg6) = m ((c.tc : Thread MergeIdeal.nD MergeIdeal.τ).loc MergeIdeal.main_arg6)
      ∧ r.2.mem ((c.tc : Thread MergeIdeal.nD MergeIdeal.τ).loc MergeIdeal.main_arg7) = m ((c.tc : Thread MergeIdeal.nD MergeIdeal.τ).loc MergeIdeal.main_arg7)
      ∧ r.2.mem ((c.tc : Thread MergeIdeal.nD MergeIdeal.τ).loc MergeIdeal.main_arg8) = m ((c.tc : Thread MergeIdeal.nD MergeIdeal.τ).loc MergeIdeal.main_arg8)
      ∧ r.2.mem ((c.tc : Thread MergeIdeal.nD MergeIdeal.τ).loc MergeIdeal.main_arg9) = m ((c.tc : Thread MergeIdeal.nD MergeIdeal.τ).loc MergeIdeal.main_arg9))
      ∧ r.2.sem = fun _ => 0)

/-- It is so. -/
theorem quiet_merge {F : FTy → Type} [FloatOps F] : QuietMerge F := fun m ρ _ => Cert.MergeIdeal.Gen.frame m ρ

/-- The merge kernel runs: its text is the idealized kernel's, so this is that run over machine floats. -/
theorem frame_p3 : Cert.quiescent_Merge (hMerge := Cert.Merge.Gen.facts) := by
  have e : QuietMerge Bits = Cert.quiescent_Merge (hMerge := Cert.Merge.Gen.facts) := by sl_kernel_rfl
  exact e.mp quiet_merge

/-- The idealized merge kernel runs. -/
theorem frame_pi3 : Cert.quiescent_MergeIdeal (hMergeIdeal := Cert.MergeIdeal.Gen.facts) := fun m ρ _ =>
  Cert.MergeIdeal.Gen.frame (F := Ideal) m ρ

/-- Its reference runs: it has no semaphore. -/
theorem frame_ri3 : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- What the idealized projection's kernel's run leaves, over any floats. -/
def QuietProj (F : FTy → Type) [FloatOps F] : Prop :=
  ∀ (m : (ℓ : Loc GatesIdeal.nD GatesIdeal.τ GatesIdeal.sig) → Buf (Elt F) ℓ) (g : Dev GatesIdeal.nD → PrngReg), True →
    θ_run (GatesIdeal.defs (F := F)) (onTc (τ := GatesIdeal.τ) (GatesIdeal.main (F := F))) ⟨m, fun _ => 0, g⟩ (fun r => (∀ c : Dev GatesIdeal.nD,
      r.2.mem ((c.tc : Thread GatesIdeal.nD GatesIdeal.τ).loc GatesIdeal.main_arg0) = m ((c.tc : Thread GatesIdeal.nD GatesIdeal.τ).loc GatesIdeal.main_arg0)
      ∧ r.2.mem ((c.tc : Thread GatesIdeal.nD GatesIdeal.τ).loc GatesIdeal.main_arg1) = m ((c.tc : Thread GatesIdeal.nD GatesIdeal.τ).loc GatesIdeal.main_arg1)
      ∧ r.2.mem ((c.tc : Thread GatesIdeal.nD GatesIdeal.τ).loc GatesIdeal.main_arg2) = m ((c.tc : Thread GatesIdeal.nD GatesIdeal.τ).loc GatesIdeal.main_arg2)
      ∧ r.2.mem ((c.tc : Thread GatesIdeal.nD GatesIdeal.τ).loc GatesIdeal.main_arg3) = m ((c.tc : Thread GatesIdeal.nD GatesIdeal.τ).loc GatesIdeal.main_arg3)
      ∧ r.2.mem ((c.tc : Thread GatesIdeal.nD GatesIdeal.τ).loc GatesIdeal.main_arg4) = m ((c.tc : Thread GatesIdeal.nD GatesIdeal.τ).loc GatesIdeal.main_arg4)
      ∧ r.2.mem ((c.tc : Thread GatesIdeal.nD GatesIdeal.τ).loc GatesIdeal.main_arg5) = m ((c.tc : Thread GatesIdeal.nD GatesIdeal.τ).loc GatesIdeal.main_arg5))
      ∧ r.2.sem = fun _ => 0)

/-- It is so. -/
theorem quiet_proj {F : FTy → Type} [FloatOps F] : QuietProj F := fun m ρ _ => Cert.GatesIdeal.Gen.frame m ρ

/-- The projection's kernel runs: its text is the idealized kernel's, so this is that run over machine floats. -/
theorem frame_p4 : Cert.quiescent_Gates (hGates := Cert.Gates.Gen.facts) := by
  have e : QuietProj Bits = Cert.quiescent_Gates (hGates := Cert.Gates.Gen.facts) := by sl_kernel_rfl
  exact e.mp quiet_proj

/-- The idealized projection's kernel runs. -/
theorem frame_pi4 : Cert.quiescent_GatesIdeal (hGatesIdeal := Cert.GatesIdeal.Gen.facts) := fun m ρ _ =>
  Cert.GatesIdeal.Gen.frame (F := Ideal) m ρ

/-- Its reference runs: it has no semaphore. -/
theorem frame_ri4 : Cert.quiescent_GatesReferenceIdeal (hGatesReferenceIdeal := Cert.GatesReferenceIdeal.Gen.facts) := fun m ρ _ =>
  (θ_run Cert.GatesReferenceIdeal.defs _ _).mono (fun r h => ⟨fun c => (h c).2.2, sem_eq_zero_of_no_sems (by decide) r.2⟩)
    (Cert.GatesReferenceIdeal.Value.run (F := Ideal) m ρ)

/-- All claims. -/
theorem claim : Cert.Claim := ⟨Cert.Kernel.Gen.facts, Cert.KernelIdeal.Gen.facts, Cert.ReferenceIdeal.Gen.facts, Cert.Ffn.Gen.facts,
  Cert.FfnIdeal.Gen.facts, Cert.FfnReferenceIdeal.Gen.facts, Cert.Merge.Gen.facts, Cert.MergeIdeal.Gen.facts,
  Cert.MergeReferenceIdeal.Gen.facts, Cert.Gates.Gen.facts, Cert.GatesIdeal.Gen.facts, Cert.GatesReferenceIdeal.Gen.facts,
  Cert.Pre_finite.Gen.facts,
  frame_p, frame_pi, fun m ρ _ => frame_pi m ρ trivial, frame_ri, fun m ρ _ => frame_ri m ρ trivial,
  frame_p2, frame_pi2, frame_ri2, frame_p3, frame_pi3, frame_ri3,
  frame_p4, frame_pi4, frame_ri4, trivial, algebraic, trivial, algebraic_ffn, trivial, algebraic_merge, trivial, algebraic_gates⟩

end Cert.Proof

end
